-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_above [hPre_above : Cert.Pre_above.Facts] (m : (ℓ : Loc Cert.KernelIdeal.nD Cert.KernelIdeal.τ Cert.KernelIdeal.sig) → Buf (Elt Ideal) ℓ) : Prop :=
  ∀ c : Dev Cert.KernelIdeal.nD,
    (Cert.Pre_above.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_above [hPre_above : Cert.Pre_above.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_above.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_above [hKernelIdeal : Cert.KernelIdeal.Facts] [hPre_above : Cert.Pre_above.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_above m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_above [hReferenceIdeal : Cert.ReferenceIdeal.Facts] [hPre_above : Cert.Pre_above.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_above m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_above [hKernelIdeal : Cert.KernelIdeal.Facts] [hReferenceIdeal : Cert.ReferenceIdeal.Facts] [hPre_above : Cert.Pre_above.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_above m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_above : Cert.Pre_above.Facts),
    quiescent_Kernel (hKernel := hKernel)
    ∧ quiescent_KernelIdeal (hKernelIdeal := hKernelIdeal)
    ∧ quiescent_KernelIdeal_pre_above (hKernelIdeal := hKernelIdeal) (hPre_above := hPre_above)
    ∧ quiescent_ReferenceIdeal (hReferenceIdeal := hReferenceIdeal)
    ∧ quiescent_ReferenceIdeal_pre_above (hReferenceIdeal := hReferenceIdeal) (hPre_above := hPre_above)
    ∧ preserves_Kernel_KernelIdeal
    ∧ algebraic_KernelIdeal_ReferenceIdeal_pre_above (hKernelIdeal := hKernelIdeal) (hReferenceIdeal := hReferenceIdeal) (hPre_above := hPre_above)
-- ==== Pre_above.lean ====
abbrev S128x32768 : Shape := ⟨2, ![128, 32768]⟩
abbrev S_ : Shape := ⟨0, ![]⟩

class Facts : Prop where
  bcast_S_S128x32768 : S_.BroadcastsInDim S128x32768 (![] : Fin 0 → Fin S128x32768.rank)
  reducesTo_S128x32768_S_d0_1 : S128x32768.ReducesTo [0, 1] S_
  h_S_ : 0 < S_.numel

variable [Facts]

def fn {F : FTy → Type} [FloatOps F] (main_arg0 : FVec F S128x32768 .f32) : IVec S_ 1 :=
  let main_cst : FVec F S_ .f32 := constant S_ .f32 0xFF800000#32
  let main_v0 : FVec F S128x32768 .f32 := broadcastInDim S128x32768 ![] bcast_S_S128x32768 main_cst
  let main_v1 : IVec S128x32768 1 := cmpf .ogt main_arg0 main_v0
  let main_c : IVec S_ 1 := constantI S_ 1 1#1
  let main_v2 : IVec S_ 1 := (fun x v => Host.reduce IntOp.andi x v reducesTo_S128x32768_S_d0_1 h_S_) main_v1 main_c
  main_v2
-- ==== Kernel.lean ====
abbrev S128x32768 : Shape := ⟨2, ![128, 32768]⟩
abbrev S64x16 : Shape := ⟨2, ![64, 16]⟩
abbrev S32768 : Shape := ⟨1, ![32768]⟩
abbrev S1024 : Shape := ⟨1, ![1024]⟩
abbrev S2x16 : Shape := ⟨2, ![2, 16]⟩
abbrev S_ : Shape := ⟨0, ![]⟩
abbrev S16 : Shape := ⟨1, ![16]⟩
abbrev S1x32768 : Shape := ⟨2, ![1, 32768]⟩
abbrev S8x2x1 : Shape := ⟨3, ![8, 2, 1]⟩
abbrev S8x1x1 : Shape := ⟨3, ![8, 1, 1]⟩
abbrev S4x2x2 : Shape := ⟨3, ![4, 2, 2]⟩
abbrev S4x1x2 : Shape := ⟨3, ![4, 1, 2]⟩
abbrev S2x2x4 : Shape := ⟨3, ![2, 2, 4]⟩
abbrev S2x1x4 : Shape := ⟨3, ![2, 1, 4]⟩
abbrev S1x2x8 : Shape := ⟨3, ![1, 2, 8]⟩
abbrev S1x1x8 : Shape := ⟨3, ![1, 1, 8]⟩
abbrev S1 : Shape := ⟨1, ![1]⟩
abbrev S1x16 : Shape := ⟨2, ![1, 16]⟩
abbrev S64x3 : Shape := ⟨2, ![64, 3]⟩
abbrev S64x8 : Shape := ⟨2, ![64, 8]⟩
abbrev S16x32768 : Shape := ⟨2, ![16, 32768]⟩
abbrev S16x8 : Shape := ⟨2, ![16, 8]⟩
abbrev S16x1 : Shape := ⟨2, ![16, 1]⟩
abbrev S128x3 : Shape := ⟨2, ![128, 3]⟩

abbrev nBuf : Table → Nat
  | .hbm => 11
  | .local .tc .vmem => 6
  | .local .scVector .vmem => 6
  | _ => 0

abbrev bufTy : (tb : Table) → Fin (nBuf tb) → BufTy
  | .hbm, ⟨0, _⟩ => ⟨S128x32768, .f32⟩
  | .hbm, ⟨1, _⟩ => ⟨S64x16, .f32⟩
  | .hbm, ⟨2, _⟩ => ⟨S64x16, .i32⟩
  | .hbm, ⟨3, _⟩ => ⟨S64x3, .f32⟩
  | .hbm, ⟨4, _⟩ => ⟨S64x3, .i32⟩
  | .hbm, ⟨5, _⟩ => ⟨S64x8, .f32⟩
  | .hbm, ⟨6, _⟩ => ⟨S64x8, .i32⟩
  | .hbm, ⟨7, _⟩ => ⟨S64x3, .f32⟩
  | .hbm, ⟨8, _⟩ => ⟨S64x3, .i32⟩
  | .hbm, ⟨9, _⟩ => ⟨S128x3, .f32⟩
  | .hbm, ⟨10, _⟩ => ⟨S128x3, .i32⟩
  | .local .tc .vmem, ⟨0, _⟩ => ⟨S16x32768, .f32⟩
  | .local .tc .vmem, ⟨1, _⟩ => ⟨S16x32768, .f32⟩
  | .local .tc .vmem, ⟨2, _⟩ => ⟨S16x8, .f32⟩
  | .local .tc .vmem, ⟨3, _⟩ => ⟨S16x8, .f32⟩
  | .local .tc .vmem, ⟨4, _⟩ => ⟨S16x8, .i32⟩
  | .local .tc .vmem, ⟨5, _⟩ => ⟨S16x8, .i32⟩
  | .local .scVector .vmem, ⟨0, _⟩ => ⟨S32768, .f32⟩
  | .local .scVector .vmem, ⟨1, _⟩ => ⟨S32768, .f32⟩
  | .local .scVector .vmem, ⟨2, _⟩ => ⟨S1024, .f32⟩
  | .local .scVector .vmem, ⟨3, _⟩ => ⟨S1024, .i32⟩
  | .local .scVector .vmem, ⟨4, _⟩ => ⟨S2x16, .f32⟩
  | .local .scVector .vmem, ⟨5, _⟩ => ⟨S2x16, .i32⟩
  | _, _ => ⟨S128x32768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_arg0_scv : Ref sig .scVector := ⟨.hbm, 0, rfl⟩
abbrev main_v0_0_scv : Ref sig .scVector := ⟨.hbm, 1, rfl⟩
abbrev main_v0_1_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c64_i32 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v6 : BitVec 32 := Scalar.addi c64_i32 v2
  let c0_i32_1 : BitVec 32 := 0#32
  ![v6.toNat, 0]
def k0_off2 (i : grid0.Coords) : Fin 2 → Nat :=
  let c64_i32_3 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v11 : BitVec 32 := Scalar.addi c64_i32_3 v2
  let c1_i32 : BitVec 32 := 1#32
  let v12 : BitVec 32 := Scalar.addi v11 c1_i32
  let c0_i32_4 : BitVec 32 := 0#32
  ![v12.toNat, 0]
@[reducible] def k0_t1_loop : Scf.Loop 32 :=
  let c0_i32_9 : BitVec 32 := 0#32
  let c64_i32_10 : BitVec 32 := 64#32
  let v21 : BitVec 32 := Scalar.addi c0_i32_9 c64_i32_10
  let c1_i32_11 : BitVec 32 := 1#32
  ⟨c0_i32_9, v21, c1_i32_11⟩
def k0_off3 (k0_t1 : Fin k0_t1_loop.trips) (c0_i32_85 : BitVec 32) : Fin 1 → Nat :=
  let c0_i32_9 : BitVec 32 := 0#32
  let c1_i32_11 : BitVec 32 := 1#32
  let arg13 : BitVec 32 := Scf.iv c0_i32_9 c1_i32_11 k0_t1
  let c512_i32_84 : BitVec 32 := 512#32
  let v1324 : BitVec 32 := Scalar.muli arg13 c512_i32_84
  let v1325 : BitVec 32 := Scalar.addi v1324 c0_i32_85
  let v1326 : Index := Scalar.indexCast v1325
  ![v1326.toNat]
def k0_off4 (k0_t1 : Fin k0_t1_loop.trips) : Fin 1 → Nat :=
  let c0_i32_9 : BitVec 32 := 0#32
  let c1_i32_11 : BitVec 32 := 1#32
  let arg13 : BitVec 32 := Scf.iv c0_i32_9 c1_i32_11 k0_t1
  let c16_i32_151 : BitVec 32 := 16#32
  let v1644 : BitVec 32 := Scalar.muli arg13 c16_i32_151
  let v1645 : Index := Scalar.indexCast v1644
  ![v1645.toNat]
@[reducible] def k0_t2_loop : Scf.Loop 32 :=
  let c0_i32_13 : BitVec 32 := 0#32
  let c16_i32 : BitVec 32 := 16#32
  let v22 : BitVec 32 := Scalar.addi c0_i32_13 c16_i32
  let c1_i32_14 : BitVec 32 := 1#32
  ⟨c0_i32_13, v22, c1_i32_14⟩
def k0_off5 (k0_t2 : Fin k0_t2_loop.trips) (c0_i32_84 : BitVec 32) : Fin 1 → Nat :=
  let c0_i32_13 : BitVec 32 := 0#32
  let c1_i32_14 : BitVec 32 := 1#32
  let arg13 : BitVec 32 := Scf.iv c0_i32_13 c1_i32_14 k0_t2
  let c4_i32_83 : BitVec 32 := 4#32
  let v1321 : BitVec 32 := Scalar.muli arg13 c4_i32_83
  let v1322 : BitVec 32 := Scalar.addi v1321 c0_i32_84
  let c16_i32_85 : BitVec 32 := 16#32
  let v1323 : BitVec 32 := Scalar.muli v1322 c16_i32_85
  let v1324 : Index := Scalar.indexCast v1323
  ![v1324.toNat]
@[reducible] def k0_t3_loop : Scf.Loop 32 :=
  let c0_i32_18 : BitVec 32 := 0#32
  let c8_i32 : BitVec 32 := 8#32
  let v337 : BitVec 32 := Scalar.addi c0_i32_18 c8_i32
  let c1_i32_19 : BitVec 32 := 1#32
  ⟨c0_i32_18, v337, c1_i32_19⟩
def k0_off6 (v333 : BitVec 32) (k0_t3 : Fin k0_t3_loop.trips) (c0_i32_84 : BitVec 32) : Fin 1 → Nat :=
  let c512_i32 : BitVec 32 := 512#32
  let v334 : BitVec 32 := Scalar.muli v333 c512_i32
  let c0_i32_18 : BitVec 32 := 0#32
  let c1_i32_19 : BitVec 32 := 1#32
  let arg13 : BitVec 32 := Scf.iv c0_i32_18 c1_i32_19 k0_t3
  let c4_i32_83 : BitVec 32 := 4#32
  let v1321 : BitVec 32 := Scalar.muli arg13 c4_i32_83
  let v1322 : BitVec 32 := Scalar.addi v1321 c0_i32_84
  let c16_i32_85 : BitVec 32 := 16#32
  let v1323 : BitVec 32 := Scalar.muli v1322 c16_i32_85
  let v1324 : BitVec 32 := Scalar.addi v334 v1323
  let v1325 : Index := Scalar.indexCast v1324
  ![v1325.toNat]

def k0_chk1 (v333 : BitVec 32) : Prop :=
  (∀ k0_t3 : Fin k0_t3_loop.trips, ∀ (r : Fin 4), ∀ a, (k0_off6 v333 k0_t3 (BitVec.ofNat 32 r.val)) a + S16.size a ≤ S32768.size a)
theorem k0_off6_inb : ∀ (v333 : BitVec 32) (k0_hw1 : k0_chk1 v333) (k0_t3 : Fin k0_t3_loop.trips), ∀ (r : Fin 4), ∀ a, (k0_off6 v333 k0_t3 (BitVec.ofNat 32 r.val)) a + S16.size a ≤ S32768.size a := fun v333 k0_hw1 k0_t3 r => k0_hw1 k0_t3 r

@[reducible] def k0_t4_loop : Scf.Loop 32 :=
  let c0_i32_22 : BitVec 32 := 0#32
  let c8_i32_23 : BitVec 32 := 8#32
  let v344 : BitVec 32 := Scalar.addi c0_i32_22 c8_i32_23
  let c1_i32_24 : BitVec 32 := 1#32
  ⟨c0_i32_22, v344, c1_i32_24⟩
def k0_off7 (v340 : BitVec 32) (k0_t4 : Fin k0_t4_loop.trips) (c0_i32_84 : BitVec 32) : Fin 1 → Nat :=
  let c512_i32_21 : BitVec 32 := 512#32
  let v341 : BitVec 32 := Scalar.muli v340 c512_i32_21
  let c0_i32_22 : BitVec 32 := 0#32
  let c1_i32_24 : BitVec 32 := 1#32
  let arg13 : BitVec 32 := Scf.iv c0_i32_22 c1_i32_24 k0_t4
  let c4_i32_83 : BitVec 32 := 4#32
  let v1321 : BitVec 32 := Scalar.muli arg13 c4_i32_83
  let v1322 : BitVec 32 := Scalar.addi v1321 c0_i32_84
  let c16_i32_85 : BitVec 32 := 16#32
  let v1323 : BitVec 32 := Scalar.muli v1322 c16_i32_85
  let v1324 : BitVec 32 := Scalar.addi v341 v1323
  let v1325 : Index := Scalar.indexCast v1324
  ![v1325.toNat]

def k0_chk2 (v340 : BitVec 32) : Prop :=
  (∀ k0_t4 : Fin k0_t4_loop.trips, ∀ (r : Fin 4), ∀ a, (k0_off7 v340 k0_t4 (BitVec.ofNat 32 r.val)) a + S16.size a ≤ S32768.size a)
theorem k0_off7_inb : ∀ (v340 : BitVec 32) (k0_hw2 : k0_chk2 v340) (k0_t4 : Fin k0_t4_loop.trips), ∀ (r : Fin 4), ∀ a, (k0_off7 v340 k0_t4 (BitVec.ofNat 32 r.val)) a + S16.size a ≤ S32768.size a := fun v340 k0_hw2 k0_t4 r => k0_hw2 k0_t4 r

@[reducible] def k0_t5_loop : Scf.Loop 32 :=
  let c0_i32_27 : BitVec 32 := 0#32
  let c8_i32_28 : BitVec 32 := 8#32
  let v351 : BitVec 32 := Scalar.addi c0_i32_27 c8_i32_28
  let c1_i32_29 : BitVec 32 := 1#32
  ⟨c0_i32_27, v351, c1_i32_29⟩
def k0_off8 (v347 : BitVec 32) (k0_t5 : Fin k0_t5_loop.trips) (c0_i32_84 : BitVec 32) : Fin 1 → Nat :=
  let c512_i32_26 : BitVec 32 := 512#32
  let v348 : BitVec 32 := Scalar.muli v347 c512_i32_26
  let c0_i32_27 : BitVec 32 := 0#32
  let c1_i32_29 : BitVec 32 := 1#32
  let arg13 : BitVec 32 := Scf.iv c0_i32_27 c1_i32_29 k0_t5
  let c4_i32_83 : BitVec 32 := 4#32
  let v1321 : BitVec 32 := Scalar.muli arg13 c4_i32_83
  let v1322 : BitVec 32 := Scalar.addi v1321 c0_i32_84
  let c16_i32_85 : BitVec 32 := 16#32
  let v1323 : BitVec 32 := Scalar.muli v1322 c16_i32_85
  let v1324 : BitVec 32 := Scalar.addi v348 v1323
  let v1325 : Index := Scalar.indexCast v1324
  ![v1325.toNat]

def k0_chk3 (v347 : BitVec 32) : Prop :=
  (∀ k0_t5 : Fin k0_t5_loop.trips, ∀ (r : Fin 4), ∀ a, (k0_off8 v347 k0_t5 (BitVec.ofNat 32 r.val)) a + S16.size a ≤ S32768.size a)
theorem k0_off8_inb : ∀ (v347 : BitVec 32) (k0_hw3 : k0_chk3 v347) (k0_t5 : Fin k0_t5_loop.trips), ∀ (r : Fin 4), ∀ a, (k0_off8 v347 k0_t5 (BitVec.ofNat 32 r.val)) a + S16.size a ≤ S32768.size a := fun v347 k0_hw3 k0_t5 r => k0_hw3 k0_t5 r

def k0_off9 (i : grid0.Coords) : Fin 2 → Nat :=
  let c64_i32_3 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v11 : BitVec 32 := Scalar.addi c64_i32_3 v2
  let c1_i32 : BitVec 32 := 1#32
  let v12 : BitVec 32 := Scalar.addi v11 c1_i32
  let c0_i32_42 : BitVec 32 := 0#32
  ![v12.toNat, 0]
@[reducible] def k0_t6_loop : Scf.Loop 32 :=
  let c0_i32_45 : BitVec 32 := 0#32
  let c64_i32_46 : BitVec 32 := 64#32
  let v673 : BitVec 32 := Scalar.addi c0_i32_45 c64_i32_46
  let c1_i32_47 : BitVec 32 := 1#32
  ⟨c0_i32_45, v673, c1_i32_47⟩
def k0_off10 (k0_t6 : Fin k0_t6_loop.trips) (c0_i32_85 : BitVec 32) : Fin 1 → Nat :=
  let c0_i32_45 : BitVec 32 := 0#32
  let c1_i32_47 : BitVec 32 := 1#32
  let arg13 : BitVec 32 := Scf.iv c0_i32_45 c1_i32_47 k0_t6
  let c512_i32_84 : BitVec 32 := 512#32
  let v1324 : BitVec 32 := Scalar.muli arg13 c512_i32_84
  let v1325 : BitVec 32 := Scalar.addi v1324 c0_i32_85
  let v1326 : Index := Scalar.indexCast v1325
  ![v1326.toNat]
def k0_off11 (k0_t6 : Fin k0_t6_loop.trips) : Fin 1 → Nat :=
  let c0_i32_45 : BitVec 32 := 0#32
  let c1_i32_47 : BitVec 32 := 1#32
  let arg13 : BitVec 32 := Scf.iv c0_i32_45 c1_i32_47 k0_t6
  let c16_i32_151 : BitVec 32 := 16#32
  let v1644 : BitVec 32 := Scalar.muli arg13 c16_i32_151
  let v1645 : Index := Scalar.indexCast v1644
  ![v1645.toNat]
@[reducible] def k0_t7_loop : Scf.Loop 32 :=
  let c0_i32_49 : BitVec 32 := 0#32
  let c16_i32_50 : BitVec 32 := 16#32
  let v674 : BitVec 32 := Scalar.addi c0_i32_49 c16_i32_50
  let c1_i32_51 : BitVec 32 := 1#32
  ⟨c0_i32_49, v674, c1_i32_51⟩
def k0_off12 (k0_t7 : Fin k0_t7_loop.trips) (c0_i32_84 : BitVec 32) : Fin 1 → Nat :=
  let c0_i32_49 : BitVec 32 := 0#32
  let c1_i32_51 : BitVec 32 := 1#32
  let arg13 : BitVec 32 := Scf.iv c0_i32_49 c1_i32_51 k0_t7
  let c4_i32_83 : BitVec 32 := 4#32
  let v1321 : BitVec 32 := Scalar.muli arg13 c4_i32_83
  let v1322 : BitVec 32 := Scalar.addi v1321 c0_i32_84
  let c16_i32_85 : BitVec 32 := 16#32
  let v1323 : BitVec 32 := Scalar.muli v1322 c16_i32_85
  let v1324 : Index := Scalar.indexCast v1323
  ![v1324.toNat]
@[reducible] def k0_t8_loop : Scf.Loop 32 :=
  let c0_i32_57 : BitVec 32 := 0#32
  let c8_i32_58 : BitVec 32 := 8#32
  let v989 : BitVec 32 := Scalar.addi c0_i32_57 c8_i32_58
  let c1_i32_59 : BitVec 32 := 1#32
  ⟨c0_i32_57, v989, c1_i32_59⟩
def k0_off13 (v985 : BitVec 32) (k0_t8 : Fin k0_t8_loop.trips) (c0_i32_84 : BitVec 32) : Fin 1 → Nat :=
  let c512_i32_56 : BitVec 32 := 512#32
  let v986 : BitVec 32 := Scalar.muli v985 c512_i32_56
  let c0_i32_57 : BitVec 32 := 0#32
  let c1_i32_59 : BitVec 32 := 1#32
  let arg13 : BitVec 32 := Scf.iv c0_i32_57 c1_i32_59 k0_t8
  let c4_i32_83 : BitVec 32 := 4#32
  let v1321 : BitVec 32 := Scalar.muli arg13 c4_i32_83
  let v1322 : BitVec 32 := Scalar.addi v1321 c0_i32_84
  let c16_i32_85 : BitVec 32 := 16#32
  let v1323 : BitVec 32 := Scalar.muli v1322 c16_i32_85
  let v1324 : BitVec 32 := Scalar.addi v986 v1323
  let v1325 : Index := Scalar.indexCast v1324
  ![v1325.toNat]

def k0_chk4 (v985 : BitVec 32) : Prop :=
  (∀ k0_t8 : Fin k0_t8_loop.trips, ∀ (r : Fin 4), ∀ a, (k0_off13 v985 k0_t8 (BitVec.ofNat 32 r.val)) a + S16.size a ≤ S32768.size a)
theorem k0_off13_inb : ∀ (v985 : BitVec 32) (k0_hw4 : k0_chk4 v985) (k0_t8 : Fin k0_t8_loop.trips), ∀ (r : Fin 4), ∀ a, (k0_off13 v985 k0_t8 (BitVec.ofNat 32 r.val)) a + S16.size a ≤ S32768.size a := fun v985 k0_hw4 k0_t8 r => k0_hw4 k0_t8 r

@[reducible] def k0_t9_loop : Scf.Loop 32 :=
  let c0_i32_62 : BitVec 32 := 0#32
  let c8_i32_63 : BitVec 32 := 8#32
  let v996 : BitVec 32 := Scalar.addi c0_i32_62 c8_i32_63
  let c1_i32_64 : BitVec 32 := 1#32
  ⟨c0_i32_62, v996, c1_i32_64⟩
def k0_off14 (v992 : BitVec 32) (k0_t9 : Fin k0_t9_loop.trips) (c0_i32_84 : BitVec 32) : Fin 1 → Nat :=
  let c512_i32_61 : BitVec 32 := 512#32
  let v993 : BitVec 32 := Scalar.muli v992 c512_i32_61
  let c0_i32_62 : BitVec 32 := 0#32
  let c1_i32_64 : BitVec 32 := 1#32
  let arg13 : BitVec 32 := Scf.iv c0_i32_62 c1_i32_64 k0_t9
  let c4_i32_83 : BitVec 32 := 4#32
  let v1321 : BitVec 32 := Scalar.muli arg13 c4_i32_83
  let v1322 : BitVec 32 := Scalar.addi v1321 c0_i32_84
  let c16_i32_85 : BitVec 32 := 16#32
  let v1323 : BitVec 32 := Scalar.muli v1322 c16_i32_85
  let v1324 : BitVec 32 := Scalar.addi v993 v1323
  let v1325 : Index := Scalar.indexCast v1324
  ![v1325.toNat]

def k0_chk5 (v992 : BitVec 32) : Prop :=
  (∀ k0_t9 : Fin k0_t9_loop.trips, ∀ (r : Fin 4), ∀ a, (k0_off14 v992 k0_t9 (BitVec.ofNat 32 r.val)) a + S16.size a ≤ S32768.size a)
theorem k0_off14_inb : ∀ (v992 : BitVec 32) (k0_hw5 : k0_chk5 v992) (k0_t9 : Fin k0_t9_loop.trips), ∀ (r : Fin 4), ∀ a, (k0_off14 v992 k0_t9 (BitVec.ofNat 32 r.val)) a + S16.size a ≤ S32768.size a := fun v992 k0_hw5 k0_t9 r => k0_hw5 k0_t9 r

@[reducible] def k0_t10_loop : Scf.Loop 32 :=
  let c0_i32_67 : BitVec 32 := 0#32
  let c8_i32_68 : BitVec 32 := 8#32
  let v1003 : BitVec 32 := Scalar.addi c0_i32_67 c8_i32_68
  let c1_i32_69 : BitVec 32 := 1#32
  ⟨c0_i32_67, v1003, c1_i32_69⟩
def k0_off15 (v999 : BitVec 32) (k0_t10 : Fin k0_t10_loop.trips) (c0_i32_84 : BitVec 32) : Fin 1 → Nat :=
  let c512_i32_66 : BitVec 32 := 512#32
  let v1000 : BitVec 32 := Scalar.muli v999 c512_i32_66
  let c0_i32_67 : BitVec 32 := 0#32
  let c1_i32_69 : BitVec 32 := 1#32
  let arg13 : BitVec 32 := Scf.iv c0_i32_67 c1_i32_69 k0_t10
  let c4_i32_83 : BitVec 32 := 4#32
  let v1321 : BitVec 32 := Scalar.muli arg13 c4_i32_83
  let v1322 : BitVec 32 := Scalar.addi v1321 c0_i32_84
  let c16_i32_85 : BitVec 32 := 16#32
  let v1323 : BitVec 32 := Scalar.muli v1322 c16_i32_85
  let v1324 : BitVec 32 := Scalar.addi v1000 v1323
  let v1325 : Index := Scalar.indexCast v1324
  ![v1325.toNat]

def k0_chk6 (v999 : BitVec 32) : Prop :=
  (∀ k0_t10 : Fin k0_t10_loop.trips, ∀ (r : Fin 4), ∀ a, (k0_off15 v999 k0_t10 (BitVec.ofNat 32 r.val)) a + S16.size a ≤ S32768.size a)
theorem k0_off15_inb : ∀ (v999 : BitVec 32) (k0_hw6 : k0_chk6 v999) (k0_t10 : Fin k0_t10_loop.trips), ∀ (r : Fin 4), ∀ a, (k0_off15 v999 k0_t10 (BitVec.ofNat 32 r.val)) a + S16.size a ≤ S32768.size a := fun v999 k0_hw6 k0_t10 r => k0_hw6 k0_t10 r

def k0_off16 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_83_r0 : BitVec 32 := 0#32
  ![v2.toNat, 0]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x32768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x8 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x32768 : Shape := ⟨2, ![128, 32768]⟩
abbrev S128x3 : Shape := ⟨2, ![128, 3]⟩

abbrev nBuf : Space → Nat
  | .hbm => 3
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x3, .f32⟩
  | .hbm, ⟨2, _⟩ => ⟨S128x3, .i32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩

abbrev nD : Nat := 1
abbrev τ : Topo := Topo.v7x

variable {F : FTy → Type} [FloatOps F]
-- ==== Proof.Clean.lean ====
module

public import proofs.«01_k».proof.Defs
public import proofs.«01_k».proof.Proof.Gen.KernelIdeal

/-! The SparseCore body of the kernel, written again with named steps: one program for a row, run twice. -/

@[expose] public section

namespace Cert.Proof

open Cert.KernelIdeal Cert.KernelIdeal.Gen Idealize.ShloMosaic Idealize.SL.Sem

variable {F : FTy → Type} [FloatOps F]

/-! ## Exchanging lanes -/

section Swap
variable {α : Type}

/-- Lane `i` takes the value of lane `i xor 1`. -/
def swap1 (v : S16.Idx → α) : S16.Idx → α :=
  shapeCast S16 (concatenate S8x2x1 1
    [⟨S8x1x1, extractStridedSlice S8x1x1 ![0, 1, 0] (shapeCast S8x2x1 v shapeCasts_S16_S8x2x1) slices_S8x2x1_o0_1_0_S8x1x1⟩,
     ⟨S8x1x1, extractStridedSlice S8x1x1 ![0, 0, 0] (shapeCast S8x2x1 v shapeCasts_S16_S8x2x1) slices_S8x2x1_o0_0_0_S8x1x1⟩]
    concatenates_S8x1x1_S8x1x1_S8x2x1_d1) shapeCasts_S8x2x1_S16

/-- Lane `i` takes the value of lane `i xor 2`. -/
def swap2 (v : S16.Idx → α) : S16.Idx → α :=
  shapeCast S16 (concatenate S4x2x2 1
    [⟨S4x1x2, extractStridedSlice S4x1x2 ![0, 1, 0] (shapeCast S4x2x2 v shapeCasts_S16_S4x2x2) slices_S4x2x2_o0_1_0_S4x1x2⟩,
     ⟨S4x1x2, extractStridedSlice S4x1x2 ![0, 0, 0] (shapeCast S4x2x2 v shapeCasts_S16_S4x2x2) slices_S4x2x2_o0_0_0_S4x1x2⟩]
    concatenates_S4x1x2_S4x1x2_S4x2x2_d1) shapeCasts_S4x2x2_S16

/-- Lane `i` takes the value of lane `i xor 4`. -/
def swap4 (v : S16.Idx → α) : S16.Idx → α :=
  shapeCast S16 (concatenate S2x2x4 1
    [⟨S2x1x4, extractStridedSlice S2x1x4 ![0, 1, 0] (shapeCast S2x2x4 v shapeCasts_S16_S2x2x4) slices_S2x2x4_o0_1_0_S2x1x4⟩,
     ⟨S2x1x4, extractStridedSlice S2x1x4 ![0, 0, 0] (shapeCast S2x2x4 v shapeCasts_S16_S2x2x4) slices_S2x2x4_o0_0_0_S2x1x4⟩]
    concatenates_S2x1x4_S2x1x4_S2x2x4_d1) shapeCasts_S2x2x4_S16

/-- Lane `i` takes the value of lane `i xor 8`. -/
def swap8 (v : S16.Idx → α) : S16.Idx → α :=
  shapeCast S16 (concatenate S1x2x8 1
    [⟨S1x1x8, extractStridedSlice S1x1x8 ![0, 1, 0] (shapeCast S1x2x8 v shapeCasts_S16_S1x2x8) slices_S1x2x8_o0_1_0_S1x1x8⟩,
     ⟨S1x1x8, extractStridedSlice S1x1x8 ![0, 0, 0] (shapeCast S1x2x8 v shapeCasts_S16_S1x2x8) slices_S1x2x8_o0_0_0_S1x1x8⟩]
    concatenates_S1x1x8_S1x1x8_S1x2x8_d1) shapeCasts_S1x2x8_S16

end Swap

/-! ## The constants -/

/-- The lanes' numbers. -/
def lanes : IVec S16 32 := iota .scVector S16 32 [0] iota_S16_d0_w32_scVector
/-- Minus infinity in every lane. -/
def negv : FVec F S16 .f32 := broadcast S16 (Scalar.ofBits .f32 0xFF800000#32)
/-- Zero words. -/
def zerov : IVec S16 32 := broadcast S16 0#32
/-- Zero floats. -/
def fzerov : FVec F S16 .f32 := broadcast S16 (Scalar.ofBits .f32 0#32)

/-! ## Popping the best of 16 lanes -/

/-- A lane's candidate: its value, its index, and the place it came from. -/
abbrev Cand (F : FTy → Type) : Type := FVec F S16 .f32 × IVec S16 32 × IVec S16 32

/-- Whether the other candidate comes before. -/
def better (ot : FVec F S16 .f32) (oi : IVec S16 32) (t : FVec F S16 .f32) (i : IVec S16 32) : IVec S16 1 :=
  ori (cmpf .ogt ot t) (andi (cmpf .oeq ot t) (cmpi .slt oi i))

/-- The better of two candidates, lane by lane. -/
def meet (o c : Cand F) : Cand F :=
  (select (better o.1 o.2.1 c.1 c.2.1) o.1 c.1, select (better o.1 o.2.1 c.1 c.2.1) o.2.1 c.2.1,
    select (better o.1 o.2.1 c.1 c.2.1) o.2.2 c.2.2)

/-- The best candidate of the lanes that differ in the lowest bit, then in the lowest two, and so on. -/
def pop1 (c : Cand F) : Cand F := meet (swap1 c.1, swap1 c.2.1, swap1 c.2.2) c
/-- As `pop1`, over the second bit. -/
def pop2 (c : Cand F) : Cand F := meet (swap2 c.1, swap2 c.2.1, swap2 c.2.2) c
/-- As `pop1`, over the third bit. -/
def pop4 (c : Cand F) : Cand F := meet (swap4 c.1, swap4 c.2.1, swap4 c.2.2) c
/-- As `pop1`, over the fourth bit. -/
def pop8 (c : Cand F) : Cand F := meet (swap8 c.1, swap8 c.2.1, swap8 c.2.2) c
/-- The best candidate of all the lanes, in every lane. -/
def best (c : Cand F) : Cand F := pop8 (pop4 (pop2 (pop1 c)))

/-- Three sorted candidates of every lane. -/
structure Tri (F : FTy → Type) where
  t1 : FVec F S16 .f32
  t2 : FVec F S16 .f32
  t3 : FVec F S16 .f32
  i1 : IVec S16 32
  i2 : IVec S16 32
  i3 : IVec S16 32
  p1 : IVec S16 32
  p2 : IVec S16 32
  p3 : IVec S16 32

/-- The best of the lanes' first candidates. -/
def Tri.top (x : Tri F) : Cand F := best (x.t1, x.i1, x.p1)

/-- The lanes whose first candidate has the index given take up their second. -/
def Tri.popBy (x : Tri F) (b : IVec S16 32) : Tri F :=
  { t1 := select (cmpi .eq x.i1 b) x.t2 x.t1, t2 := select (cmpi .eq x.i1 b) x.t3 x.t2,
    t3 := select (cmpi .eq x.i1 b) negv x.t3,
    i1 := select (cmpi .eq x.i1 b) x.i2 x.i1, i2 := select (cmpi .eq x.i1 b) x.i3 x.i2, i3 := x.i3,
    p1 := select (cmpi .eq x.i1 b) x.p2 x.p1, p2 := select (cmpi .eq x.i1 b) x.p3 x.p2, p3 := x.p3 }

/-- The candidates once the best is taken away. -/
def Tri.pop (x : Tri F) : Tri F := x.popBy x.top.2.1

/-- The best of the lanes' first candidates, places left out. -/
def Tri.top0 (x : Tri F) : Cand F := best (x.t1, x.i1, zerov)

/-- The candidates once the best is taken away, places left out. -/
def Tri.pop0 (x : Tri F) : Tri F := x.popBy x.top0.2.1

/-! ## Inserting a value into the three best of a lane -/

/-- The first of three after an insertion. -/
def ins1 {α : Type} (m1 : IVec S16 1) (v a1 : S16.Idx → α) : S16.Idx → α := select m1 v a1
/-- The second of three after an insertion. -/
def ins2 {α : Type} (m1 m2 : IVec S16 1) (v a1 a2 : S16.Idx → α) : S16.Idx → α := select m1 a1 (select m2 v a2)
/-- The third of three after an insertion. -/
def ins3 {α : Type} (m2 m3 : IVec S16 1) (v a2 a3 : S16.Idx → α) : S16.Idx → α := select m2 a2 (select m3 v a3)

/-- Inserts a candidate into the three best of every lane, under the three comparisons given. -/
def Tri.ins (x : Tri F) (m1 m2 m3 : IVec S16 1) (c : Cand F) : Tri F :=
  { t1 := ins1 m1 c.1 x.t1, t2 := ins2 m1 m2 c.1 x.t1 x.t2, t3 := ins3 m2 m3 c.1 x.t2 x.t3,
    i1 := ins1 m1 c.2.1 x.i1, i2 := ins2 m1 m2 c.2.1 x.i1 x.i2, i3 := ins3 m2 m3 c.2.1 x.i2 x.i3,
    p1 := ins1 m1 c.2.2 x.p1, p2 := ins2 m1 m2 c.2.2 x.p1 x.p2, p3 := ins3 m2 m3 c.2.2 x.p2 x.p3 }

/-- Inserts a candidate. -/
def Tri.insert (x : Tri F) (c : Cand F) : Tri F :=
  x.ins (cmpf .ogt c.1 x.t1) (cmpf .ogt c.1 x.t2) (cmpf .ogt c.1 x.t3) c

/-- No candidates. -/
def Tri.none : Tri F := ⟨negv, negv, negv, zerov, zerov, zerov, zerov, zerov, zerov⟩

/-! ## The programs -/

section Programs
variable (i : grid0.Coords)

/-- A program of the tile with coordinates `i`. -/
abbrev TP (F : FTy → Type) (i : grid0.Coords) (α : Type) : Type 1 :=
  Prog (TpuEff nD τ sig (Elt F) Λ₀ (.scVector ((i 0).castLE hcore0) ((i 1).castLE hsub0))) α

variable (row : Memref sig .scVector .vmem S32768 .f32) (sv : Memref sig .scVector .vmem S1024 .f32)
  (si : Memref sig .scVector .vmem S1024 .i32)

/-- A lane's running maximum, its index, and the next index. -/
abbrev Run (F : FTy → Type) : Type := FVec F S16 .f32 × IVec S16 32 × IVec S16 32

/-- One more vector in the running maximum. -/
def Run.step (a : Run F) (v : FVec F S16 .f32) : Run F :=
  (select (cmpf .ogt v a.1) v a.1, select (cmpf .ogt v a.1) a.2.2 a.2.1, addi a.2.2 (broadcast S16 16#32))

/-- Reads the `j`th vector of a block of the row. -/
def ld (b : Fin k0_t1_loop.trips) (j : Nat) (h : j < 32) : TP F i (Vec F S16 .f32) :=
  Prog.lift (.load row (Rect.unit (s := S32768) (k0_off3 b (BitVec.ofNat 32 (16 * j))) S16.size (k0_off3_inb b ⟨j, h⟩)).toLoadRect (View.loadsAt_vmem h_S16))

/-- A vector read, as a vector of floats. -/
def asV (v : Vec F S16 .f32) : FVec F S16 .f32 := shapeCast S16 v shapeCasts_S16_S16

/-- `n` vectors of a block of the row, from the `j`th on. -/
def blockGo (b : Fin k0_t1_loop.trips) (j : Nat) : (n : Nat) → j + n ≤ 32 → Run F → TP F i (Run F)
  | 0, _, a => pure a
  | n + 1, h, a => do
    let a ← blockGo b j n (Nat.le_of_succ_le h) a
    let v ← ld i row b (j + n) h
    pure (a.step (asV v))

/-- The number a loop counts, as a word. -/
def cnt (n : Nat) : BitVec 32 := Scf.iv 0#32 1#32 n

/-- A block of the row: its lanes' maxima and where they are. -/
def blockBody (b : Fin k0_t1_loop.trips) : TP F i PUnit := do
  let a ← blockGo i row b 0 32 (le_refl _) (negv, zerov, addi lanes (broadcast S16 (Scalar.muli (cnt b) 512#32)))
  let _v : Vec F S16 .f32 ← Prog.lift (.load sv (Rect.unit (s := S1024) (k0_off4 b) S16.size (k0_off4_inb b)).toLoadRect (View.loadsAt_vmem h_S16))
  Prog.lift (.store sv (Rect.unit (s := S1024) (k0_off4 b) S16.size (k0_off4_inb b)) (shapeCast S16 a.1 shapeCasts_S16_S16) Finset.univ (View.stores_vmem_bits_univ h_S16 rfl) (.inl rfl))
  let _v : Vec F S16 .i32 ← Prog.lift (.load si (Rect.unit (s := S1024) (k0_off4 b) S16.size (k0_off4_inb b)).toLoadRect (View.loadsAt_vmem h_S16))
  Prog.lift (.store si (Rect.unit (s := S1024) (k0_off4 b) S16.size (k0_off4_inb b)) (shapeCast S16 a.2.1 shapeCasts_S16_S16) Finset.univ (View.stores_vmem_bits_univ h_S16 rfl) (.inl rfl))
  pure ⟨⟩

/-- The nine vectors a loop carries. -/
abbrev Nine (F : FTy → Type) : Type :=
  FVec F S16 .f32 × FVec F S16 .f32 × FVec F S16 .f32 × IVec S16 32 × IVec S16 32 × IVec S16 32 ×
    IVec S16 32 × IVec S16 32 × IVec S16 32

/-- A lane's candidates as the nine vectors. -/
def Tri.tup (x : Tri F) : Nine F := (x.t1, x.t2, x.t3, x.i1, x.i2, x.i3, x.p1, x.p2, x.p3)

/-- The nine vectors as candidates. -/
def tri (a : Nine F) : Tri F :=
  ⟨a.1, a.2.1, a.2.2.1, a.2.2.2.1, a.2.2.2.2.1, a.2.2.2.2.2.1, a.2.2.2.2.2.2.1, a.2.2.2.2.2.2.2.1, a.2.2.2.2.2.2.2.2⟩

/-- The first `n` of the four columns of one trip over the block maxima. -/
def sumGo (k : Fin k0_t2_loop.trips) : (n : Nat) → n ≤ 4 → Tri F → TP F i (Tri F)
  | 0, _, x => pure x
  | n + 1, h, x => do
    let x ← sumGo k n (Nat.le_of_succ_le h) x
    let v : Vec F S16 .f32 ← Prog.lift (.load sv (Rect.unit (s := S1024) (k0_off5 k (BitVec.ofNat 32 n)) S16.size (k0_off5_inb k ⟨n, h⟩)).toLoadRect (View.loadsAt_vmem h_S16))
    let r : Vec F S16 .i32 ← Prog.lift (.load si (Rect.unit (s := S1024) (k0_off5 k (BitVec.ofNat 32 n)) S16.size (k0_off5_inb k ⟨n, h⟩)).toLoadRect (View.loadsAt_vmem h_S16))
    pure (x.insert (shapeCast S16 v shapeCasts_S16_S16, shapeCast S16 r shapeCasts_S16_S16,
      addi lanes (broadcast S16 (Scalar.muli (Scalar.addi (Scalar.muli (cnt k) 4#32) (BitVec.ofNat 32 n)) 16#32))))

/-- One trip over the block maxima. -/
def sumBody (k : Fin k0_t2_loop.trips) (a : Nine F) : TP F i (Nine F) := do
  let x ← sumGo i sv si k 4 (le_refl _) (tri a)
  pure x.tup

/-- The seven vectors a loop over a block carries. -/
abbrev Seven (F : FTy → Type) : Type :=
  FVec F S16 .f32 × FVec F S16 .f32 × FVec F S16 .f32 × IVec S16 32 × IVec S16 32 × IVec S16 32 × IVec S16 32

/-- Candidates without places, and the next index. -/
def Tri.tup7 (x : Tri F) (iv : IVec S16 32) : Seven F := (x.t1, x.t2, x.t3, x.i1, x.i2, x.i3, iv)

/-- The seven vectors as candidates, their places zero. -/
def tri7 (a : Seven F) : Tri F :=
  ⟨a.1, a.2.1, a.2.2.1, a.2.2.2.1, a.2.2.2.2.1, a.2.2.2.2.2.1, zerov, zerov, zerov⟩

/-- Inserts a value and index, in the lanes of a mask where one is given, and leaves the places. -/
def Tri.insertAt (g : Option (IVec S16 1)) (x : Tri F) (v : FVec F S16 .f32) (iv : IVec S16 32) : Tri F :=
  let m1 := cmpf .ogt v x.t1
  let m2 := cmpf .ogt v x.t2
  let m3 := cmpf .ogt v x.t3
  let m1 := match g with | .none => m1 | .some g => andi m1 g
  let m2 := match g with | .none => m2 | .some g => andi m2 g
  let m3 := match g with | .none => m3 | .some g => andi m3 g
  { t1 := ins1 m1 v x.t1, t2 := ins2 m1 m2 v x.t1 x.t2, t3 := ins3 m2 m3 v x.t2 x.t3,
    i1 := ins1 m1 iv x.i1, i2 := ins2 m1 m2 iv x.i1 x.i2, i3 := ins3 m2 m3 iv x.i2 x.i3,
    p1 := x.p1, p2 := x.p2, p3 := x.p3 }

/-- The first `n` of the four vectors of one trip over a block chosen. -/
def scanGo (g : Option (IVec S16 1)) (blk : BitVec 32) (hb : k0_chk1 blk) (k : Fin k0_t3_loop.trips) :
    (n : Nat) → n ≤ 4 → Tri F × IVec S16 32 → TP F i (Tri F × IVec S16 32)
  | 0, _, x => pure x
  | n + 1, h, x => do
    let x ← scanGo g blk hb k n (Nat.le_of_succ_le h) x
    let v : Vec F S16 .f32 ← Prog.lift (.load row (Rect.unit (s := S32768) (k0_off6 blk k (BitVec.ofNat 32 n)) S16.size (k0_off6_inb blk hb k ⟨n, h⟩)).toLoadRect (View.loadsAt_vmem h_S16))
    pure (x.1.insertAt g (shapeCast S16 v shapeCasts_S16_S16) x.2, addi x.2 (broadcast S16 16#32))

/-- One trip over a block chosen. -/
def scanBody (g : Option (IVec S16 1)) (blk : BitVec 32) (hb : k0_chk1 blk) (k : Fin k0_t3_loop.trips) (a : Seven F) :
    TP F i (Seven F) := do
  let x ← scanGo i row g blk hb k 4 (le_refl _) (tri7 a, a.2.2.2.2.2.2)
  pure (x.1.tup7 x.2)

/-- The first lane of a vector of words. -/
def lane0 (b : IVec S16 32) : BitVec 32 := extractAt ![0] (extractStridedSlice S1 ![0] b slices_S16_o0_S1) inpos_S1_p0

/-- A whole block chosen, known to lie in the row. -/
def scanWith (g : Option (IVec S16 1)) (blk : BitVec 32) (hb : k0_chk1 blk) (x : Tri F) : TP F i (Tri F) := do
  let a ← Scf.Loop.for k0_t3_loop k0_t3_ok (x.tup7 (addi lanes (broadcast S16 (Scalar.muli blk 512#32)))) fun k a =>
    scanBody i row g blk hb k a
  pure (tri7 a)

/-- The claim that a block chosen lies in the row. -/
def inRow (blk : BitVec 32) : TP F i (PLift (k0_chk1 blk)) := Prog.lift (TpuEff.assume (k0_chk1 blk) (k0_chk1.dec blk))

/-- A whole block chosen. -/
def scan (g : Option (IVec S16 1)) (blk : BitVec 32) (x : Tri F) : TP F i (Tri F) := do
  let h ← inRow i blk
  scanWith i row g blk h.down x

/-- The block that a place lies in. -/
def blkOf (p : IVec S16 32) : IVec S16 32 := shrui p (broadcast S16 4#32)

/-- The least of three words. -/
def lo3 (a b c : IVec S16 32) : IVec S16 32 := minsi (minsi a b) c
/-- The greatest of three words. -/
def hi3 (a b c : IVec S16 32) : IVec S16 32 := maxsi (maxsi a b) c
/-- The middle of three words. -/
def mid3 (a b c : IVec S16 32) : IVec S16 32 := subi (subi (addi (addi a b) c) (lo3 a b c)) (hi3 a b c)

/-- The three blocks chosen, in order. -/
def blocks (x : Tri F) : IVec S16 32 × IVec S16 32 × IVec S16 32 :=
  let a := blkOf x.top.2.2
  let b := blkOf x.pop.top.2.2
  let c := blkOf x.pop.pop.top.2.2
  (lo3 a b c, mid3 a b c, hi3 a b c)

/-- Puts a value in lane `k`. -/
def putV (k : BitVec 32) (v w : FVec F S16 .f32) : FVec F S16 .f32 := select (cmpi .eq lanes (broadcast S16 k)) v w
/-- Puts a word in lane `k`. -/
def putI (k : BitVec 32) (v w : IVec S16 32) : IVec S16 32 := select (cmpi .eq lanes (broadcast S16 k)) v w

/-- The three best of a row's lanes, one after another in the first three lanes: the values. -/
def outV (x : Tri F) : FVec F S16 .f32 :=
  putV 2#32 x.pop0.pop0.top0.1 (putV 1#32 x.pop0.top0.1 (putV 0#32 x.top0.1 fzerov))

/-- The three best of a row's lanes, one after another in the first three lanes: the indices. -/
def outI (x : Tri F) : IVec S16 32 :=
  putI 2#32 x.pop0.pop0.top0.2.1 (putI 1#32 x.pop0.top0.2.1 (putI 0#32 x.top0.2.1 zerov))

/-- Everything a tile does with one row. -/
def rowProg : TP F i (Tri F) := do
  Scf.Loop.for k0_t1_loop k0_t1_ok ⟨⟩ fun b _ => blockBody i row sv si b
  let a ← Scf.Loop.for k0_t2_loop k0_t2_ok Tri.none.tup fun k a => sumBody i sv si k a
  let b := blocks (tri a)
  let x ← scan i row .none (lane0 b.1) Tri.none
  let x ← scan i row (.some (cmpi .ne b.2.1 b.1)) (lane0 b.2.1) x
  scan i row (.some (cmpi .ne b.2.2 b.2.1)) (lane0 b.2.2) x

variable (ov : Memref sig .scVector .vmem S2x16 .f32) (oi : Memref sig .scVector .vmem S2x16 .i32)

/-- Stores a row of results. -/
def storeRow (o : Fin 2 → Nat) (h : ∀ a, o a + S1x16.size a ≤ S2x16.size a) (v : FVec F S16 .f32) (w : IVec S16 32) : TP F i PUnit := do
  let _v : Vec F S1x16 .f32 ← Prog.lift (.load ov (Rect.unit (s := S2x16) o S1x16.size h).toLoadRect (View.loadsAt_vmem h_S1x16))
  Prog.lift (.store ov (Rect.unit (s := S2x16) o S1x16.size h) (shapeCast S1x16 v shapeCasts_S16_S1x16) Finset.univ (View.stores_vmem_bits_univ h_S1x16 rfl) (.inl rfl))
  let _v : Vec F S1x16 .i32 ← Prog.lift (.load oi (Rect.unit (s := S2x16) o S1x16.size h).toLoadRect (View.loadsAt_vmem h_S1x16))
  Prog.lift (.store oi (Rect.unit (s := S2x16) o S1x16.size h) (shapeCast S1x16 w shapeCasts_S16_S1x16) Finset.univ (View.stores_vmem_bits_univ h_S1x16 rfl) (.inl rfl))

/-- The tile's own row of `x`, by the offset the program computes. -/
abbrev xrow (x : Memref sig .scVector .hbm S128x32768 .f32) (off : Fin 2 → Nat)
    (h : ∀ a, off a + S1x32768.size a ≤ S128x32768.size a) : Memref sig .scVector .hbm S32768 .f32 :=
  (x.slice (Rect.unit (s := S128x32768) off S1x32768.size h) (fun _ => rfl)).squeeze S32768 squeezes_S1x32768_S32768

/-- The tile's rows of a result. -/
abbrev orow {e : EltTy} (x : Memref sig .scVector .hbm S64x16 e) : Memref sig .scVector .hbm S2x16 e :=
  x.slice (Rect.unit (s := S64x16) (k0_off16 i) S2x16.size (k0_off16_inb i)) (fun _ => rfl)

/-- The whole body. -/
def tileProg (arg2 : Memref sig .scVector .hbm S128x32768 .f32) (arg3 : Memref sig .scVector .hbm S64x16 .f32)
    (arg4 : Memref sig .scVector .hbm S64x16 .i32) (row1 : Memref sig .scVector .vmem S32768 .f32)
    (h0 : row.IsWhole) (h1 : row1.IsWhole) (hv : ov.IsWhole) (hi : oi.IsWhole) (s0 s1 sa sb : DmaSems sig S_) : TP F i PUnit := do
  Prog.lift (.enqueueDma (xrow arg2 (k0_off1 i) (k0_off1_inb i)) (.here row) (.dma s0.sem) ((View.wordExact_bits rfl).reshape _ _) h0.wordExact ⟨Or.inl rfl, trivial⟩)
  Prog.lift (.enqueueDma (xrow arg2 (k0_off2 i) (k0_off2_inb i)) (.here row1) (.dma s1.sem) ((View.wordExact_bits rfl).reshape _ _) h1.wordExact ⟨Or.inl rfl, trivial⟩)
  Prog.lift (.waitDma2 s0.sem (xrow arg2 (k0_off1 i) (k0_off1_inb i)) row ((View.wordExact_bits rfl).reshape _ _) h0.wordExact)
  let x ← rowProg i row sv si
  storeRow i ov oi ![0, 0] inb_S2x16_S1x16_0_0 (outV x) (outI x)
  Prog.lift (.waitDma2 s1.sem (xrow arg2 (k0_off9 i) (k0_off9_inb i)) row1 ((View.wordExact_bits rfl).reshape _ _) h1.wordExact)
  let x ← rowProg i row1 sv si
  storeRow i ov oi ![1, 0] inb_S2x16_S1x16_1_0 (outV x) (outI x)
  Prog.lift (.enqueueDma ov (.here (orow i arg3)) (.dma sa.sem) hv.wordExact (View.wordExact_bits rfl) ⟨Or.inl rfl, trivial⟩)
  Prog.lift (.waitDma2 sa.sem ov (orow i arg3) hv.wordExact (View.wordExact_bits rfl))
  Prog.lift (.enqueueDma oi (.here (orow i arg4)) (.dma sb.sem) hi.wordExact (View.wordExact_bits rfl) ⟨Or.inl rfl, trivial⟩)
  Prog.lift (.waitDma2 sb.sem oi (orow i arg4) hi.wordExact (View.wordExact_bits rfl))

end Programs

end Cert.Proof
-- ==== Proof.Model.lean ====
module

public import proofs.«01_k».proof.Proof.Clean
public import Idealize.ShloMosaic.Lib.Pointwise

@[expose] public section

namespace Cert.Proof

open Cert.KernelIdeal Cert.KernelIdeal.Gen Idealize.ShloMosaic Idealize.SL.Sem

/-- The lane with a number. -/
def lane (l : Fin 16) : S16.Idx := ix1 l

/-- The lane at distance `s` that a lane is paired with, `s` a power of two: the other one of its block of `2 * s`. -/
def flip (s : ℕ) (l : Fin 16) : Fin 16 := ⟨(if l.val / s % 2 = 0 then l.val + s else l.val - s) % 16, Nat.mod_lt _ (by decide)⟩

variable {α : Type}

/-- Swapping by 1 reads each lane at the lane it is paired with at distance 1. -/
theorem swap1_apply (v : S16.Idx → α) (l : Fin 16) : swap1 v (lane l) = v (lane (flip 1 l)) := by
  pointwise [swap1]
  split <;> rename_i h <;> refine congrArg v (funext fun d => Fin.ext ?_) <;> obtain rfl : d = 0 := Subsingleton.elim _ _ <;>
    simp only [lane, flip, ix1_0] at h ⊢ <;> split <;> omega

/-- Swapping by 2 reads each lane at the lane it is paired with at distance 2. -/
theorem swap2_apply (v : S16.Idx → α) (l : Fin 16) : swap2 v (lane l) = v (lane (flip 2 l)) := by
  pointwise [swap2]
  split <;> rename_i h <;> refine congrArg v (funext fun d => Fin.ext ?_) <;> obtain rfl : d = 0 := Subsingleton.elim _ _ <;>
    simp only [lane, flip, ix1_0] at h ⊢ <;> split <;> omega

/-- Swapping by 4 reads each lane at the lane it is paired with at distance 4. -/
theorem swap4_apply (v : S16.Idx → α) (l : Fin 16) : swap4 v (lane l) = v (lane (flip 4 l)) := by
  pointwise [swap4]
  split <;> rename_i h <;> refine congrArg v (funext fun d => Fin.ext ?_) <;> obtain rfl : d = 0 := Subsingleton.elim _ _ <;>
    simp only [lane, flip, ix1_0] at h ⊢ <;> split <;> omega

/-- Swapping by 8 reads each lane at the lane it is paired with at distance 8. -/
theorem swap8_apply (v : S16.Idx → α) (l : Fin 16) : swap8 v (lane l) = v (lane (flip 8 l)) := by
  pointwise [swap8]
  split <;> rename_i h <;> refine congrArg v (funext fun d => Fin.ext ?_) <;> obtain rfl : d = 0 := Subsingleton.elim _ _ <;>
    simp only [lane, flip, ix1_0] at h ⊢ <;> split <;> omega

theorem exists_lane (i : S16.Idx) : ∃ l, i = lane l := ⟨i 0, (ix1_eta (n0 := 16) i).symm⟩

/-! ## What a tile computes from a row, the row given by its positions -/

variable {F : FTy → Type} [FloatOps F]

/-- Sixteen consecutive elements. -/
def vec (X : ℕ → α) (n : ℕ) : S16.Idx → α := fun l => X (n + (l 0).val)

/-- The running maximum of a block after `n` of its vectors. -/
def blockF (X : ℕ → F .f32) (b : ℕ) : ℕ → Run F
  | 0 => (negv, zerov, addi lanes (broadcast S16 (Scalar.muli (cnt b) 512#32)))
  | n + 1 => (blockF X b n).step (vec X (512 * b + 16 * n))

/-- The lane that a position of the block maxima holds. -/
def laneOf (k : ℕ) : S16.Idx := lane ⟨k % 16, Nat.mod_lt _ (by decide)⟩

/-- The block maxima, block after block, 16 lanes each. -/
def bestV (X : ℕ → F .f32) (k : ℕ) : F .f32 := (blockF X (k / 16) 32).1 (laneOf k)
/-- Where the block maxima are in the row. -/
def bestI (X : ℕ → F .f32) (k : ℕ) : BitVec 32 := (blockF X (k / 16) 32).2.1 (laneOf k)

/-- The three best of every lane over the first `n` blocks' maxima. -/
def sumF (V : ℕ → F .f32) (I : ℕ → BitVec 32) : ℕ → Tri F
  | 0 => Tri.none
  | n + 1 => (sumF V I n).insert (vec V (16 * n), vec I (16 * n), addi lanes (broadcast S16 (BitVec.ofNat 32 (16 * n))))

/-- Candidates with their places forgotten. -/
def Tri.clear (x : Tri F) : Tri F := ⟨x.t1, x.t2, x.t3, x.i1, x.i2, x.i3, zerov, zerov, zerov⟩

/-- The three best of every lane, after the first `n` vectors of a block joined those of `x`. -/
def scanF (g : Option (IVec S16 1)) (X : ℕ → F .f32) (blk : BitVec 32) (x : Tri F) : ℕ → Tri F × IVec S16 32
  | 0 => (x.clear, addi lanes (broadcast S16 (Scalar.muli blk 512#32)))
  | n + 1 => ((scanF g X blk x n).1.insertAt g (vec X (512 * blk.toNat + 16 * n)) (scanF g X blk x n).2,
      addi (scanF g X blk x n).2 (broadcast S16 16#32))

/-- The blocks chosen. -/
def chosen (X : ℕ → F .f32) : IVec S16 32 × IVec S16 32 × IVec S16 32 := blocks (sumF (bestV X) (bestI X) 64)

/-- The candidates after the first block chosen. -/
def scan1 (X : ℕ → F .f32) : Tri F := (scanF .none X (lane0 (chosen X).1) Tri.none 32).1
/-- The candidates after the second. -/
def scan2 (X : ℕ → F .f32) : Tri F :=
  (scanF (.some (cmpi .ne (chosen X).2.1 (chosen X).1)) X (lane0 (chosen X).2.1) (scan1 X) 32).1
/-- The candidates after the third. -/
def rowOut (X : ℕ → F .f32) : Tri F :=
  (scanF (.some (cmpi .ne (chosen X).2.2 (chosen X).2.1)) X (lane0 (chosen X).2.2) (scan2 X) 32).1

theorem scanF_clear (g : Option (IVec S16 1)) (X : ℕ → F .f32) (blk : BitVec 32) (x : Tri F) (n : ℕ) :
    (scanF g X blk x n).1.clear = (scanF g X blk x n).1 := by
  induction n with
  | zero => rfl
  | succ n ih =>
    have h1 : (scanF g X blk x n).1.p1 = zerov := congrArg Tri.p1 ih.symm
    have h2 : (scanF g X blk x n).1.p2 = zerov := congrArg Tri.p2 ih.symm
    have h3 : (scanF g X blk x n).1.p3 = zerov := congrArg Tri.p3 ih.symm
    simp only [scanF, Tri.insertAt, Tri.clear, h1, h2, h3]

/-! ## The places stay below 1024, so the blocks chosen lie in the row -/

/-- Every word of a vector is below `N`. -/
def Below (N : ℕ) (v : IVec S16 32) : Prop := ∀ l, (v l).toNat < N

theorem Below.select {N : ℕ} {m : IVec S16 1} {v w : IVec S16 32} (hv : Below N v) (hw : Below N w) : Below N (select m v w) := by
  intro l
  show (Scalar.select (m l) (v l) (w l)).toNat < N
  unfold Scalar.select
  split
  · exact hv l
  · exact hw l

theorem Below.swap1 {N : ℕ} {v : IVec S16 32} (hv : Below N v) : Below N (swap1 v) := fun l => by
  obtain ⟨l, rfl⟩ := exists_lane l; rw [swap1_apply]; exact hv _
theorem Below.swap2 {N : ℕ} {v : IVec S16 32} (hv : Below N v) : Below N (swap2 v) := fun l => by
  obtain ⟨l, rfl⟩ := exists_lane l; rw [swap2_apply]; exact hv _
theorem Below.swap4 {N : ℕ} {v : IVec S16 32} (hv : Below N v) : Below N (swap4 v) := fun l => by
  obtain ⟨l, rfl⟩ := exists_lane l; rw [swap4_apply]; exact hv _
theorem Below.swap8 {N : ℕ} {v : IVec S16 32} (hv : Below N v) : Below N (swap8 v) := fun l => by
  obtain ⟨l, rfl⟩ := exists_lane l; rw [swap8_apply]; exact hv _

theorem Below.best {N : ℕ} {c : Cand F} (h : Below N c.2.2) : Below N (best c).2.2 := by
  have h1 : Below N (pop1 c).2.2 := Below.select h.swap1 h
  have h2 : Below N (pop2 (pop1 c)).2.2 := Below.select h1.swap2 h1
  have h4 : Below N (pop4 (pop2 (pop1 c))).2.2 := Below.select h2.swap4 h2
  exact Below.select h4.swap8 h4

/-- The places of the candidates are below `N`. -/
structure Tri.Below (N : ℕ) (x : Tri F) : Prop where
  p1 : Cert.Proof.Below N x.p1
  p2 : Cert.Proof.Below N x.p2
  p3 : Cert.Proof.Below N x.p3

theorem Tri.Below.pop {N : ℕ} {x : Tri F} (h : x.Below N) : x.pop.Below N :=
  ⟨h.p2.select h.p1, h.p3.select h.p2, h.p3⟩

theorem Tri.Below.top {N : ℕ} {x : Tri F} (h : x.Below N) : Cert.Proof.Below N x.top.2.2 := Cert.Proof.Below.best h.p1

theorem Tri.Below.insert {N : ℕ} {x : Tri F} (h : x.Below N) {c : Cand F} (hc : Cert.Proof.Below N c.2.2) : (x.insert c).Below N :=
  ⟨hc.select h.p1, h.p1.select (hc.select h.p2), h.p2.select (hc.select h.p3)⟩

theorem lanes_lane (l : Fin 16) : lanes (lane l) = BitVec.ofNat 32 l.val := by
  fin_cases l <;> rfl

theorem sumF_below (V : ℕ → F .f32) (I : ℕ → BitVec 32) (n : ℕ) (hn : n ≤ 64) : (sumF V I n).Below 1024 := by
  induction n with
  | zero => exact ⟨fun _ => Nat.zero_lt_succ _, fun _ => Nat.zero_lt_succ _, fun _ => Nat.zero_lt_succ _⟩
  | succ n ih =>
    refine (ih (by omega)).insert fun l => ?_
    obtain ⟨l, rfl⟩ := exists_lane l
    show (lanes (lane l) + BitVec.ofNat 32 (16 * n)).toNat < 1024
    rw [lanes_lane]
    have := l.isLt
    simp only [BitVec.toNat_add, BitVec.toNat_ofNat]
    omega

theorem below_blkOf {p : IVec S16 32} (h : Below 1024 p) : Below 64 (blkOf p) := fun l => by
  have := h l
  show (IntOp.shrui .vector (p l) 4#32).toNat < 64
  have e : IntOp.shrui .vector (p l) 4#32 = p l >>> 4#32 := rfl
  rw [e, BitVec.ushiftRight_eq', BitVec.toNat_ushiftRight, Nat.shiftRight_eq_div_pow]
  show (p l).toNat / 16 < 64
  omega

theorem slt_of_below {a b : BitVec 32} (ha : a.toNat < 1024) (hb : b.toNat < 1024) : a.slt b = decide (a.toNat < b.toNat) := by
  rw [BitVec.slt_eq_decide, BitVec.toInt_eq_toNat_of_lt (by omega), BitVec.toInt_eq_toNat_of_lt (by omega)]
  simp

/-- Of three words below 64, the least, the middle and the greatest as numbers. -/
theorem three {a b c : BitVec 32} (ha : a.toNat < 64) (hb : b.toNat < 64) (hc : c.toNat < 64) :
    (IntOp.minsi (IntOp.minsi a b) c).toNat = min (min a.toNat b.toNat) c.toNat ∧
    (IntOp.maxsi (IntOp.maxsi a b) c).toNat = max (max a.toNat b.toNat) c.toNat ∧
    (a + b + c - IntOp.minsi (IntOp.minsi a b) c - IntOp.maxsi (IntOp.maxsi a b) c).toNat =
      a.toNat + b.toNat + c.toNat - min (min a.toNat b.toNat) c.toNat - max (max a.toNat b.toNat) c.toNat := by
  have hmin : ∀ {x y : BitVec 32}, x.toNat < 64 → y.toNat < 64 → (IntOp.minsi x y).toNat = min x.toNat y.toNat := by
    intro x y hx hy
    simp only [IntOp.minsi, slt_of_below (show x.toNat < 1024 by omega) (show y.toNat < 1024 by omega), decide_eq_true_eq]
    split <;> omega
  have hmax : ∀ {x y : BitVec 32}, x.toNat < 64 → y.toNat < 64 → (IntOp.maxsi x y).toNat = max x.toNat y.toNat := by
    intro x y hx hy
    simp only [IntOp.maxsi, slt_of_below (show y.toNat < 1024 by omega) (show x.toNat < 1024 by omega), decide_eq_true_eq]
    split <;> omega
  have e1 : (IntOp.minsi (IntOp.minsi a b) c).toNat = min (min a.toNat b.toNat) c.toNat := by
    rw [hmin (by rw [hmin ha hb]; omega) hc, hmin ha hb]
  have e2 : (IntOp.maxsi (IntOp.maxsi a b) c).toNat = max (max a.toNat b.toNat) c.toNat := by
    rw [hmax (by rw [hmax ha hb]; omega) hc, hmax ha hb]
  refine ⟨e1, e2, ?_⟩
  simp only [BitVec.toNat_sub, BitVec.toNat_add, e1, e2]
  omega

theorem chosen_below (X : ℕ → F .f32) : Below 64 (chosen X).1 ∧ Below 64 (chosen X).2.1 ∧ Below 64 (chosen X).2.2 := by
  have h := sumF_below (bestV X) (bestI X) 64 (le_refl _)
  have ha := below_blkOf h.top
  have hb := below_blkOf h.pop.top
  have hc := below_blkOf h.pop.pop.top
  refine ⟨fun l => ?_, fun l => ?_, fun l => ?_⟩
  · have := three (ha l) (hb l) (hc l)
    exact (this.1.trans_lt (by have := ha l; omega))
  · have := three (ha l) (hb l) (hc l)
    exact (this.2.2.trans_lt (by have := ha l; have := hb l; have := hc l; omega))
  · have := three (ha l) (hb l) (hc l)
    exact (this.2.1.trans_lt (by have := ha l; have := hb l; have := hc l; omega))

theorem lane0_eq (b : IVec S16 32) : lane0 b = b (lane 0) := by
  refine congrArg b (funext fun d => Fin.ext ?_)
  obtain rfl : d = 0 := Subsingleton.elim _ _
  rfl

end Cert.Proof
-- ==== Proof.Common.lean ====
module

public import proofs.«01_k».proof.Proof.Model
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic

@[expose] public section

noncomputable section

namespace Cert.Proof

open Cert.KernelIdeal Cert.KernelIdeal.Gen Idealize.ShloMosaic
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds Idealize.ShloMosaic.Tactic

variable {F : FTy → Type}

/-- The labels of the whole program: the kernels' own, and the pipelined call's. -/
abbrev ΛP : Labels := Pipeline.Sig Λ₀ (Fin 1) fun p => (pcfgs (F := F) p).Adm
/-- The SparseCore call. -/
abbrev K : SparseCore.Cfg τ sig (ΛP (F := F)) 1 := sc (F := F)
/-- The definitions under the launch. -/
abbrev D [FloatOps F] : Defs nD τ sig (Elt F) (ΛP (F := F)) := Pipeline.defs pcfgs defs₀
/-- No kernel loops by a label of its own. -/
abbrev 𝒱₀ : Variants := Variants.none
/-- The variants lifted to the whole program. -/
abbrev 𝒱 : Variants := 𝒱₀.lift
/-- The variant @main starts at. -/
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The handshakes' rounds. -/
abbrev UH : Type := URounds (GSem nD τ sig) ℕ
/-- Beside them the pipelined call's rounds and the transfers' counters. -/
abbrev UU : Type := UH × (UR sig nD τ × Counters)

local notation "𝕄" => MT nD τ sig (HIx 1) (Elt F) ℕ UU ℕ

/-- The handshakes' rounds in the whole. -/
abbrev EH : Emb UH 𝕄 := embL

/-- The thread of the tile with given coordinates. -/
abbrev thr (d : Dev nD) (i : grid0.Coords) : Thread nD τ := V d ((i 0).castLE hcore0) ((i 1).castLE hsub0)

variable [FloatOps F]

/-- What a tile's program ensures, from a precondition: the entailment into its weakest precondition. -/
abbrev tileWp {α : Type} (d : Dev nD) (i : grid0.Coords) (p : TP F i α) (Q : α → sProp 𝕄) : sProp 𝕄 :=
  wp frame (wpE defs₀ 𝒱₀ (thr d i) none) Set.univ p Q

theorem tw_ret {α : Type} {d : Dev nD} {i : grid0.Coords} {a : α} {Q : α → sProp 𝕄} : Q a ⊢ tileWp d i (pure a) Q := by
  show Q a ⊢ wp frame (wpE defs₀ 𝒱₀ (thr d i) none) Set.univ (.ret a) Q
  rw [wp_ret]
  iintro H; imodintro; iexact H

theorem tw_bind {α β : Type} {d : Dev nD} {i : grid0.Coords} {p : TP F i α} {k : α → TP F i β} {Q : β → sProp 𝕄} :
    tileWp d i (p >>= k) Q = tileWp d i p fun a => tileWp d i (k a) Q := wp_bind ..

section Lifted
variable {sp : CoreSpace} {s : Shape} {e : EltTy} (d : Dev nD) (i : grid0.Coords)

/-- A load through a rectangle of a buffer held whole. -/
theorem wp_ld {m : Memref sig .scVector sp s e} {r : Rect s} {hl : m.view.LoadsAt r}
    {q : PosShare TreeShare} {f : Buf (Elt F) (m.view.loc (thr d i))} {Q : Vec F r.shape e → sProp 𝕄} :
    iprop((m.view.loc (thr d i) ↦{q} f) ∗ ((m.view.loc (thr d i) ↦{q} f) -∗ Q ((m.access r).read (Elt F) f)))
      ⊢ tileWp d i (Prog.lift (.load m r.toLoadRect hl)) Q := by
  iintro ⟨H, HQ⟩
  iapply (show (m.view.loc (thr d i) ↦{q} f) ⊢ iprop(((m.view.loc (thr d i) ↦{q} f) -∗ tileWp d i (.ret ((m.access r).read (Elt F) f)) Q)
      -∗ tileWp d i (Prog.lift (.load m r.toLoadRect hl)) Q) from
    wp_load_rect 𝒱₀ (thr d i) none Set.univ (m := m) (r := r) (hl := hl) (k := .ret) (S := Finset.univ) (f := f) (Finset.subset_univ _)) $$ H
  iintro H
  unfold tileWp; rw [wp_ret]; imodintro
  iapply HQ; iexact H

/-- A store through a rectangle of a buffer held whole. -/
theorem wp_st {m : Memref sig .scVector sp s e} {r : Rect s} {w : r.shape.Idx → Elt F e} {Mk : Finset r.shape.Idx}
    {hx : (m.access r).Stores Mk} {hm : Mk = Finset.univ ∨ ∀ a, r.stride a = 1}
    {f : Buf (Elt F) (m.view.loc (thr d i))} {Q : PUnit → sProp 𝕄} :
    iprop((m.view.loc (thr d i) ↦{fullShare} f) ∗ ((m.view.loc (thr d i) ↦{fullShare} (m.access r).write (Elt F) f w Mk) -∗ Q ⟨⟩))
      ⊢ tileWp d i (Prog.lift (.store m r w Mk hx hm)) Q := by
  iintro ⟨H, HQ⟩
  iapply (show (m.view.loc (thr d i) ↦{fullShare} f) ⊢ iprop(((m.view.loc (thr d i) ↦{fullShare} (m.access r).write (Elt F) f w Mk) -∗ tileWp d i (.ret ⟨⟩) Q)
      -∗ tileWp d i (Prog.lift (.store m r w Mk hx hm)) Q) from
    wp_store 𝒱₀ (thr d i) none Set.univ (m := m) (r := r) (k := .ret) (S := Finset.univ) (f := f) (Finset.subset_univ _)) $$ H
  iintro H
  unfold tileWp; rw [wp_ret]; imodintro
  iapply HQ; iexact H

end Lifted

end Cert.Proof
-- ==== Proof.RowWp.lean ====
module

public import proofs.«01_k».proof.Proof.Common

@[expose] public section

noncomputable section

namespace Cert.Proof

open Cert.KernelIdeal Cert.KernelIdeal.Gen Idealize.ShloMosaic
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 1) (Elt F) ℕ UU ℕ

section Reads
variable {N : ℕ} {e : EltTy} {κ : Kind} (m : Memref sig κ .vmem ⟨1, ![N]⟩ e)

/-- The first `k` positions of a vector in memory hold what `X` says. -/
def Reads (f : m.view.ty.Contents (Elt F)) (X : ℕ → Elt F e) (k : ℕ) : Prop :=
  ∀ x : (⟨1, ![N]⟩ : Shape).Idx, (x 0).val < k → m.view.read (Elt F) f x = X (x 0).val

variable {m}

theorem Reads.vec {f : m.view.ty.Contents (Elt F)} {X : ℕ → Elt F e} {k n : ℕ} (hX : Reads m f X k) (hn : n + 16 ≤ k)
    {off : Fin 1 → ℕ} (ho : off = ![n]) (inb : ∀ a, off a + S16.size a ≤ (⟨1, ![N]⟩ : Shape).size a) :
    shapeCast S16 ((m.access (Rect.unit (s := ⟨1, ![N]⟩) off S16.size inb)).read (Elt F) f) shapeCasts_S16_S16 = vec X n := by
  subst ho
  funext l
  have hl : (l 0).val < 16 := (l 0).isLt
  show (m.access (Rect.unit (s := ⟨1, ![N]⟩) ![n] S16.size inb)).read (Elt F) f (Shape.reshapeEquiv shapeCasts_S16_S16 l) = X (n + (l 0).val)
  rw [Shape.reshapeEquiv_self]
  have hv : (((Rect.unit (s := ⟨1, ![N]⟩) ![n] S16.size inb).emb l) 0).val = n + (l 0).val := by
    show n + 1 * (l 0).val = _
    omega
  have := hX ((Rect.unit (s := ⟨1, ![N]⟩) ![n] S16.size inb).emb l) (by rw [hv]; omega)
  rw [hv] at this
  exact this

theorem Reads.write {f : m.view.ty.Contents (Elt F)} {X : ℕ → Elt F e} {n : ℕ} (hX : Reads m f X n)
    {off : Fin 1 → ℕ} (ho : off = ![n]) (inb : ∀ a, off a + S16.size a ≤ (⟨1, ![N]⟩ : Shape).size a)
    (w : S16.Idx → Elt F e) (hw : ∀ l, w l = X (n + (l 0).val)) :
    Reads m ((m.access (Rect.unit (s := ⟨1, ![N]⟩) off S16.size inb)).write (Elt F) f (shapeCast S16 w shapeCasts_S16_S16) Finset.univ) X (n + 16) := by
  subst ho
  intro x hx
  by_cases h : (x 0).val < n
  · rw [← hX x h]
    refine View.read_slice_write_of_not_mem (v := m.view) _ _ _ _ fun hm => ?_
    obtain ⟨y, -, hy⟩ := Finset.mem_map.mp hm
    have : (x 0).val = n + (y 0).val := by
      rw [← hy]
      show n + 1 * (y 0).val = _
      omega
    omega
  · let y : S16.Idx := lane ⟨(x 0).val - n, by omega⟩
    have hy : (Rect.unit (s := ⟨1, ![N]⟩) ![n] S16.size inb).emb y = x := by
      funext a
      obtain rfl : a = 0 := Subsingleton.elim _ _
      refine Fin.ext ?_
      have : (((Rect.unit (s := ⟨1, ![N]⟩) ![n] S16.size inb).emb y) 0).val = n + ((x 0).val - n) := by
        show n + 1 * ((x 0).val - n) = _
        omega
      omega
    have h1 := View.read_slice_write_emb (v := m.view) (Rect.unit (s := ⟨1, ![N]⟩) ![n] S16.size inb) f
      (shapeCast S16 w shapeCasts_S16_S16) (Finset.mem_univ y)
    rw [hy] at h1
    refine h1.trans ?_
    show w (Shape.reshapeEquiv shapeCasts_S16_S16 y) = _
    rw [Shape.reshapeEquiv_self, hw]
    congr 1
    show n + ((x 0).val - n) = (x 0).val
    omega

end Reads

section Row
variable (d : Dev nD) (i : grid0.Coords)
variable {row : Memref sig .scVector .vmem S32768 .f32} {sv : Memref sig .scVector .vmem S1024 .f32}
  {si : Memref sig .scVector .vmem S1024 .i32}
variable {q : PosShare TreeShare} {f : Buf (Elt F) (row.view.loc (thr d i))} {X : ℕ → F .f32}

theorem blockGo_wp (hX : Reads row f X 32768) (b : Fin k0_t1_loop.trips) (n : ℕ) (h : 0 + n ≤ 32) :
    (row.view.loc (thr d i) ↦{q} f : sProp 𝕄)
      ⊢ tileWp d i (blockGo i row b 0 n h (blockF X b 0)) fun a => iprop(⌜a = blockF X b n⌝ ∗ row.view.loc (thr d i) ↦{q} f) := by
  induction n with
  | zero =>
    iintro H
    iapply tw_ret
    isplitr
    · ipureintro; rfl
    · iexact H
  | succ n ih =>
    have hb : b.val < 64 := Nat.lt_of_lt_of_le b.isLt k0_t1_abs.2.1
    iintro H
    unfold blockGo
    rw [tw_bind]
    iapply (wp_wand_r _ _ _)
    isplitl [H]
    · iapply (ih (Nat.le_of_succ_le h)); iexact H
    · iintro %a ⟨%ha, H⟩
      subst ha
      unfold ld
      rw [tw_bind]
      iapply wp_ld (q := q) (f := f)
      isplitl [H]
      · iexact H
      iintro H
      iapply tw_ret
      isplitr
      · ipureintro
        unfold asV
        rw [hX.vec (n := 512 * b.val + 16 * n) (by omega) (by rw [k0_off3_eq b ⟨0 + n, h⟩]; simp)]
        rfl
      · iexact H

variable {fv : Buf (Elt F) (sv.view.loc (thr d i))} {fi : Buf (Elt F) (si.view.loc (thr d i))}

theorem bestV_eq (b : ℕ) (l : S16.Idx) : bestV X (16 * b + (l 0).val) = (blockF X b 32).1 l := by
  obtain ⟨l, rfl⟩ := exists_lane l
  have hl : (lane l 0).val = l.val := rfl
  have := l.isLt
  unfold bestV laneOf
  rw [hl, show (16 * b + l.val) / 16 = b by omega]
  exact congrArg (fun z => (blockF X b 32).1 (lane z)) (Fin.ext (show (16 * b + l.val) % 16 = l.val by omega))

theorem bestI_eq (b : ℕ) (l : S16.Idx) : bestI X (16 * b + (l 0).val) = (blockF X b 32).2.1 l := by
  obtain ⟨l, rfl⟩ := exists_lane l
  have hl : (lane l 0).val = l.val := rfl
  have := l.isLt
  unfold bestI laneOf
  rw [hl, show (16 * b + l.val) / 16 = b by omega]
  exact congrArg (fun z => (blockF X b 32).2.1 (lane z)) (Fin.ext (show (16 * b + l.val) % 16 = l.val by omega))

theorem blockF_zero (b : ℕ) : ((negv, zerov, addi lanes (broadcast S16 (Scalar.muli (cnt b) 512#32))) : Run F) = blockF X b 0 := rfl

theorem chosen_eq : blocks (sumF (bestV X) (bestI X) 64) = chosen X := rfl
theorem scan1_eq : (scanF .none X (lane0 (chosen X).1) Tri.none 32).1 = scan1 X := rfl
theorem scan2_eq : (scanF (.some (cmpi .ne (chosen X).2.1 (chosen X).1)) X (lane0 (chosen X).2.1) (scan1 X) 32).1 = scan2 X := rfl
theorem rowOut_eq : (scanF (.some (cmpi .ne (chosen X).2.2 (chosen X).2.1)) X (lane0 (chosen X).2.2) (scan2 X) 32).1 = rowOut X := rfl
theorem trips1 : 16 * k0_t1_loop.trips = 1024 := by decide
theorem trips2 : 4 * k0_t2_loop.trips = 64 := by decide
theorem trips3 : 4 * k0_t3_loop.trips = 32 := by decide

theorem reads_zero {N : ℕ} {e : EltTy} {m : Memref sig .scVector .vmem ⟨1, ![N]⟩ e} {f : m.view.ty.Contents (Elt F)} {X : ℕ → Elt F e} :
    Reads m f X 0 := fun _ hx => absurd hx (Nat.not_lt_zero _)
theorem sumF_zero (V : ℕ → F .f32) (I : ℕ → BitVec 32) : Tri.none.tup = (sumF V I (4 * 0)).tup := rfl

section Opaque
attribute [local irreducible] blockF bestV bestI blockGo

/-- The buffers once the maxima of `b` blocks are stored. -/
def Stored (row : Memref sig .scVector .vmem S32768 .f32) (sv : Memref sig .scVector .vmem S1024 .f32)
    (si : Memref sig .scVector .vmem S1024 .i32) (q : PosShare TreeShare) (f : Buf (Elt F) (row.view.loc (thr d i)))
    (X : ℕ → F .f32) (n : ℕ) : sProp 𝕄 :=
  iprop((row.view.loc (thr d i) ↦{q} f) ∗
    (∃ g : Buf (Elt F) (sv.view.loc (thr d i)), ⌜Reads sv g (bestV X) n⌝ ∗ sv.view.loc (thr d i) ↦{fullShare} g) ∗
    (∃ g : Buf (Elt F) (si.view.loc (thr d i)), ⌜Reads si g (bestI X) n⌝ ∗ si.view.loc (thr d i) ↦{fullShare} g))

theorem blockBody_wp (hX : Reads row f X 32768) (b : Fin k0_t1_loop.trips) :
    Stored d i row sv si q f X (16 * b.val) ⊢ tileWp d i (blockBody i row sv si b) fun _ => Stored d i row sv si q f X (16 * (b.val + 1)) := by
  unfold blockBody Stored
  rw [blockF_zero (X := X)]
  iintro ⟨H, ⟨%g, %hg, Hv⟩, ⟨%t, %ht, Hi⟩⟩
  rw [tw_bind]
  iapply (wp_wand_r _ _ _)
  isplitl [H]
  · iapply (blockGo_wp d i hX b 32 (le_refl _)); iexact H
  iintro %a ⟨%ha, H⟩
  subst ha
  rw [tw_bind]
  iapply wp_ld (q := fullShare) (f := g)
  isplitl [Hv]
  · iexact Hv
  iintro Hv
  rw [tw_bind]
  iapply wp_st (f := g)
  isplitl [Hv]
  · iexact Hv
  iintro Hv
  rw [tw_bind]
  iapply wp_ld (q := fullShare) (f := t)
  isplitl [Hi]
  · iexact Hi
  iintro Hi
  rw [tw_bind]
  iapply wp_st (f := t)
  isplitl [Hi]
  · iexact Hi
  iintro Hi
  iapply tw_ret
  isplitl [H]
  · iexact H
  isplitl [Hv]
  · iexists _
    isplitr
    · ipureintro
      exact hg.write (k0_off4_eq b) (k0_off4_inb b) _ fun l => (bestV_eq b.val l).symm
    · iexact Hv
  · iexists _
    isplitr
    · ipureintro
      exact ht.write (k0_off4_eq b) (k0_off4_inb b) _ fun l => (bestI_eq b.val l).symm
    · iexact Hi

/-- The first loop: from the row, every block's maxima are stored. -/
theorem loop1_wp (hX : Reads row f X 32768) :
    Stored d i row sv si q f X 0 ⊢ tileWp d i (Scf.Loop.for k0_t1_loop k0_t1_ok PUnit.unit fun b _ => blockBody i row sv si b)
      fun _ => Stored d i row sv si q f X 1024 := by
  have hb : ∀ (k : Fin k0_t1_loop.trips) (acc : PUnit), Stored d i row sv si q f X (16 * k.val)
      ⊢ tileWp d i (blockBody i row sv si k) (fun _ => Stored d i row sv si q f X (16 * (k.val + 1))) :=
    fun k _ => blockBody_wp (row := row) (sv := sv) (si := si) (q := q) (f := f) (X := X) d i hX k
  iintro H
  iapply (Scf.wp_for frame (wpE defs₀ 𝒱₀ (thr d i) none) Set.univ k0_t1_loop.lb k0_t1_loop.ub k0_t1_loop.st k0_t1_ok PUnit.unit (fun b _ => blockBody i row sv si b)
    (fun b _ => Stored d i row sv si q f X (16 * b)) hb)
  isplitl [H]
  · iexact H
  · iintro %a H
    rw [← trips1]
    iexact H

end Opaque

variable {V : ℕ → F .f32} {I : ℕ → BitVec 32}

theorem place_word (k : Fin k0_t2_loop.trips) (n : ℕ) (h : n < 4) :
    Scalar.muli (Scalar.addi (Scalar.muli (cnt k.val) 4#32) (BitVec.ofNat 32 n)) 16#32 = BitVec.ofNat 32 (16 * (4 * k.val + n)) := by
  have hk : k.val < 16 := Nat.lt_of_lt_of_le k.isLt k0_t2_abs.2.1
  apply BitVec.eq_of_toNat_eq
  show ((((0#32 + BitVec.ofNat 32 k.val * 1#32) * 4#32 + BitVec.ofNat 32 n) * 16#32)).toNat = _
  simp only [BitVec.toNat_mul, BitVec.toNat_add, BitVec.toNat_ofNat]
  omega

theorem sumGo_wp (hg : Reads sv fv V 1024) (ht : Reads si fi I 1024) (k : Fin k0_t2_loop.trips) (n : ℕ) (h : n ≤ 4) :
    iprop((sv.view.loc (thr d i) ↦{fullShare} fv) ∗ (si.view.loc (thr d i) ↦{fullShare} fi) : sProp 𝕄)
      ⊢ tileWp d i (sumGo i sv si k n h (sumF V I (4 * k.val))) fun x => iprop(⌜x = sumF V I (4 * k.val + n)⌝ ∗
        (sv.view.loc (thr d i) ↦{fullShare} fv) ∗ (si.view.loc (thr d i) ↦{fullShare} fi)) := by
  induction n with
  | zero =>
    iintro H
    iapply tw_ret
    isplitr
    · ipureintro; rfl
    · iexact H
  | succ n ih =>
    have hk : k.val < 16 := Nat.lt_of_lt_of_le k.isLt k0_t2_abs.2.1
    iintro H
    unfold sumGo
    rw [tw_bind]
    iapply (wp_wand_r _ _ _)
    isplitl [H]
    · iapply (ih (Nat.le_of_succ_le h)); iexact H
    · iintro %a ⟨%ha, Hv, Hi⟩
      subst ha
      rw [tw_bind]
      iapply wp_ld (q := fullShare) (f := fv)
      isplitl [Hv]
      · iexact Hv
      iintro Hv
      rw [tw_bind]
      iapply wp_ld (q := fullShare) (f := fi)
      isplitl [Hi]
      · iexact Hi
      iintro Hi
      iapply tw_ret
      isplitr
      · ipureintro
        rw [hg.vec (n := 16 * (4 * k.val + n)) (by omega) (by rw [k0_off5_eq k ⟨n, h⟩]; congr 1; simp; omega),
          ht.vec (n := 16 * (4 * k.val + n)) (by omega) (by rw [k0_off5_eq k ⟨n, h⟩]; congr 1; simp; omega), place_word k n h]
        rfl
      · isplitl [Hv]
        · iexact Hv
        · iexact Hi

theorem sumBody_wp (hg : Reads sv fv V 1024) (ht : Reads si fi I 1024) (k : Fin k0_t2_loop.trips) (a : Nine F) :
    iprop(⌜a = (sumF V I (4 * k.val)).tup⌝ ∗ (sv.view.loc (thr d i) ↦{fullShare} fv) ∗ (si.view.loc (thr d i) ↦{fullShare} fi) : sProp 𝕄)
      ⊢ tileWp d i (sumBody i sv si k a) fun a => iprop(⌜a = (sumF V I (4 * (k.val + 1))).tup⌝ ∗
        (sv.view.loc (thr d i) ↦{fullShare} fv) ∗ (si.view.loc (thr d i) ↦{fullShare} fi)) := by
  iintro ⟨%ha, H⟩
  subst ha
  unfold sumBody
  rw [tw_bind]
  iapply (wp_wand_r _ _ _)
  isplitl [H]
  · iapply (sumGo_wp d i hg ht k 4 (le_refl _)); iexact H
  iintro %a ⟨%ha, H⟩
  subst ha
  iapply tw_ret
  isplitr
  · ipureintro; rfl
  · iexact H

/-! ## The blocks chosen -/

theorem off6_eq {w : BitVec 32} (hw : w.toNat < 64) (k : Fin k0_t3_loop.trips) (n : ℕ) (hn : n < 4) :
    k0_off6 w k (BitVec.ofNat 32 n) = ![512 * w.toNat + 16 * (4 * k.val + n)] := by
  have hk : k.val < 8 := Nat.lt_of_lt_of_le k.isLt k0_t3_abs.2.1
  have hw' : Affine.IsInt w (w.toNat : ℤ) := by
    unfold Affine.IsInt
    exact BitVec.toInt_eq_toNat_of_lt (by omega)
  have h0 : Affine.IsInt 0#32 0 := Affine.ofNat _ (by omega)
  have h1 : Affine.IsInt 1#32 1 := Affine.ofNat _ (by omega)
  have h4 : Affine.IsInt 4#32 4 := Affine.ofNat _ (by omega)
  have h16 : Affine.IsInt 16#32 16 := Affine.ofNat _ (by omega)
  have h512 : Affine.IsInt 512#32 512 := Affine.ofNat _ (by omega)
  have hn' : Affine.IsInt (BitVec.ofNat 32 n) (n : ℤ) := Affine.ofNat _ (by omega)
  have hk' : Affine.IsInt _ (k.val : ℤ) := Affine.iv h0 h1 k.val (by omega)
  have a1 : Affine.IsInt _ (512 * (w.toNat : ℤ)) := Affine.muli hw' h512 (by omega)
  have a2 : Affine.IsInt _ (4 * (k.val : ℤ)) := Affine.muli hk' h4 (by omega)
  have a3 : Affine.IsInt _ (4 * (k.val : ℤ) + n) := Affine.addi a2 hn' (by omega)
  have a4 : Affine.IsInt _ (16 * (4 * (k.val : ℤ) + n)) := Affine.muli a3 h16 (by omega)
  have a5 : Affine.IsInt _ (512 * (w.toNat : ℤ) + 16 * (4 * (k.val : ℤ) + n)) := Affine.addi a1 a4 (by omega)
  exact Affine.vec_cons (Affine.indexCast a5) (by omega) <| Affine.vec_nil

theorem chk_of_lt {w : BitVec 32} (hw : w.toNat < 64) : k0_chk1 w := by
  intro k r a
  have hk : k.val < 8 := Nat.lt_of_lt_of_le k.isLt k0_t3_abs.2.1
  rw [off6_eq hw k r.val r.isLt]
  obtain rfl : a = 0 := Subsingleton.elim _ _
  have := r.isLt
  show 512 * w.toNat + 16 * (4 * k.val + r.val) + 16 ≤ 32768
  omega

variable {g : Option (IVec S16 1)} {blk : BitVec 32} {x₀ : Tri F}

theorem scanGo_wp (hX : Reads row f X 32768) (hw : blk.toNat < 64) (hb : k0_chk1 blk) (k : Fin k0_t3_loop.trips) (n : ℕ) (h : n ≤ 4) :
    (row.view.loc (thr d i) ↦{q} f : sProp 𝕄)
      ⊢ tileWp d i (scanGo i row g blk hb k n h (scanF g X blk x₀ (4 * k.val))) fun a =>
        iprop(⌜a = scanF g X blk x₀ (4 * k.val + n)⌝ ∗ row.view.loc (thr d i) ↦{q} f) := by
  induction n with
  | zero =>
    iintro H
    iapply tw_ret
    isplitr
    · ipureintro; rfl
    · iexact H
  | succ n ih =>
    have hk : k.val < 8 := Nat.lt_of_lt_of_le k.isLt k0_t3_abs.2.1
    iintro H
    unfold scanGo
    rw [tw_bind]
    iapply (wp_wand_r _ _ _)
    isplitl [H]
    · iapply (ih (Nat.le_of_succ_le h)); iexact H
    · iintro %a ⟨%ha, H⟩
      subst ha
      rw [tw_bind]
      iapply wp_ld (q := q) (f := f)
      isplitl [H]
      · iexact H
      iintro H
      iapply tw_ret
      isplitr
      · ipureintro
        rw [hX.vec (n := 512 * blk.toNat + 16 * (4 * k.val + n)) (by omega) (off6_eq hw k n h)]
        rfl
      · iexact H

theorem tri7_tup7 (x : Tri F) (iv : IVec S16 32) : tri7 (x.tup7 iv) = x.clear := rfl

theorem scanBody_wp (hX : Reads row f X 32768) (hw : blk.toNat < 64) (hb : k0_chk1 blk) (k : Fin k0_t3_loop.trips) (a : Seven F) :
    iprop(⌜a = (scanF g X blk x₀ (4 * k.val)).1.tup7 (scanF g X blk x₀ (4 * k.val)).2⌝ ∗ row.view.loc (thr d i) ↦{q} f : sProp 𝕄)
      ⊢ tileWp d i (scanBody i row g blk hb k a) fun a =>
        iprop(⌜a = (scanF g X blk x₀ (4 * (k.val + 1))).1.tup7 (scanF g X blk x₀ (4 * (k.val + 1))).2⌝ ∗ row.view.loc (thr d i) ↦{q} f) := by
  iintro ⟨%ha, H⟩
  subst ha
  unfold scanBody
  rw [tw_bind, tri7_tup7, scanF_clear]
  iapply (wp_wand_r _ _ _)
  isplitl [H]
  · iapply (scanGo_wp d i hX hw hb k 4 (le_refl _)); iexact H
  iintro %a ⟨%ha, H⟩
  subst ha
  iapply tw_ret
  isplitr
  · ipureintro; rfl
  · iexact H

theorem scan_wp (hX : Reads row f X 32768) (hw : blk.toNat < 64) (x : Tri F) :
    (row.view.loc (thr d i) ↦{q} f : sProp 𝕄)
      ⊢ tileWp d i (scan i row g blk x) fun a => iprop(⌜a = (scanF g X blk x 32).1⌝ ∗ row.view.loc (thr d i) ↦{q} f) := by
  iintro H
  unfold scan inRow
  rw [tw_bind]
  iapply (wp_assume 𝒱₀ (thr d i) none Set.univ (chk_of_lt hw))
  rw [wp_ret]
  imodintro
  unfold scanWith
  rw [tw_bind]
  iapply (Scf.wp_for _ _ _ _ _ _ _ _ _ (fun k a => iprop(⌜a = (scanF g X blk x (4 * k)).1.tup7 (scanF g X blk x (4 * k)).2⌝ ∗ row.view.loc (thr d i) ↦{q} f))
    (fun k a => scanBody_wp d i hX hw _ k a))
  isplitl [H]
  · isplitr
    · ipureintro; rfl
    · iexact H
  iintro %a ⟨%ha, H⟩
  subst ha
  iapply tw_ret
  isplitr
  · ipureintro
    rw [tri7_tup7, scanF_clear, trips3]
  · iexact H

attribute [local irreducible] chosen scan1 scan2 rowOut scanF sumF bestV bestI scan Reads

/-- A tile's work on one row: from the row, and from the buffers of the block maxima whatever they hold, the program returns what `rowOut` says. -/
theorem rowProg_wp (hX : Reads row f X 32768) :
    iprop((row.view.loc (thr d i) ↦{q} f) ∗ (∃ g, sv.view.loc (thr d i) ↦{fullShare} g) ∗ (∃ g, si.view.loc (thr d i) ↦{fullShare} g) : sProp 𝕄)
      ⊢ tileWp d i (rowProg i row sv si) fun a => iprop(⌜a = rowOut X⌝ ∗ (row.view.loc (thr d i) ↦{q} f) ∗
        (∃ g, sv.view.loc (thr d i) ↦{fullShare} g) ∗ (∃ g, si.view.loc (thr d i) ↦{fullShare} g)) := by
  iintro ⟨H, ⟨%g, Hv⟩, ⟨%t, Hi⟩⟩
  unfold rowProg
  rw [tw_bind]
  iapply (wp_wand_r _ _ _)
  isplitl [H Hv Hi]
  · iapply (loop1_wp d i hX)
    unfold Stored
    isplitl [H]
    · iexact H
    isplitl [Hv]
    · iexists g
      isplitr
      · ipureintro; exact reads_zero
      · iexact Hv
    · iexists t
      isplitr
      · ipureintro; exact reads_zero
      · iexact Hi
  iintro %a HS
  unfold Stored
  icases HS with ⟨H, ⟨%g', %hg, Hv⟩, ⟨%t', %ht, Hi⟩⟩
  rw [tw_bind]
  iapply (Scf.wp_for _ _ _ _ _ _ _ _ _ (fun k a => iprop(⌜a = (sumF (bestV X) (bestI X) (4 * k)).tup⌝ ∗ (sv.view.loc (thr d i) ↦{fullShare} g') ∗ (si.view.loc (thr d i) ↦{fullShare} t')))
    (fun k a => sumBody_wp d i hg ht k a))
  isplitl [Hv Hi]
  · isplitr
    · ipureintro; exact sumF_zero _ _
    · isplitl [Hv]
      · iexact Hv
      · iexact Hi
  iintro %a ⟨%ha, Hv, Hi⟩
  rw [trips2] at ha
  subst ha
  rw [show tri (sumF (bestV X) (bestI X) 64).tup = sumF (bestV X) (bestI X) 64 from rfl, chosen_eq]
  have hc := chosen_below X
  rw [tw_bind]
  iapply (wp_wand_r _ _ _)
  isplitl [H]
  · iapply (scan_wp d i (blk := lane0 (chosen X).1) hX (by rw [lane0_eq]; exact hc.1 _)); iexact H
  iintro %a ⟨%ha, H⟩
  subst ha
  rw [tw_bind]
  iapply (wp_wand_r _ _ _)
  isplitl [H]
  · iapply (scan_wp d i (blk := lane0 (chosen X).2.1) hX (by rw [lane0_eq]; exact hc.2.1 _)); iexact H
  iintro %a ⟨%ha, H⟩
  rw [scan1_eq, scan2_eq] at ha
  subst ha
  iapply (wp_wand_r _ _ _)
  isplitl [H]
  · iapply (scan_wp d i (blk := lane0 (chosen X).2.2) hX (by rw [lane0_eq]; exact hc.2.2 _)); iexact H
  iintro %a ⟨%ha, H⟩
  rw [rowOut_eq] at ha
  subst ha
  isplitr
  · ipureintro; rfl
  isplitl [H]
  · iexact H
  isplitl [Hv]
  · iexists _; iexact Hv
  · iexists _; iexact Hi

end Row

end Cert.Proof
-- ==== Proof.TileWp.lean ====
module

public import proofs.«01_k».proof.Proof.RowWp
public import Idealize.ShloMosaic.Lib.Transfers

@[expose] public section

/-! # The tile's program

Copies, waits and the stores of a row of results, and from them the triple of a whole tile. -/

noncomputable section

namespace Cert.Proof

open Cert.KernelIdeal Cert.KernelIdeal.Gen Idealize.ShloMosaic
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 1) (Elt F) ℕ UU ℕ

section Copies
variable (d : Dev nD) (i : grid0.Coords) {sp sp' : Space} {s s' : Shape} {e e' : EltTy}

/-- A copy started on an idle semaphore is in flight, its two ends with it. -/
theorem tw_dma {src : Memref sig .scVector sp s e} {dst : Memref sig .scVector sp' s e} {sm : SemLoc sig}
    {hsrc : src.view.WordExact} {hdst : dst.view.WordExact} {hsem : DmaTarget.Typed (nD := nD) (τ := τ) (p := (thr d i).2) sp sm (.here dst)}
    {q : PosShare TreeShare} {fs : Buf (Elt F) (src.view.loc (thr d i))}
    {Sd : Finset (Idx (dst.view.loc (thr d i)))} {fd : Buf (Elt F) (dst.view.loc (thr d i))} {Q : PUnit → sProp 𝕄}
    (N : ℕ) (hN : dst.view.amount sm = N) (hN0 : 0 < N) (hSd : dst.view.set ⊆ Sd) :
    iprop((src.view.loc (thr d i) ↦[src.view.set]{q} fs) ∗ (dst.view.loc (thr d i) ↦[Sd]{fullShare} fd) ∗ semVal (thr d i, sm) 0
        ∗ (Transfers.Flight countersEmb (thr d i) sm (default : HIx 1) N
            iprop((dst.view.loc (thr d i) ↦[Sd]{fullShare} (dst.view.write (Elt F) fd (src.view.read (Elt F) fs) Finset.univ))
              ∗ (src.view.loc (thr d i) ↦[src.view.set]{q} fs)) -∗ Q ⟨⟩))
      ⊢ tileWp d i (Prog.lift (.enqueueDma src (.here dst) sm hsrc hdst hsem)) Q := by
  iintro ⟨Hs, Hd, Hv, HQ⟩
  iapply (show iprop((src.view.loc (thr d i) ↦[src.view.set]{q} fs) ∗ (dst.view.loc (thr d i) ↦[Sd]{fullShare} fd) ∗ semVal (thr d i, sm) 0)
      ⊢ iprop((Transfers.Flight countersEmb (thr d i) sm (default : HIx 1) N
            iprop((dst.view.loc (thr d i) ↦[Sd]{fullShare} (dst.view.write (Elt F) fd (src.view.read (Elt F) fs) Finset.univ))
              ∗ (src.view.loc (thr d i) ↦[src.view.set]{q} fs)) -∗ tileWp d i (.ret ⟨⟩) Q)
        -∗ tileWp d i (Prog.lift (.enqueueDma src (.here dst) sm hsrc hdst hsem)) Q) from
    Transfers.wp_dmaLocal countersEmb 𝒱₀ (thr d i) none (src := src) (dst := dst) (via := .same) (hsrc := hsrc) (hdst := hdst) (hsem := hsem)
      (q := q) (fs := fs) (fd := fd) (Q := Q) (k := .ret) (default : HIx 1) N hN hN0 hSd) $$ [Hs Hd Hv]
  · iframe
  iintro H
  unfold tileWp; rw [wp_ret]; imodintro
  iapply HQ; iexact H

/-- A wait for a copy in flight gives its ends back and the semaphore idle. -/
theorem tw_wait {sem : DmaSem sig} {srcw : Memref sig .scVector sp' s' e'} {dstw : Memref sig .scVector sp s e}
    {hsrc : srcw.view.WordExact} {hdst : dstw.view.WordExact} {N : ℕ} (hN : dstw.view.dmaCredit = N) {R : sProp 𝕄}
    {O : CellTallies nD τ sig (HIx 1)} {W : Waits sig (HIx 1)} {Q : PUnit → sProp 𝕄} :
    iprop(Transfers.MayWaits (thr d i) (default : HIx 1) O ∗ Transfers.Flight countersEmb (thr d i) (.dma sem) (default : HIx 1) N R ∗ owes (thr d i) O W
        ∗ ((R ∗ semVal (thr d i, .dma sem) 0 ∗ owes (thr d i) O (insert (SemLoc.dma sem, default) W)) -∗ Q ⟨⟩))
      ⊢ tileWp d i (Prog.lift (.waitDma2 sem srcw dstw hsrc hdst)) Q := by
  iintro ⟨Hm, Hf, HO, HQ⟩
  iapply (show iprop(Transfers.Flight countersEmb (thr d i) (.dma sem) (default : HIx 1) N R ∗ owes (thr d i) O W ∗ MayWait (thr d i) (.dma sem) (default : HIx 1) O)
      ⊢ iprop(((R ∗ semVal (thr d i, .dma sem) 0 ∗ owes (thr d i) O (insert (SemLoc.dma sem, default) W)) -∗ tileWp d i (.ret ⟨⟩) Q)
        -∗ tileWp d i (Prog.lift (.waitDma2 sem srcw dstw hsrc hdst)) Q) from
    Transfers.wp_waitLocalO countersEmb 𝒱₀ (thr d i) none (k := .ret) (default : HIx 1) hN) $$ [Hm Hf HO]
  · isplitl [Hf]; · iexact Hf
    isplitl [HO]; · iexact HO
    iapply (Transfers.MayWaits.elim (SemLoc.dma sem)) $$ Hm
  iintro H
  unfold tileWp; rw [wp_ret]; imodintro
  iapply HQ; iexact H

end Copies

section Rows
variable {e : EltTy}

/-- Row `r` of a two-row buffer of results holds the lanes `w`. -/
def RowIs (m : Memref sig .scVector .vmem S2x16 e) (f : m.view.ty.Contents (Elt F)) (r : Fin 2) (w : S16.Idx → Elt F e) : Prop :=
  ∀ l : Fin 16, m.view.read (Elt F) f (ix2 r l) = w (lane l)

variable {m : Memref sig .scVector .vmem S2x16 e} {f : m.view.ty.Contents (Elt F)}

/-- The row just stored. -/
theorem RowIs.same (r : Fin 2) (w : S16.Idx → Elt F e) (h : ∀ a, (![r.val, 0] : Fin 2 → ℕ) a + S1x16.size a ≤ S2x16.size a) :
    RowIs m ((m.access (Rect.unit (s := S2x16) ![r.val, 0] S1x16.size h)).write (Elt F) f (shapeCast S1x16 w shapeCasts_S16_S1x16) Finset.univ) r w := by
  intro l
  have hy : (Rect.unit (s := S2x16) ![r.val, 0] S1x16.size h).emb (ix2 (0 : Fin 1) l : S1x16.Idx) = ix2 r l := by
    funext a
    refine Fin.ext ?_
    match a with
    | 0 => show r.val + 1 * 0 = r.val; omega
    | 1 => show 0 + 1 * l.val = l.val; omega
  have h1 := View.read_slice_write_emb (v := m.view) (Rect.unit (s := S2x16) ![r.val, 0] S1x16.size h) f
    (shapeCast S1x16 w shapeCasts_S16_S1x16) (Finset.mem_univ (ix2 (0 : Fin 1) l : S1x16.Idx))
  rw [hy] at h1
  refine h1.trans ?_
  pointwise []
  rfl

/-- The other row keeps what it held. -/
theorem RowIs.other {r r' : Fin 2} (hr : r' ≠ r) {v : S16.Idx → Elt F e} (hv : RowIs m f r' v) (w : S16.Idx → Elt F e)
    (h : ∀ a, (![r.val, 0] : Fin 2 → ℕ) a + S1x16.size a ≤ S2x16.size a) :
    RowIs m ((m.access (Rect.unit (s := S2x16) ![r.val, 0] S1x16.size h)).write (Elt F) f (shapeCast S1x16 w shapeCasts_S16_S1x16) Finset.univ) r' v := by
  intro l
  rw [← hv l]
  refine View.read_slice_write_of_not_mem (v := m.view) _ _ _ _ fun hm => hr ?_
  obtain ⟨y, -, hy⟩ := Finset.mem_map.mp hm
  refine Fin.ext ?_
  have h0 : r.val + 1 * (y 0).val = r'.val := congrArg (fun z : S2x16.Idx => (z 0).val) hy
  have : (y 0).val < 1 := (y 0).isLt
  omega

variable (d : Dev nD) (i : grid0.Coords) {ov : Memref sig .scVector .vmem S2x16 .f32} {oi : Memref sig .scVector .vmem S2x16 .i32}

theorem storeRow_wp {fv : Buf (Elt F) (ov.view.loc (thr d i))} {fi : Buf (Elt F) (oi.view.loc (thr d i))}
    (o : Fin 2 → Nat) (h : ∀ a, o a + S1x16.size a ≤ S2x16.size a) (v : FVec F S16 .f32) (w : IVec S16 32) :
    iprop((ov.view.loc (thr d i) ↦{fullShare} fv) ∗ (oi.view.loc (thr d i) ↦{fullShare} fi))
      ⊢ tileWp d i (storeRow i ov oi o h v w) fun _ => iprop(
        (ov.view.loc (thr d i) ↦{fullShare} (ov.access (Rect.unit (s := S2x16) o S1x16.size h)).write (Elt F) fv (shapeCast S1x16 v shapeCasts_S16_S1x16) Finset.univ)
        ∗ (oi.view.loc (thr d i) ↦{fullShare} (oi.access (Rect.unit (s := S2x16) o S1x16.size h)).write (Elt F) fi (shapeCast S1x16 w shapeCasts_S16_S1x16) Finset.univ)) := by
  iintro ⟨Hv, Hi⟩
  unfold storeRow
  rw [tw_bind]
  iapply wp_ld (q := fullShare) (f := fv)
  isplitl [Hv]; · iexact Hv
  iintro Hv
  rw [tw_bind]
  iapply wp_st (f := fv)
  isplitl [Hv]; · iexact Hv
  iintro Hv
  rw [tw_bind]
  iapply wp_ld (q := fullShare) (f := fi)
  isplitl [Hi]; · iexact Hi
  iintro Hi
  iapply wp_st (f := fi)
  isplitl [Hi]; · iexact Hi
  iintro Hi
  isplitl [Hv]; · iexact Hv
  iexact Hi

end Rows

end Cert.Proof
-- ==== Proof.Windows.lean ====
module

public import proofs.«01_k».proof.Proof.Clean

/-! The windows of the printed SparseCore body that pop candidates, in named steps. -/

@[expose] public section

namespace Cert.Proof

open Cert.KernelIdeal Cert.KernelIdeal.Gen Idealize.ShloMosaic Idealize.SL.Sem

variable {F : FTy → Type} [FloatOps F]

section Programs
variable (i : grid0.Coords)

theorem fold1 {α : Type} (v : S16.Idx → α) :
    shapeCast S16 (concatenate S8x2x1 1
      [⟨S8x1x1, extractStridedSlice S8x1x1 ![0, 1, 0] (shapeCast S8x2x1 v shapeCasts_S16_S8x2x1) slices_S8x2x1_o0_1_0_S8x1x1⟩,
       ⟨S8x1x1, extractStridedSlice S8x1x1 ![0, 0, 0] (shapeCast S8x2x1 v shapeCasts_S16_S8x2x1) slices_S8x2x1_o0_0_0_S8x1x1⟩]
      concatenates_S8x1x1_S8x1x1_S8x2x1_d1) shapeCasts_S8x2x1_S16 = swap1 v := Eq.trans rfl rfl

theorem fold2 {α : Type} (v : S16.Idx → α) :
    shapeCast S16 (concatenate S4x2x2 1
      [⟨S4x1x2, extractStridedSlice S4x1x2 ![0, 1, 0] (shapeCast S4x2x2 v shapeCasts_S16_S4x2x2) slices_S4x2x2_o0_1_0_S4x1x2⟩,
       ⟨S4x1x2, extractStridedSlice S4x1x2 ![0, 0, 0] (shapeCast S4x2x2 v shapeCasts_S16_S4x2x2) slices_S4x2x2_o0_0_0_S4x1x2⟩]
      concatenates_S4x1x2_S4x1x2_S4x2x2_d1) shapeCasts_S4x2x2_S16 = swap2 v := Eq.trans rfl rfl

theorem fold4 {α : Type} (v : S16.Idx → α) :
    shapeCast S16 (concatenate S2x2x4 1
      [⟨S2x1x4, extractStridedSlice S2x1x4 ![0, 1, 0] (shapeCast S2x2x4 v shapeCasts_S16_S2x2x4) slices_S2x2x4_o0_1_0_S2x1x4⟩,
       ⟨S2x1x4, extractStridedSlice S2x1x4 ![0, 0, 0] (shapeCast S2x2x4 v shapeCasts_S16_S2x2x4) slices_S2x2x4_o0_0_0_S2x1x4⟩]
      concatenates_S2x1x4_S2x1x4_S2x2x4_d1) shapeCasts_S2x2x4_S16 = swap4 v := Eq.trans rfl rfl

theorem fold8 {α : Type} (v : S16.Idx → α) :
    shapeCast S16 (concatenate S1x2x8 1
      [⟨S1x1x8, extractStridedSlice S1x1x8 ![0, 1, 0] (shapeCast S1x2x8 v shapeCasts_S16_S1x2x8) slices_S1x2x8_o0_1_0_S1x1x8⟩,
       ⟨S1x1x8, extractStridedSlice S1x1x8 ![0, 0, 0] (shapeCast S1x2x8 v shapeCasts_S16_S1x2x8) slices_S1x2x8_o0_0_0_S1x1x8⟩]
      concatenates_S1x1x8_S1x1x8_S1x2x8_d1) shapeCasts_S1x2x8_S16 = swap8 v := Eq.trans rfl rfl

theorem foldB (ot : FVec F S16 .f32) (oi : IVec S16 32) (t : FVec F S16 .f32) (i : IVec S16 32) :
    ori (cmpf .ogt ot t) (andi (cmpf .oeq ot t) (cmpi .slt oi i)) = better ot oi t i := Eq.trans rfl rfl

/-- What the windows that cut a pop after its second step hand on. -/
abbrev windowA (c : Cand F) : Σ' (_ : IVec S16 32) (_ : IVec S16 32) (_ : IVec S16 1) (_ : FVec F S16 .f32), IVec S16 32 :=
  let d := pop2 (pop1 c)
  ⟨d.2.2, swap4 d.2.2, better (swap4 d.1) (swap4 d.2.1) d.1 d.2.1, (pop4 d).1, (pop4 d).2.1⟩

/-- What the windows that cut a pop before its last selections hand on. -/
abbrev windowB (c : Cand F) : Σ' (_ : FVec F S16 .f32) (_ : IVec S16 32) (_ : IVec S16 32) (_ : FVec F S16 .f32) (_ : IVec S16 32)
    (_ : IVec S16 32) (_ : IVec S16 1), IVec S16 1 :=
  ⟨c.1, c.2.1, c.2.2, swap8 c.1, swap8 c.2.1, swap8 c.2.2, cmpf .ogt (swap8 c.1) c.1,
    andi (cmpf .oeq (swap8 c.1) c.1) (cmpi .slt (swap8 c.2.1) c.2.1)⟩

/-- The lanes' first candidates. -/
abbrev Tri.first (x : Tri F) : Cand F := (x.t1, x.i1, x.p1)

theorem part26_eq (arg2 harg2 arg3 harg3 arg4 harg4 arg5 harg5 arg6 harg6 arg7 harg7 arg8 harg8 arg9 harg9 arg10 harg10 arg11 arg12 v1321_r0 v1321_r1) (c : Cand F) :
    k0_part26 (F := F) i arg2 harg2 arg3 harg3 arg4 harg4 arg5 harg5 arg6 harg6 arg7 harg7 arg8 harg8 arg9 harg9 arg10 harg10 arg11 arg12 v1321_r0 v1321_r1 c.1 c.2.1 c.2.2 (swap1 c.1) (extractStridedSlice S8x1x1 ![0, 1, 0] (shapeCast S8x2x1 c.2.1 shapeCasts_S16_S8x2x1) slices_S8x2x1_o0_1_0_S8x1x1) (extractStridedSlice S8x1x1 ![0, 0, 0] (shapeCast S8x2x1 c.2.1 shapeCasts_S16_S8x2x1) slices_S8x2x1_o0_0_0_S8x1x1) = pure (windowA c) := by
  unfold k0_part26
  simp only [windowA, windowB, Tri.first, Tri.popBy, putV, putI, blkOf, lo3, hi3, fold1, fold2, fold4, fold8, foldB, pop1, pop2, pop4, pop8, meet]

theorem part41_eq (arg2 harg2 arg3 harg3 arg4 harg4 arg5 harg5 arg6 harg6 arg7 harg7 arg8 harg8 arg9 harg9 arg10 harg10 arg11 arg12 v1321_r0 v1321_r1) (c : Cand F) :
    k0_part41 (F := F) i arg2 harg2 arg3 harg3 arg4 harg4 arg5 harg5 arg6 harg6 arg7 harg7 arg8 harg8 arg9 harg9 arg10 harg10 arg11 arg12 v1321_r0 v1321_r1 c.1 c.2.1 c.2.2 (swap1 c.1) (extractStridedSlice S8x1x1 ![0, 1, 0] (shapeCast S8x2x1 c.2.1 shapeCasts_S16_S8x2x1) slices_S8x2x1_o0_1_0_S8x1x1) (extractStridedSlice S8x1x1 ![0, 0, 0] (shapeCast S8x2x1 c.2.1 shapeCasts_S16_S8x2x1) slices_S8x2x1_o0_0_0_S8x1x1) = pure (windowA c) := by
  unfold k0_part41
  simp only [windowA, windowB, Tri.first, Tri.popBy, putV, putI, blkOf, lo3, hi3, fold1, fold2, fold4, fold8, foldB, pop1, pop2, pop4, pop8, meet]

theorem part27_eq (arg2 harg2 arg3 harg3 arg4 harg4 arg5 harg5 arg6 harg6 arg7 harg7 arg8 harg8 arg9 harg9 arg10 harg10 arg11 arg12 v1321_r0 v1321_r1) (x : Tri F) (c : Cand F) :
    k0_part27 (F := F) i arg2 harg2 arg3 harg3 arg4 harg4 arg5 harg5 arg6 harg6 arg7 harg7 arg8 harg8 arg9 harg9 arg10 harg10 arg11 arg12 v1321_r0 v1321_r1 negv x.t1 x.t2 x.t3 x.i1 x.i2 x.i3 x.p1 x.p2 x.p3 c.2.2 (swap4 c.2.2) (better (swap4 c.1) (swap4 c.2.1) c.1 c.2.1) (pop4 c).1 (pop4 c).2.1 = pure (let y := x.popBy (pop8 (pop4 c)).2.1; let d := pop1 y.first; ⟨(pop8 (pop4 c)).2.2, y.t1, y.i1, y.p1, y.t2, y.i2, y.p2, y.t3, d.1, d.2.1, d.2.2, swap2 d.1⟩) := by
  unfold k0_part27
  simp only [windowA, windowB, Tri.first, Tri.popBy, putV, putI, blkOf, lo3, hi3, fold1, fold2, fold4, fold8, foldB, pop1, pop2, pop4, pop8, meet]

theorem part28_eq (arg2 harg2 arg3 harg3 arg4 harg4 arg5 harg5 arg6 harg6 arg7 harg7 arg8 harg8 arg9 harg9 arg10 harg10 arg11 arg12 v1321_r0 v1321_r1) (c : Cand F) :
    k0_part28 (F := F) i arg2 harg2 arg3 harg3 arg4 harg4 arg5 harg5 arg6 harg6 arg7 harg7 arg8 harg8 arg9 harg9 arg10 harg10 arg11 arg12 v1321_r0 v1321_r1 c.1 c.2.1 c.2.2 (swap2 c.1) = pure (windowB (pop4 (pop2 c))) := by
  unfold k0_part28
  simp only [windowA, windowB, Tri.first, Tri.popBy, putV, putI, blkOf, lo3, hi3, fold1, fold2, fold4, fold8, foldB, pop1, pop2, pop4, pop8, meet]

theorem part34_eq (arg2 harg2 arg3 harg3 arg4 harg4 arg5 harg5 arg6 harg6 arg7 harg7 arg8 harg8 arg9 harg9 arg10 harg10 arg11 arg12 v1321_r0 v1321_r1) (c : Cand F) :
    k0_part34 (F := F) i arg2 harg2 arg3 harg3 arg4 harg4 arg5 harg5 arg6 harg6 arg7 harg7 arg8 harg8 arg9 harg9 arg10 harg10 arg11 arg12 v1321_r0 v1321_r1 c.1 c.2.1 c.2.2 (swap2 c.1) = pure (windowB (pop4 (pop2 c))) := by
  unfold k0_part34
  simp only [windowA, windowB, Tri.first, Tri.popBy, putV, putI, blkOf, lo3, hi3, fold1, fold2, fold4, fold8, foldB, pop1, pop2, pop4, pop8, meet]

theorem part38_eq (arg2 harg2 arg3 harg3 arg4 harg4 arg5 harg5 arg6 harg6 arg7 harg7 arg8 harg8 arg9 harg9 arg10 harg10 arg11 arg12 v1321_r0 v1321_r1) (c : Cand F) :
    k0_part38 (F := F) i arg2 harg2 arg3 harg3 arg4 harg4 arg5 harg5 arg6 harg6 arg7 harg7 arg8 harg8 arg9 harg9 arg10 harg10 arg11 arg12 v1321_r0 v1321_r1 c.1 c.2.1 c.2.2 (swap2 c.1) = pure (windowB (pop4 (pop2 c))) := by
  unfold k0_part38
  simp only [windowA, windowB, Tri.first, Tri.popBy, putV, putI, blkOf, lo3, hi3, fold1, fold2, fold4, fold8, foldB, pop1, pop2, pop4, pop8, meet]

theorem part29_eq (arg2 harg2 arg3 harg3 arg4 harg4 arg5 harg5 arg6 harg6 arg7 harg7 arg8 harg8 arg9 harg9 arg10 harg10 arg11 arg12 v1321_r0 v1321_r1) (y : Tri F) (c : Cand F) :
    k0_part29 (F := F) i arg2 harg2 arg3 harg3 arg4 harg4 arg5 harg5 arg6 harg6 arg7 harg7 arg8 harg8 arg9 harg9 arg10 harg10 arg11 arg12 v1321_r0 v1321_r1 negv y.i3 y.p3 y.t1 y.i1 y.p1 y.t2 y.i2 y.p2 y.t3 c.1 c.2.1 c.2.2 (swap8 c.1) (swap8 c.2.1) (swap8 c.2.2) (cmpf .ogt (swap8 c.1) c.1) (andi (cmpf .oeq (swap8 c.1) c.1) (cmpi .slt (swap8 c.2.1) c.2.1)) = pure (let z := y.popBy (pop8 c).2.1; let d := pop2 (pop1 z.first); ⟨(pop8 c).2.2, d.1, d.2.1, d.2.2, shapeCast S2x2x4 d.1 shapeCasts_S16_S2x2x4, (extractStridedSlice S2x1x4 ![0, 1, 0] (shapeCast S2x2x4 d.1 shapeCasts_S16_S2x2x4) slices_S2x2x4_o0_1_0_S2x1x4)⟩) := by
  unfold k0_part29
  simp only [windowA, windowB, Tri.first, Tri.popBy, putV, putI, blkOf, lo3, hi3, fold1, fold2, fold4, fold8, foldB, pop1, pop2, pop4, pop8, meet]

theorem part30_eq (arg2 harg2 arg3 harg3 arg4 harg4 arg5 harg5 arg6 harg6 arg7 harg7 arg8 harg8 arg9 harg9 arg10 harg10 arg11 arg12 v1321_r0 v1321_r1) (p q : IVec S16 32) (c : Cand F) :
    k0_part30 (F := F) i arg2 harg2 arg3 harg3 arg4 harg4 arg5 harg5 arg6 harg6 arg7 harg7 arg8 harg8 arg9 harg9 arg10 harg10 arg11 arg12 v1321_r0 v1321_r1 p q c.1 c.2.1 c.2.2 (shapeCast S2x2x4 c.1 shapeCasts_S16_S2x2x4) (extractStridedSlice S2x1x4 ![0, 1, 0] (shapeCast S2x2x4 c.1 shapeCasts_S16_S2x2x4) slices_S2x2x4_o0_1_0_S2x1x4) = pure (let r := (pop8 (pop4 c)).2.2; ⟨lo3 (blkOf p) (blkOf q) (blkOf r), hi3 (blkOf p) (blkOf q) (blkOf r), subi (addi (addi (blkOf p) (blkOf q)) (blkOf r)) (lo3 (blkOf p) (blkOf q) (blkOf r))⟩) := by
  unfold k0_part30
  simp only [windowA, windowB, Tri.first, Tri.popBy, putV, putI, blkOf, lo3, hi3, fold1, fold2, fold4, fold8, foldB, pop1, pop2, pop4, pop8, meet]

theorem part32_eq (arg2 harg2 arg3 harg3 arg4 harg4 arg5 harg5 arg6 harg6 arg7 harg7 arg8 harg8 arg9 harg9 arg10 harg10 arg11 arg12 v1321_r0 v1321_r1) (t x) :
    k0_part32 (F := F) i arg2 harg2 arg3 harg3 arg4 harg4 arg5 harg5 arg6 harg6 arg7 harg7 arg8 harg8 arg9 harg9 arg10 harg10 arg11 arg12 v1321_r0 v1321_r1 zerov t x (swap1 t) (swap1 x) (concatenate S8x2x1 1 [⟨S8x1x1, (extractStridedSlice S8x1x1 ![0, 1, 0] (shapeCast S8x2x1 zerov shapeCasts_S16_S8x2x1) slices_S8x2x1_o0_1_0_S8x1x1)⟩, ⟨S8x1x1, (extractStridedSlice S8x1x1 ![0, 0, 0] (shapeCast S8x2x1 zerov shapeCasts_S16_S8x2x1) slices_S8x2x1_o0_0_0_S8x1x1)⟩] concatenates_S8x1x1_S8x1x1_S8x2x1_d1) = pure (let c := pop4 (pop2 (pop1 (t, x, zerov))); ⟨c.1, c.2.1, c.2.2, swap8 c.1⟩) := by
  unfold k0_part32
  simp only [windowA, windowB, Tri.first, Tri.popBy, putV, putI, blkOf, lo3, hi3, fold1, fold2, fold4, fold8, foldB, pop1, pop2, pop4, pop8, meet]

theorem part33_eq (arg2 harg2 arg3 harg3 arg4 harg4 arg5 harg5 arg6 harg6 arg7 harg7 arg8 harg8 arg9 harg9 arg10 harg10 arg11 arg12 v1321_r0 v1321_r1) (x : Tri F) (a b) (c : Cand F) :
    k0_part33 (F := F) i arg2 harg2 arg3 harg3 arg4 harg4 arg5 harg5 arg6 harg6 arg7 harg7 arg8 harg8 arg9 harg9 arg10 harg10 arg11 arg12 v1321_r0 v1321_r1 lanes negv zerov x.t1 x.t2 x.t3 x.i1 x.i2 x.i3 a b c.1 c.2.1 c.2.2 (swap8 c.1) = pure (let y := x.popBy (pop8 c).2.1; let d := pop1 (y.t1, y.i1, zerov); ⟨putV 0#32 (pop8 c).1 a, putI 0#32 (pop8 c).2.1 b, y.t1, y.i1, y.t2, y.i2, y.t3, d.1, d.2.1, d.2.2, swap2 d.1⟩) := by
  unfold k0_part33
  simp only [windowA, windowB, Tri.first, Tri.popBy, putV, putI, blkOf, lo3, hi3, fold1, fold2, fold4, fold8, foldB, pop1, pop2, pop4, pop8, meet]

theorem part35_eq (arg2 harg2 arg3 harg3 arg4 harg4 arg5 harg5 arg6 harg6 arg7 harg7 arg8 harg8 arg9 harg9 arg10 harg10 arg11 arg12 v1321_r0 v1321_r1) (y : Tri F) (a b) (c : Cand F) :
    k0_part35 (F := F) i arg2 harg2 arg3 harg3 arg4 harg4 arg5 harg5 arg6 harg6 arg7 harg7 arg8 harg8 arg9 harg9 arg10 harg10 arg11 arg12 v1321_r0 v1321_r1 lanes negv zerov y.i3 a b y.t1 y.i1 y.t2 y.i2 y.t3 c.1 c.2.1 c.2.2 (swap8 c.1) (swap8 c.2.1) (swap8 c.2.2) (cmpf .ogt (swap8 c.1) c.1) (andi (cmpf .oeq (swap8 c.1) c.1) (cmpi .slt (swap8 c.2.1) c.2.1)) = pure (let z := y.popBy (pop8 c).2.1; let d := pop1 (z.t1, z.i1, zerov); ⟨putV 1#32 (pop8 c).1 a, putI 1#32 (pop8 c).2.1 b, d.1, d.2.1, d.2.2, swap2 d.1, swap2 d.2.1, swap2 d.2.2, cmpf .ogt (swap2 d.1) d.1, andi (cmpf .oeq (swap2 d.1) d.1) (cmpi .slt (swap2 d.2.1) d.2.1)⟩) := by
  unfold k0_part35
  simp only [windowA, windowB, Tri.first, Tri.popBy, putV, putI, blkOf, lo3, hi3, fold1, fold2, fold4, fold8, foldB, pop1, pop2, pop4, pop8, meet]

theorem part36_eq (arg2 harg2 arg3 harg3 arg4 harg4 arg5 harg5 arg6 harg6 arg7 harg7 arg8 harg8 arg9 harg9 arg10 harg10 arg11 arg12 v1321_r0 v1321_r1) (a b) (d : Cand F) :
    k0_part36 (F := F) i arg2 harg2 arg3 harg3 arg4 harg4 arg5 harg5 arg6 harg6 arg7 harg7 arg8 harg8 arg9 harg9 arg10 harg10 arg11 arg12 v1321_r0 v1321_r1 lanes a b d.1 d.2.1 d.2.2 (swap2 d.1) (swap2 d.2.1) (swap2 d.2.2) (cmpf .ogt (swap2 d.1) d.1) (andi (cmpf .oeq (swap2 d.1) d.1) (cmpi .slt (swap2 d.2.1) d.2.1)) = pure (let c := pop8 (pop4 (pop2 d)); ⟨putV 2#32 c.1 a, putI 2#32 c.2.1 b⟩) := by
  unfold k0_part36
  simp only [windowA, windowB, Tri.first, Tri.popBy, putV, putI, blkOf, lo3, hi3, fold1, fold2, fold4, fold8, foldB, pop1, pop2, pop4, pop8, meet]

theorem part39_eq (arg2 harg2 arg3 harg3 arg4 harg4 arg5 harg5 arg6 harg6 arg7 harg7 arg8 harg8 arg9 harg9 arg10 harg10 arg11 arg12 v1321_r0 v1321_r1) (x : Tri F) (c : Cand F) :
    k0_part39 (F := F) i arg2 harg2 arg3 harg3 arg4 harg4 arg5 harg5 arg6 harg6 arg7 harg7 arg8 harg8 arg9 harg9 arg10 harg10 arg11 arg12 v1321_r0 v1321_r1 negv x.t1 x.t2 x.t3 x.i1 x.i2 x.i3 x.p1 x.p2 x.p3 c.1 c.2.1 c.2.2 (swap8 c.1) (swap8 c.2.1) (swap8 c.2.2) (cmpf .ogt (swap8 c.1) c.1) (andi (cmpf .oeq (swap8 c.1) c.1) (cmpi .slt (swap8 c.2.1) c.2.1)) = pure (let y := x.popBy (pop8 c).2.1; let d := pop2 (pop1 y.first); ⟨(pop8 c).2.2, y.t1, y.i1, y.p1, y.t2, y.i2, y.p2, y.t3, d.1, d.2.1, d.2.2, shapeCast S2x2x4 d.1 shapeCasts_S16_S2x2x4, (extractStridedSlice S2x1x4 ![0, 1, 0] (shapeCast S2x2x4 d.1 shapeCasts_S16_S2x2x4) slices_S2x2x4_o0_1_0_S2x1x4)⟩) := by
  unfold k0_part39
  simp only [windowA, windowB, Tri.first, Tri.popBy, putV, putI, blkOf, lo3, hi3, fold1, fold2, fold4, fold8, foldB, pop1, pop2, pop4, pop8, meet]

theorem part40_eq (arg2 harg2 arg3 harg3 arg4 harg4 arg5 harg5 arg6 harg6 arg7 harg7 arg8 harg8 arg9 harg9 arg10 harg10 arg11 arg12 v1321_r0 v1321_r1) (y : Tri F) (c : Cand F) :
    k0_part40 (F := F) i arg2 harg2 arg3 harg3 arg4 harg4 arg5 harg5 arg6 harg6 arg7 harg7 arg8 harg8 arg9 harg9 arg10 harg10 arg11 arg12 v1321_r0 v1321_r1 negv y.i3 y.p3 y.t1 y.i1 y.p1 y.t2 y.i2 y.p2 y.t3 c.1 c.2.1 c.2.2 (shapeCast S2x2x4 c.1 shapeCasts_S16_S2x2x4) (extractStridedSlice S2x1x4 ![0, 1, 0] (shapeCast S2x2x4 c.1 shapeCasts_S16_S2x2x4) slices_S2x2x4_o0_1_0_S2x1x4) = pure (let z := y.popBy (pop8 (pop4 c)).2.1; ⟨(pop8 (pop4 c)).2.2, z.t1, z.i1, z.p1, swap1 z.t1, (extractStridedSlice S8x1x1 ![0, 1, 0] (shapeCast S8x2x1 z.i1 shapeCasts_S16_S8x2x1) slices_S8x2x1_o0_1_0_S8x1x1), (extractStridedSlice S8x1x1 ![0, 0, 0] (shapeCast S8x2x1 z.i1 shapeCasts_S16_S8x2x1) slices_S8x2x1_o0_0_0_S8x1x1)⟩) := by
  unfold k0_part40
  simp only [windowA, windowB, Tri.first, Tri.popBy, putV, putI, blkOf, lo3, hi3, fold1, fold2, fold4, fold8, foldB, pop1, pop2, pop4, pop8, meet]

theorem part44_eq (arg2 harg2 arg3 harg3 arg4 harg4 arg5 harg5 arg6 harg6 arg7 harg7 arg8 harg8 arg9 harg9 arg10 harg10 arg11 arg12 v1321_r0 v1321_r1) (d : Cand F) :
    k0_part44 (F := F) i arg2 harg2 arg3 harg3 arg4 harg4 arg5 harg5 arg6 harg6 arg7 harg7 arg8 harg8 arg9 harg9 arg10 harg10 arg11 arg12 v1321_r0 v1321_r1 d.1 d.2.1 d.2.2 (swap2 d.1) (swap2 d.2.1) (shapeCast S4x2x2 d.2.2 shapeCasts_S16_S4x2x2) = pure (let c := pop8 (pop4 (pop2 d)); ⟨c.1, c.2.1, broadcast S16 0#32⟩) := by
  unfold k0_part44
  simp only [windowA, windowB, Tri.first, Tri.popBy, putV, putI, blkOf, lo3, hi3, fold1, fold2, fold4, fold8, foldB, pop1, pop2, pop4, pop8, meet]

theorem part45_eq (arg2 harg2 arg3 harg3 arg4 harg4 arg5 harg5 arg6 harg6 arg7 harg7 arg8 harg8 arg9 harg9 arg10 harg10 arg11 arg12 v1321_r0 v1321_r1) (x : Tri F) (a b v w) :
    k0_part45 (F := F) i arg2 harg2 arg3 harg3 arg4 harg4 arg5 harg5 arg6 harg6 arg7 harg7 arg8 harg8 arg9 harg9 arg10 harg10 arg11 arg12 v1321_r0 v1321_r1 lanes negv zerov x.t1 x.t2 x.t3 x.i1 x.i2 x.i3 a b v w (broadcast S16 0#32) = pure (let y := x.popBy w; let d := pop2 (pop1 (y.t1, y.i1, zerov)); ⟨putV 0#32 v a, putI 0#32 w b, y.t1, y.i1, y.t2, y.i2, y.t3, d.1, d.2.1, d.2.2, shapeCast S2x2x4 d.1 shapeCasts_S16_S2x2x4, (extractStridedSlice S2x1x4 ![0, 1, 0] (shapeCast S2x2x4 d.1 shapeCasts_S16_S2x2x4) slices_S2x2x4_o0_1_0_S2x1x4)⟩) := by
  unfold k0_part45
  simp only [windowA, windowB, Tri.first, Tri.popBy, putV, putI, blkOf, lo3, hi3, fold1, fold2, fold4, fold8, foldB, pop1, pop2, pop4, pop8, meet]

theorem part46_eq (arg2 harg2 arg3 harg3 arg4 harg4 arg5 harg5 arg6 harg6 arg7 harg7 arg8 harg8 arg9 harg9 arg10 harg10 arg11 arg12 v1321_r0 v1321_r1) (y : Tri F) (a b) (c : Cand F) :
    k0_part46 (F := F) i arg2 harg2 arg3 harg3 arg4 harg4 arg5 harg5 arg6 harg6 arg7 harg7 arg8 harg8 arg9 harg9 arg10 harg10 arg11 arg12 v1321_r0 v1321_r1 lanes negv y.i3 a b y.t1 y.i1 y.t2 y.i2 y.t3 c.1 c.2.1 c.2.2 (shapeCast S2x2x4 c.1 shapeCasts_S16_S2x2x4) (extractStridedSlice S2x1x4 ![0, 1, 0] (shapeCast S2x2x4 c.1 shapeCasts_S16_S2x2x4) slices_S2x2x4_o0_1_0_S2x1x4) = pure (let e := pop8 (pop4 c); let z := y.popBy e.2.1; ⟨putV 1#32 e.1 a, putI 1#32 e.2.1 b, z.t1, z.i1, shapeCast S8x2x1 z.t1 shapeCasts_S16_S8x2x1, (extractStridedSlice S8x1x1 ![0, 1, 0] (shapeCast S8x2x1 z.t1 shapeCasts_S16_S8x2x1) slices_S8x2x1_o0_1_0_S8x1x1)⟩) := by
  unfold k0_part46
  simp only [windowA, windowB, Tri.first, Tri.popBy, putV, putI, blkOf, lo3, hi3, fold1, fold2, fold4, fold8, foldB, pop1, pop2, pop4, pop8, meet]

theorem part47_eq (arg2 harg2 arg3 harg3 arg4 harg4 arg5 harg5 arg6 harg6 arg7 harg7 arg8 harg8 arg9 harg9 arg10 harg10 arg11 arg12 v1321_r0 v1321_r1) (t x) :
    k0_part47 (F := F) i arg2 harg2 arg3 harg3 arg4 harg4 arg5 harg5 arg6 harg6 arg7 harg7 arg8 harg8 arg9 harg9 arg10 harg10 arg11 arg12 v1321_r0 v1321_r1 zerov t x (shapeCast S8x2x1 t shapeCasts_S16_S8x2x1) (extractStridedSlice S8x1x1 ![0, 1, 0] (shapeCast S8x2x1 t shapeCasts_S16_S8x2x1) slices_S8x2x1_o0_1_0_S8x1x1) = pure (let c := pop2 (pop1 (t, x, zerov)); ⟨c.1, c.2.1, c.2.2, swap4 c.1, swap4 c.2.1, swap4 c.2.2, cmpf .ogt (swap4 c.1) c.1⟩) := by
  unfold k0_part47
  simp only [windowA, windowB, Tri.first, Tri.popBy, putV, putI, blkOf, lo3, hi3, fold1, fold2, fold4, fold8, foldB, pop1, pop2, pop4, pop8, meet]

end Programs

end Cert.Proof
-- ==== Proof.BodyEq.lean ====
module

public import proofs.«01_k».proof.Proof.Windows

/-! The printed SparseCore body is the clean one. -/

@[expose] public section

namespace Cert.Proof

open Cert.KernelIdeal Cert.KernelIdeal.Gen Idealize.ShloMosaic Idealize.SL.Sem

variable {F : FTy → Type} [FloatOps F]

section Programs
variable (i : grid0.Coords)

theorem blockGo_add (row) (b : Fin k0_t1_loop.trips) (j n m : Nat) (h : j + (n + m) ≤ 32) (a : Run F) :
    blockGo i row b j (n + m) h a =
      blockGo i row b j n (by omega) a >>= blockGo i row b (j + n) m (by omega) := by
  induction m with
  | zero => exact (bind_pure _).symm
  | succ m ih =>
    show (blockGo i row b j (n + m) _ a >>= fun a => ld i row b (j + (n + m)) _ >>= fun v => pure (a.step (asV v))) = _
    rw [ih (by omega), bind_assoc]
    simp only [← Nat.add_assoc]
    rfl

theorem part1_eq (arg2 harg2 arg3 harg3 arg4 harg4 arg5 harg5 arg6 harg6 arg7 harg7 arg8 harg8 arg9 harg9 arg10 harg10 arg11 arg12 v1321_r0 v1321_r1) (b : Fin k0_t1_loop.trips) :
    k0_part1 (F := F) i arg2 harg2 arg3 harg3 arg4 harg4 arg5 harg5 arg6 harg6 arg7 harg7 arg8 harg8 arg9 harg9 arg10 harg10 arg11 arg12 v1321_r0 v1321_r1 lanes negv zerov 0#32 1#32 b = (do
      let a ← blockGo i arg5 b 0 4 (by decide) (negv, zerov, addi lanes (broadcast S16 (Scalar.muli (cnt b) 512#32)))
      pure ⟨cnt b, a.1, a.2.1, a.2.2, Scalar.muli (cnt b) 512#32, 64#32⟩) := rfl

theorem part13_eq (arg2 harg2 arg3 harg3 arg4 harg4 arg5 harg5 arg6 harg6 arg7 harg7 arg8 harg8 arg9 harg9 arg10 harg10 arg11 arg12 v1321_r0 v1321_r1) :
    k0_part13 (F := F) i arg2 harg2 arg3 harg3 arg4 harg4 arg5 harg5 arg6 harg6 arg7 harg7 arg8 harg8 arg9 harg9 arg10 harg10 arg11 arg12 v1321_r0 v1321_r1 = k0_part1 i arg2 harg2 arg3 harg3 arg4 harg4 arg6 harg6 arg5 harg5 arg7 harg7 arg8 harg8 arg9 harg9 arg10 harg10 arg11 arg12 v1321_r0 v1321_r1 := rfl

theorem part2_eq (arg2 harg2 arg3 harg3 arg4 harg4 arg5 harg5 arg6 harg6 arg7 harg7 arg8 harg8 arg9 harg9 arg10 harg10 arg11 arg12 v1321_r0 v1321_r1) (b : Fin k0_t1_loop.trips) (t x iv w z) :
    k0_part2 (F := F) i arg2 harg2 arg3 harg3 arg4 harg4 arg5 harg5 arg6 harg6 arg7 harg7 arg8 harg8 arg9 harg9 arg10 harg10 arg11 arg12 v1321_r0 v1321_r1 b (cnt b) t x iv w z = (do
      let a ← blockGo i arg5 b 4 4 (by decide) (t, x, iv)
      let v ← ld i arg5 b 8 (by decide)
      pure ⟨a.2.2, (a.step (asV v)).1, (a.step (asV v)).2.1, 16#32⟩) := rfl

theorem part14_eq (arg2 harg2 arg3 harg3 arg4 harg4 arg5 harg5 arg6 harg6 arg7 harg7 arg8 harg8 arg9 harg9 arg10 harg10 arg11 arg12 v1321_r0 v1321_r1) :
    k0_part14 (F := F) i arg2 harg2 arg3 harg3 arg4 harg4 arg5 harg5 arg6 harg6 arg7 harg7 arg8 harg8 arg9 harg9 arg10 harg10 arg11 arg12 v1321_r0 v1321_r1 = k0_part2 i arg2 harg2 arg3 harg3 arg4 harg4 arg6 harg6 arg5 harg5 arg7 harg7 arg8 harg8 arg9 harg9 arg10 harg10 arg11 arg12 v1321_r0 v1321_r1 := rfl

theorem part3_eq (arg2 harg2 arg3 harg3 arg4 harg4 arg5 harg5 arg6 harg6 arg7 harg7 arg8 harg8 arg9 harg9 arg10 harg10 arg11 arg12 v1321_r0 v1321_r1) (b : Fin k0_t1_loop.trips) (iv t x) :
    k0_part3 (F := F) i arg2 harg2 arg3 harg3 arg4 harg4 arg5 harg5 arg6 harg6 arg7 harg7 arg8 harg8 arg9 harg9 arg10 harg10 arg11 arg12 v1321_r0 v1321_r1 b (cnt b) iv t x 16#32 = (do
      let a ← blockGo i arg5 b 9 4 (by decide) (t, x, addi iv (broadcast S16 16#32))
      let v ← ld i arg5 b 13 (by decide)
      pure ⟨a.1, a.2.1, a.2.2, v⟩) := rfl

theorem part15_eq (arg2 harg2 arg3 harg3 arg4 harg4 arg5 harg5 arg6 harg6 arg7 harg7 arg8 harg8 arg9 harg9 arg10 harg10 arg11 arg12 v1321_r0 v1321_r1) :
    k0_part15 (F := F) i arg2 harg2 arg3 harg3 arg4 harg4 arg5 harg5 arg6 harg6 arg7 harg7 arg8 harg8 arg9 harg9 arg10 harg10 arg11 arg12 v1321_r0 v1321_r1 = k0_part3 i arg2 harg2 arg3 harg3 arg4 harg4 arg6 harg6 arg5 harg5 arg7 harg7 arg8 harg8 arg9 harg9 arg10 harg10 arg11 arg12 v1321_r0 v1321_r1 := rfl

theorem part4_eq (arg2 harg2 arg3 harg3 arg4 harg4 arg5 harg5 arg6 harg6 arg7 harg7 arg8 harg8 arg9 harg9 arg10 harg10 arg11 arg12 v1321_r0 v1321_r1) (b : Fin k0_t1_loop.trips) (t x iv v) :
    k0_part4 (F := F) i arg2 harg2 arg3 harg3 arg4 harg4 arg5 harg5 arg6 harg6 arg7 harg7 arg8 harg8 arg9 harg9 arg10 harg10 arg11 arg12 v1321_r0 v1321_r1 b (cnt b) t x iv v = (do
      let a ← blockGo i arg5 b 14 4 (by decide) (Run.step (t, x, iv) (asV v))
      pure ⟨a.1, a.2.1, a.2.2, 512#32⟩) := rfl

theorem part16_eq (arg2 harg2 arg3 harg3 arg4 harg4 arg5 harg5 arg6 harg6 arg7 harg7 arg8 harg8 arg9 harg9 arg10 harg10 arg11 arg12 v1321_r0 v1321_r1) :
    k0_part16 (F := F) i arg2 harg2 arg3 harg3 arg4 harg4 arg5 harg5 arg6 harg6 arg7 harg7 arg8 harg8 arg9 harg9 arg10 harg10 arg11 arg12 v1321_r0 v1321_r1 = k0_part4 i arg2 harg2 arg3 harg3 arg4 harg4 arg6 harg6 arg5 harg5 arg7 harg7 arg8 harg8 arg9 harg9 arg10 harg10 arg11 arg12 v1321_r0 v1321_r1 := rfl

theorem part5_eq (arg2 harg2 arg3 harg3 arg4 harg4 arg5 harg5 arg6 harg6 arg7 harg7 arg8 harg8 arg9 harg9 arg10 harg10 arg11 arg12 v1321_r0 v1321_r1) (b : Fin k0_t1_loop.trips) (t x iv w) :
    k0_part5 (F := F) i arg2 harg2 arg3 harg3 arg4 harg4 arg5 harg5 arg6 harg6 arg7 harg7 arg8 harg8 arg9 harg9 arg10 harg10 arg11 arg12 v1321_r0 v1321_r1 b (cnt b) t x iv w = (do
      let a ← blockGo i arg5 b 18 4 (by decide) (t, x, iv)
      let v ← ld i arg5 b 22 (by decide)
      pure ⟨a.2.1, a.2.2, cmpf .ogt (asV v) a.1, (a.step (asV v)).1⟩) := rfl

theorem part17_eq (arg2 harg2 arg3 harg3 arg4 harg4 arg5 harg5 arg6 harg6 arg7 harg7 arg8 harg8 arg9 harg9 arg10 harg10 arg11 arg12 v1321_r0 v1321_r1) :
    k0_part17 (F := F) i arg2 harg2 arg3 harg3 arg4 harg4 arg5 harg5 arg6 harg6 arg7 harg7 arg8 harg8 arg9 harg9 arg10 harg10 arg11 arg12 v1321_r0 v1321_r1 = k0_part5 i arg2 harg2 arg3 harg3 arg4 harg4 arg6 harg6 arg5 harg5 arg7 harg7 arg8 harg8 arg9 harg9 arg10 harg10 arg11 arg12 v1321_r0 v1321_r1 := rfl

theorem part6_eq (arg2 harg2 arg3 harg3 arg4 harg4 arg5 harg5 arg6 harg6 arg7 harg7 arg8 harg8 arg9 harg9 arg10 harg10 arg11 arg12 v1321_r0 v1321_r1) (b : Fin k0_t1_loop.trips) (x iv m t) :
    k0_part6 (F := F) i arg2 harg2 arg3 harg3 arg4 harg4 arg5 harg5 arg6 harg6 arg7 harg7 arg8 harg8 arg9 harg9 arg10 harg10 arg11 arg12 v1321_r0 v1321_r1 b (cnt b) x iv m t = (do
      let a ← blockGo i arg5 b 23 4 (by decide) (t, select m iv x, addi iv (broadcast S16 16#32))
      pure ⟨a.1, a.2.1, a.2.2, Scalar.addi (Scalar.muli (cnt b) 512#32) 432#32⟩) := rfl

theorem part18_eq (arg2 harg2 arg3 harg3 arg4 harg4 arg5 harg5 arg6 harg6 arg7 harg7 arg8 harg8 arg9 harg9 arg10 harg10 arg11 arg12 v1321_r0 v1321_r1) :
    k0_part18 (F := F) i arg2 harg2 arg3 harg3 arg4 harg4 arg5 harg5 arg6 harg6 arg7 harg7 arg8 harg8 arg9 harg9 arg10 harg10 arg11 arg12 v1321_r0 v1321_r1 = k0_part6 i arg2 harg2 arg3 harg3 arg4 harg4 arg6 harg6 arg5 harg5 arg7 harg7 arg8 harg8 arg9 harg9 arg10 harg10 arg11 arg12 v1321_r0 v1321_r1 := rfl

theorem part7_eq (arg2 harg2 arg3 harg3 arg4 harg4 arg5 harg5 arg6 harg6 arg7 harg7 arg8 harg8 arg9 harg9 arg10 harg10 arg11 arg12 v1321_r0 v1321_r1) (b : Fin k0_t1_loop.trips) (t x iv w) :
    k0_part7 (F := F) i arg2 harg2 arg3 harg3 arg4 harg4 arg5 harg5 arg6 harg6 arg7 harg7 arg8 harg8 arg9 harg9 arg10 harg10 arg11 arg12 v1321_r0 v1321_r1 b (cnt b) t x iv w = (do
      let a ← blockGo i arg5 b 27 4 (by decide) (t, x, iv)
      let v ← ld i arg5 b 31 (by decide)
      pure ⟨a.2.2, (a.step (asV v)).1, (a.step (asV v)).2.1, broadcast S16 16#32⟩) := rfl

theorem part19_eq (arg2 harg2 arg3 harg3 arg4 harg4 arg5 harg5 arg6 harg6 arg7 harg7 arg8 harg8 arg9 harg9 arg10 harg10 arg11 arg12 v1321_r0 v1321_r1) :
    k0_part19 (F := F) i arg2 harg2 arg3 harg3 arg4 harg4 arg5 harg5 arg6 harg6 arg7 harg7 arg8 harg8 arg9 harg9 arg10 harg10 arg11 arg12 v1321_r0 v1321_r1 = k0_part7 i arg2 harg2 arg3 harg3 arg4 harg4 arg6 harg6 arg5 harg5 arg7 harg7 arg8 harg8 arg9 harg9 arg10 harg10 arg11 arg12 v1321_r0 v1321_r1 := rfl

/-- The 32 vectors of a block, cut where the printed program's windows are cut. -/
theorem blockGo_cut (row) (b : Fin k0_t1_loop.trips) (a : Run F) :
    blockGo i row b 0 32 (le_refl _) a = (do
      let a ← blockGo i row b 0 4 (by decide) a
      let a ← blockGo i row b 4 4 (by decide) a
      let v ← ld i row b 8 (by decide)
      let a ← blockGo i row b 9 4 (by decide) (a.step (asV v))
      let v ← ld i row b 13 (by decide)
      let a ← blockGo i row b 14 4 (by decide) (a.step (asV v))
      let a ← blockGo i row b 18 4 (by decide) a
      let v ← ld i row b 22 (by decide)
      let a ← blockGo i row b 23 4 (by decide) (a.step (asV v))
      let a ← blockGo i row b 27 4 (by decide) a
      let v ← ld i row b 31 (by decide)
      pure (a.step (asV v))) := by
  have one : ∀ (j : Nat) (h : j + 1 ≤ 32) (a : Run F), blockGo i row b j 1 h a = ld i row b j h >>= fun v => pure (a.step (asV v)) :=
    fun _ _ _ => rfl
  have cut : ∀ (j n m k l : Nat) (hk : n + m = k) (hl : j + n = l) (h : j + k ≤ 32) (a : Run F), blockGo i row b j k h a =
      blockGo i row b j n (by omega) a >>= blockGo i row b l m (by omega) := by
    intro j n m k l hk hl h a
    subst hk hl
    exact blockGo_add i row b j n m h a
  rw [cut 0 4 28 32 4 rfl rfl]
  refine congrArg _ (funext fun a => ?_)
  rw [cut 4 4 24 28 8 rfl rfl]
  refine congrArg _ (funext fun a => ?_)
  rw [cut 8 1 23 24 9 rfl rfl, one, bind_assoc]
  refine congrArg _ (funext fun v => ?_)
  rw [pure_bind, cut 9 4 19 23 13 rfl rfl]
  refine congrArg _ (funext fun a => ?_)
  rw [cut 13 1 18 19 14 rfl rfl, one, bind_assoc]
  refine congrArg _ (funext fun v => ?_)
  rw [pure_bind, cut 14 4 14 18 18 rfl rfl]
  refine congrArg _ (funext fun a => ?_)
  rw [cut 18 4 10 14 22 rfl rfl]
  refine congrArg _ (funext fun a => ?_)
  rw [cut 22 1 9 10 23 rfl rfl, one, bind_assoc]
  refine congrArg _ (funext fun v => ?_)
  rw [pure_bind, cut 23 4 5 9 27 rfl rfl]
  refine congrArg _ (funext fun a => ?_)
  rw [cut 27 4 1 5 31 rfl rfl]
  refine congrArg _ (funext fun a => ?_)
  rw [one]

set_option maxHeartbeats 1000000 in
theorem part25_eq (arg2 harg2 arg3 harg3 arg4 harg4 arg5 harg5 arg6 harg6 arg7 harg7 arg8 harg8 arg9 harg9 arg10 harg10 arg11 arg12 v1321_r0 v1321_r1) :
    k0_part25 (F := F) i arg2 harg2 arg3 harg3 arg4 harg4 arg5 harg5 arg6 harg6 arg7 harg7 arg8 harg8 arg9 harg9 arg10 harg10 arg11 arg12 v1321_r0 v1321_r1 = (do
       Prog.lift (.enqueueDma (xrow arg2 (k0_off1 i) (k0_off1_inb i)) (.here arg5) (.dma arg11.sem) ((View.wordExact_bits rfl).reshape _ _) harg5.wordExact ⟨Or.inl rfl, trivial⟩)
       Prog.lift (.enqueueDma (xrow arg2 (k0_off2 i) (k0_off2_inb i)) (.here arg6) (.dma arg12.sem) ((View.wordExact_bits rfl).reshape _ _) harg6.wordExact ⟨Or.inl rfl, trivial⟩)
       Prog.lift (.waitDma2 arg11.sem (xrow arg2 (k0_off1 i) (k0_off1_inb i)) arg5 ((View.wordExact_bits rfl).reshape _ _) harg5.wordExact)
       Scf.Loop.for k0_t1_loop k0_t1_ok ⟨⟩ fun b _ => blockBody i arg5 arg7 arg8 b
       let a ← Scf.Loop.for k0_t2_loop k0_t2_ok Tri.none.tup fun k a => sumBody i arg7 arg8 k a
       pure ⟨lanes, negv, zerov, (tri a).t1, (tri a).t2, (tri a).t3, (tri a).i1, (tri a).i2, (tri a).i3, (tri a).p1, (tri a).p2, (tri a).p3,
         swap1 (tri a).t1, extractStridedSlice S8x1x1 ![0, 1, 0] (shapeCast S8x2x1 (tri a).i1 shapeCasts_S16_S8x2x1) slices_S8x2x1_o0_1_0_S8x1x1,
         extractStridedSlice S8x1x1 ![0, 0, 0] (shapeCast S8x2x1 (tri a).i1 shapeCasts_S16_S8x2x1) slices_S8x2x1_o0_0_0_S8x1x1⟩) := by
  unfold k0_part25
  simp only [bind_assoc, pure_bind]
  refine congrArg _ (funext fun _ => ?_)
  refine congrArg _ (funext fun _ => ?_)
  refine congrArg _ (funext fun _ => ?_)
  refine congr (congrArg _ ?_) (funext fun _ => ?_)
  · refine congrArg _ (funext fun b => funext fun _ => ?_)
    unfold blockBody
    rw [blockGo_cut]
    simp only [part1_eq, part2_eq, part3_eq, part4_eq, part5_eq, part6_eq, part7_eq, bind_assoc, pure_bind]
    rfl
  · refine congr (congrArg _ ?_) ?_
    · refine congrArg _ (funext fun b => funext fun _ => ?_)
      rfl
    · rfl

theorem part31_eq (arg2 harg2 arg3 harg3 arg4 harg4 arg5 harg5 arg6 harg6 arg7 harg7 arg8 harg8 arg9 harg9 arg10 harg10 arg11 arg12 v1321_r0 v1321_r1) (lo hi s : IVec S16 32) :
    k0_part31 (F := F) i arg2 harg2 arg3 harg3 arg4 harg4 arg5 harg5 arg6 harg6 arg7 harg7 arg8 harg8 arg9 harg9 arg10 harg10 arg11 arg12 v1321_r0 v1321_r1 lanes negv zerov lo hi s = (do
      let x ← scan i arg5 .none (lane0 lo) Tri.none
      let x ← scan i arg5 (.some (cmpi .ne (subi s hi) lo)) (lane0 (subi s hi)) x
      let x ← scan i arg5 (.some (cmpi .ne hi (subi s hi))) (lane0 hi) x
      pure ⟨x.t1, x.t2, x.t3, x.i1, x.i2, x.i3, fzerov, zerov, swap1 x.t1, swap1 x.i1,
        concatenate S8x2x1 1 [⟨S8x1x1, (extractStridedSlice S8x1x1 ![0, 1, 0] (shapeCast S8x2x1 zerov shapeCasts_S16_S8x2x1) slices_S8x2x1_o0_1_0_S8x1x1)⟩, ⟨S8x1x1, (extractStridedSlice S8x1x1 ![0, 0, 0] (shapeCast S8x2x1 zerov shapeCasts_S16_S8x2x1) slices_S8x2x1_o0_0_0_S8x1x1)⟩] concatenates_S8x1x1_S8x1x1_S8x2x1_d1⟩) := by
  unfold k0_part31
  simp only [fold1, scan, scanWith, inRow, bind_assoc, pure_bind]
  rfl

theorem part42_eq (arg2 harg2 arg3 harg3 arg4 harg4 arg5 harg5 arg6 harg6 arg7 harg7 arg8 harg8 arg9 harg9 arg10 harg10 arg11 arg12 v1321_r0 v1321_r1) (p q) (d : Cand F) :
    k0_part42 (F := F) i arg2 harg2 arg3 harg3 arg4 harg4 arg5 harg5 arg6 harg6 arg7 harg7 arg8 harg8 arg9 harg9 arg10 harg10 arg11 arg12 v1321_r0 v1321_r1 lanes negv zerov p q d.2.2 (swap4 d.2.2) (better (swap4 d.1) (swap4 d.2.1) d.1 d.2.1) (pop4 d).1 (pop4 d).2.1 = (do
      let r := (pop8 (pop4 d)).2.2
      let lo := lo3 (blkOf p) (blkOf q) (blkOf r)
      let mid := mid3 (blkOf p) (blkOf q) (blkOf r)
      let hi := hi3 (blkOf p) (blkOf q) (blkOf r)
      let x ← scan i arg6 .none (lane0 lo) Tri.none
      let h ← inRow i (lane0 mid)
      pure ⟨hi, cmpi .ne mid lo, cmpi .ne hi mid, x.t1, x.t2, x.t3, x.i1, x.i2, x.i3, lane0 mid, h.down, 512#32⟩) := by
  unfold k0_part42
  simp only [windowA, windowB, Tri.first, Tri.popBy, putV, putI, blkOf, lo3, mid3, hi3, fold1, fold2, fold4, fold8, foldB, pop1, pop2, pop4, pop8, meet, scan, scanWith, inRow, storeRow, bind_assoc, pure_bind]
  rfl

theorem part43_eq (arg2 harg2 arg3 harg3 arg4 harg4 arg5 harg5 arg6 harg6 arg7 harg7 arg8 harg8 arg9 harg9 arg10 harg10 arg11 arg12 v1321_r0 v1321_r1) (hi m1 m2) (x : Tri F) (blk h) :
    k0_part43 (F := F) i arg2 harg2 arg3 harg3 arg4 harg4 arg5 harg5 arg6 harg6 arg7 harg7 arg8 harg8 arg9 harg9 arg10 harg10 arg11 arg12 v1321_r0 v1321_r1 lanes zerov hi m1 m2 x.t1 x.t2 x.t3 x.i1 x.i2 x.i3 blk h 512#32 = (do
      let x ← scanWith i arg6 (.some m1) blk h x
      let x ← scan i arg6 (.some m2) (lane0 hi) x
      let d := pop1 (x.t1, x.i1, zerov)
      pure ⟨x.t1, x.t2, x.t3, x.i1, x.i2, x.i3, fzerov, zerov, d.1, d.2.1, d.2.2, swap2 d.1, swap2 d.2.1, shapeCast S4x2x2 d.2.2 shapeCasts_S16_S4x2x2⟩) := by
  unfold k0_part43
  simp only [windowA, windowB, Tri.first, Tri.popBy, putV, putI, blkOf, lo3, mid3, hi3, fold1, fold2, fold4, fold8, foldB, pop1, pop2, pop4, pop8, meet, scan, scanWith, inRow, storeRow, bind_assoc, pure_bind]
  rfl

set_option maxHeartbeats 1000000 in
theorem part48_eq (arg2 harg2 arg3 harg3 arg4 harg4 arg5 harg5 arg6 harg6 arg7 harg7 arg8 harg8 arg9 harg9 arg10 harg10 arg11 arg12 v1321_r0 v1321_r1) (a b) (c : Cand F) :
    k0_part48 (F := F) i arg2 harg2 arg3 harg3 arg4 harg4 arg5 harg5 arg6 harg6 arg7 harg7 arg8 harg8 arg9 harg9 arg10 harg10 arg11 arg12 v1321_r0 v1321_r1 lanes a b c.1 c.2.1 c.2.2 (swap4 c.1) (swap4 c.2.1) (swap4 c.2.2) (cmpf .ogt (swap4 c.1) c.1) = (do
      let e := pop8 (pop4 c)
      storeRow i arg9 arg10 ![1, 0] inb_S2x16_S1x16_1_0 (putV 2#32 e.1 a) (putI 2#32 e.2.1 b)
      Prog.lift (.enqueueDma arg9 (.here (orow i arg3)) (.dma v1321_r0.sem) harg9.wordExact (View.wordExact_bits rfl) ⟨Or.inl rfl, trivial⟩)
      pure ⟨⟩) := by
  unfold k0_part48
  simp only [windowA, windowB, Tri.first, Tri.popBy, putV, putI, blkOf, lo3, mid3, hi3, fold1, fold2, fold4, fold8, foldB, pop1, pop2, pop4, pop8, meet, scan, scanWith, inRow, storeRow, bind_assoc, pure_bind]

set_option maxHeartbeats 1000000 in
theorem part37_eq (arg2 harg2 arg3 harg3 arg4 harg4 arg5 harg5 arg6 harg6 arg7 harg7 arg8 harg8 arg9 harg9 arg10 harg10 arg11 arg12 v1321_r0 v1321_r1) (v w) :
    k0_part37 (F := F) i arg2 harg2 arg3 harg3 arg4 harg4 arg5 harg5 arg6 harg6 arg7 harg7 arg8 harg8 arg9 harg9 arg10 harg10 arg11 arg12 v1321_r0 v1321_r1 lanes negv zerov v w = (do
       storeRow i arg9 arg10 ![0, 0] inb_S2x16_S1x16_0_0 v w
       Prog.lift (.waitDma2 arg12.sem (xrow arg2 (k0_off9 i) (k0_off9_inb i)) arg6 ((View.wordExact_bits rfl).reshape _ _) harg6.wordExact)
       Scf.Loop.for k0_t1_loop k0_t1_ok ⟨⟩ fun b _ => blockBody i arg6 arg7 arg8 b
       let a ← Scf.Loop.for k0_t2_loop k0_t2_ok Tri.none.tup fun k a => sumBody i arg7 arg8 k a
       pure (let d := pop1 (tri a).first
         ⟨(tri a).t1, (tri a).t2, (tri a).t3, (tri a).i1, (tri a).i2, (tri a).i3, (tri a).p1, (tri a).p2, (tri a).p3,
         d.1, d.2.1, d.2.2, swap2 d.1⟩)) := by
  unfold k0_part37
  simp only [storeRow, bind_assoc, pure_bind]
  refine congrArg _ (funext fun _ => ?_)
  refine congrArg _ (funext fun _ => ?_)
  refine congrArg _ (funext fun _ => ?_)
  refine congrArg _ (funext fun _ => ?_)
  refine congrArg _ (funext fun _ => ?_)
  refine congr (congrArg _ ?_) (funext fun _ => ?_)
  · refine congrArg _ (funext fun b => funext fun _ => ?_)
    unfold blockBody
    rw [blockGo_cut]
    simp only [part13_eq, part14_eq, part15_eq, part16_eq, part17_eq, part18_eq, part19_eq, part1_eq, part2_eq, part3_eq, part4_eq, part5_eq, part6_eq, part7_eq, bind_assoc, pure_bind]
    rfl
  · refine congr (congrArg _ ?_) ?_
    · refine congrArg _ (funext fun b => funext fun _ => ?_)
      rfl
    · rfl

theorem popFold (x : Tri F) : x.popBy (pop8 (pop4 (pop2 (pop1 x.first)))).2.1 = x.pop := rfl

theorem popFold0 (x : Tri F) : x.popBy (pop8 (pop4 (pop2 (pop1 (x.t1, x.i1, zerov))))).2.1 = x.pop0 := rfl

set_option maxHeartbeats 2000000 in
/-- The body is the program written with the functions above. -/
theorem body_eq (arg2 harg2 arg3 harg3 arg4 harg4 arg5 harg5 arg6 harg6 arg7 harg7 arg8 harg8 arg9 harg9 arg10 harg10 arg11 arg12 v1321_r0 v1321_r1) :
    cc0__sc_kernel_body (F := F) i arg2 harg2 arg3 harg3 arg4 harg4 arg5 harg5 arg6 harg6 arg7 harg7 arg8 harg8 arg9 harg9 arg10 harg10 arg11 arg12 v1321_r0 v1321_r1 = tileProg i arg5 arg7 arg8 arg9 arg10 arg2 arg3 arg4 arg6 harg5 harg6 harg9 harg10 arg11 arg12 v1321_r0 v1321_r1 := by
  unfold cc0__sc_kernel_body tileProg rowProg
  rw [part25_eq]
  simp only [bind_assoc, pure_bind]
  refine congrArg _ (funext fun _ => ?_)
  refine congrArg _ (funext fun _ => ?_)
  refine congrArg _ (funext fun _ => ?_)
  refine congrArg _ (funext fun _ => ?_)
  refine congrArg _ (funext fun a => ?_)
  generalize tri a = x
  rw [part26_eq (c := x.first), pure_bind]
  dsimp only [popFold, popFold0]
  rw [part27_eq (x := x) (c := pop2 (pop1 x.first)), pure_bind]
  dsimp only [popFold, popFold0]
  rw [part28_eq (c := pop1 x.pop.first), pure_bind]
  dsimp only [popFold, popFold0]
  rw [show x.i3 = x.pop.i3 from rfl, show x.p3 = x.pop.p3 from rfl, part29_eq (y := x.pop) (c := pop4 (pop2 (pop1 x.pop.first))), pure_bind]
  dsimp only [popFold, popFold0]
  rw [part30_eq (c := pop2 (pop1 x.pop.pop.first)), pure_bind]
  dsimp only [popFold, popFold0]
  rw [part31_eq]
  simp only [bind_assoc, pure_bind]
  refine congrArg _ (funext fun x0 => ?_)
  refine congrArg _ (funext fun x1 => ?_)
  refine congrArg _ (funext fun y => ?_)
  rw [part32_eq, pure_bind]
  dsimp only [popFold, popFold0]
  rw [part33_eq (x := y) (c := pop4 (pop2 (pop1 (y.t1, y.i1, zerov)))), pure_bind]
  dsimp only [popFold, popFold0]
  rw [part34_eq (c := pop1 (y.pop0.t1, y.pop0.i1, zerov)), pure_bind]
  dsimp only [popFold, popFold0]
  rw [show y.i3 = y.pop0.i3 from rfl, part35_eq (y := y.pop0) (c := pop4 (pop2 (pop1 (y.pop0.t1, y.pop0.i1, zerov)))), pure_bind]
  dsimp only [popFold, popFold0]
  rw [part36_eq (d := pop1 (y.pop0.pop0.t1, y.pop0.pop0.i1, zerov)), pure_bind]
  dsimp only [popFold, popFold0]
  rw [part37_eq]
  simp only [bind_assoc, pure_bind]
  refine congr (congrArg _ rfl) (funext fun _ => ?_)
  refine congrArg _ (funext fun _ => ?_)
  refine congrArg _ (funext fun _ => ?_)
  refine congrArg _ (funext fun a => ?_)
  generalize tri a = x
  rw [part38_eq (c := pop1 x.first), pure_bind]
  dsimp only [popFold, popFold0]
  rw [part39_eq (x := x) (c := pop4 (pop2 (pop1 x.first))), pure_bind]
  dsimp only [popFold, popFold0]
  rw [show x.i3 = x.pop.i3 from rfl, show x.p3 = x.pop.p3 from rfl, part40_eq (y := x.pop) (c := pop2 (pop1 x.pop.first)), pure_bind]
  dsimp only [popFold, popFold0]
  rw [part41_eq (c := x.pop.pop.first), pure_bind]
  dsimp only [popFold, popFold0]
  rw [part42_eq (d := pop2 (pop1 x.pop.pop.first))]
  simp only [bind_assoc, pure_bind]
  refine congrArg _ (funext fun x0 => ?_)
  simp only [part43_eq, bind_assoc, pure_bind]
  unfold scan
  simp only [bind_assoc]
  refine congrArg _ (funext fun h => ?_)
  refine congrArg _ (funext fun x1 => ?_)
  refine congrArg _ (funext fun h => ?_)
  refine congrArg _ (funext fun y => ?_)
  rw [part44_eq (d := pop1 (y.t1, y.i1, zerov)), pure_bind]
  dsimp only [popFold, popFold0]
  rw [part45_eq (x := y), pure_bind]
  dsimp only [popFold, popFold0]
  rw [show y.i3 = y.pop0.i3 from rfl, part46_eq (y := y.pop0) (c := pop2 (pop1 (y.pop0.t1, y.pop0.i1, zerov))), pure_bind]
  dsimp only [popFold, popFold0]
  rw [part47_eq, pure_bind]
  dsimp only [popFold, popFold0]
  rw [part48_eq (c := pop2 (pop1 (y.pop0.pop0.t1, y.pop0.pop0.i1, zerov)))]
  simp only [bind_assoc, pure_bind]
  rfl

end Programs

end Cert.Proof
-- ==== Proof.TileBody.lean ====
module

public import proofs.«01_k».proof.Proof.TileWp
public import proofs.«01_k».proof.Proof.BodyEq

@[expose] public section

/-! # A whole tile

What a tile leaves in its two rows of each result, as a function of the array it reads. -/

noncomputable section

namespace Cert.Proof

open Cert.KernelIdeal Cert.KernelIdeal.Gen Idealize.ShloMosaic
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 1) (Elt F) ℕ UU ℕ

/-- Row `R` of the argument. -/
def rowAt (x : FVec F S128x32768 .f32) (R : ℕ) : ℕ → F .f32 :=
  fun n => x (ix2 ⟨R % 128, Nat.mod_lt _ (Nat.zero_lt_succ _)⟩ ⟨n % 32768, Nat.mod_lt _ (Nat.zero_lt_succ _)⟩)

/-- The values the tiles leave. -/
def scV (x : FVec F S128x32768 .f32) : FVec F S64x16 .f32 :=
  fun j => outV (rowOut (rowAt x (64 + (j 0).val))) (lane (j 1))

/-- The indices the tiles leave. -/
def scI (x : FVec F S128x32768 .f32) : IVec S64x16 32 :=
  fun j => outI (rowOut (rowAt x (64 + (j 0).val))) (lane (j 1))

abbrev xM : Memref sig .scVector .hbm S128x32768 .f32 := Memref.whole main_arg0_scv
abbrev oM0 : Memref sig .scVector .hbm S64x16 .f32 := Memref.whole main_v0_0_scv
abbrev oM1 : Memref sig .scVector .hbm S64x16 .i32 := Memref.whole main_v0_1_scv
abbrev bM0 : Memref sig .scVector .vmem S32768 .f32 := Memref.whole cc0_scratch0
abbrev bM1 : Memref sig .scVector .vmem S32768 .f32 := Memref.whole cc0_scratch1
abbrev bM2 : Memref sig .scVector .vmem S1024 .f32 := Memref.whole cc0_scratch2
abbrev bM3 : Memref sig .scVector .vmem S1024 .i32 := Memref.whole cc0_scratch3
abbrev bM4 : Memref sig .scVector .vmem S2x16 .f32 := Memref.whole cc0_scratch4
abbrev bM5 : Memref sig .scVector .vmem S2x16 .i32 := Memref.whole cc0_scratch5

section Rows
variable {off : Fin 2 → ℕ} {h : ∀ a, off a + S1x32768.size a ≤ S128x32768.size a}

theorem xrow_emb {R : ℕ} (ho : off = ![R, 0]) (y : S32768.Idx) :
    (((xrow xM off h).view.emb y) 0).val = R ∧ (((xrow xM off h).view.emb y) 1).val = (y 0).val := by
  subst ho
  have e : (xrow xM ![R, 0] h).view.emb y
      = (Rect.unit (s := S128x32768) ![R, 0] S1x32768.size h).emb (Shape.reshapeEquiv (squeezes_S1x32768_S32768).numel_eq y) := rfl
  have e2 : Shape.reshapeEquiv (squeezes_S1x32768_S32768).numel_eq y = Fin.cons ⟨0, Nat.one_pos⟩ y :=
    Shape.reshapeEquiv_cons_one _ y
  rw [e, e2]
  refine ⟨?_, ?_⟩
  · show R + 1 * 0 = R; omega
  · show 0 + 1 * (y 0).val = _; omega

theorem mem_xrow {R : ℕ} (ho : off = ![R, 0]) {j : S128x32768.Idx} (hj : j ∈ (xrow xM off h).view.set) : (j 0).val = R := by
  obtain ⟨y, -, rfl⟩ := Finset.mem_map.mp hj
  exact (xrow_emb ho y).1

/-- The row a copy has landed. -/
theorem xrow_reads (m : Memref sig .scVector .vmem S32768 .f32) (x : FVec F S128x32768 .f32) {R : ℕ} (ho : off = ![R, 0])
    (fd : m.view.ty.Contents (Elt F)) :
    Reads m (m.view.write (Elt F) fd ((xrow xM off h).view.read (Elt F) x) Finset.univ) (rowAt x R) 32768 := by
  intro y hy
  have hR : R < 128 := by
    have := h 0
    subst ho
    have h2 : R + 1 ≤ 128 := this
    omega
  rw [View.read_write_univ]
  obtain ⟨e0, e1⟩ := xrow_emb (h := h) ho y
  show x ((xrow xM off h).view.emb y) = x _
  congr 1
  funext a
  refine Fin.ext ?_
  match a with
  | 0 => exact e0.trans (Nat.mod_eq_of_lt hR).symm
  | 1 => exact e1.trans (Nat.mod_eq_of_lt hy).symm

end Rows

section Out
variable {e : EltTy} (i : grid0.Coords)

/-- The first of the two rows of the results that a tile writes. -/
def base (i : grid0.Coords) : ℕ := 4 * (i 1).val + 2 * (i 0).val

theorem orow_emb (m : Ref sig .scVector) (y : S2x16.Idx) (j : S64x16.Idx)
    (hj : (Rect.unit (s := S64x16) (k0_off16 i) S2x16.size (k0_off16_inb i)).emb y = j) :
    (j 0).val = base i + (y 0).val ∧ (j 1).val = (y 1).val := by
  subst hj
  have ho := k0_off16_eq i
  refine ⟨?_, ?_⟩
  · show k0_off16 i 0 + 1 * (y 0).val = _
    rw [ho]; show 4 * (i 1).val + 2 * (i 0).val + 1 * (y 0).val = _
    unfold base; omega
  · show k0_off16 i 1 + 1 * (y 1).val = _
    rw [ho]; show 0 + 1 * (y 1).val = _
    omega

/-- A result row by row: contents that agree with `G` on the tile's two rows. -/
theorem two_rows {G : S64x16.Idx → Elt F e} {g : Fin 2 → S16.Idx → Elt F e} (hG : ∀ (r : Fin 2) (j : S64x16.Idx), (j 0).val = base i + r.val → G j = g r (lane (j 1)))
    {m : Memref sig .scVector .vmem S2x16 e} {f : m.view.ty.Contents (Elt F)} (h0 : RowIs m f 0 (g 0)) (h1 : RowIs m f 1 (g 1))
    (y : S2x16.Idx) (j : S64x16.Idx) (hj : (Rect.unit (s := S64x16) (k0_off16 i) S2x16.size (k0_off16_inb i)).emb y = j) :
    m.view.read (Elt F) f y = G j := by
  obtain ⟨e0, e1⟩ := orow_emb i main_v0_0_scv y j hj
  have hr : ∀ r : Fin 2, RowIs m f r (g r) := fun r => match r with | 0 => h0 | 1 => h1
  obtain ⟨r, l, rfl⟩ : ∃ (r : Fin 2) (l : Fin 16), y = ix2 r l := ⟨y 0, y 1, by
    funext a
    match a with
    | 0 => rfl
    | 1 => rfl⟩
  rw [hG r j e0]
  exact (hr r l).trans (congrArg (fun z => g r (lane z)) (Fin.ext e1.symm))

theorem out0_eq {G : FVec F S64x16 .f32} {g : FVec F S64x16 .f32} {u : FVec F S2x16 .f32}
    (h : ∀ y j, (Rect.unit (s := S64x16) (k0_off16 i) S2x16.size (k0_off16_inb i)).emb y = j → u y = G j)
    (j : S64x16.Idx) (hj : j ∈ (orow i oM0).view.set) : (orow i oM0).view.write (Elt F) g u Finset.univ j = G j := by
  obtain ⟨y, -, hy⟩ := Finset.mem_map.mp hj
  have := congrFun (View.read_write_univ (v := (orow i oM0).view) (Val := Elt F) g u) y
  rw [← h y j hy, ← this, ← hy]
  rfl

theorem out1_eq {G : IVec S64x16 32} {g : IVec S64x16 32} {u : IVec S2x16 32}
    (h : ∀ y j, (Rect.unit (s := S64x16) (k0_off16 i) S2x16.size (k0_off16_inb i)).emb y = j → u y = G j)
    (j : S64x16.Idx) (hj : j ∈ (orow i oM1).view.set) : (orow i oM1).view.write (Elt F) g u Finset.univ j = G j := by
  obtain ⟨y, -, hy⟩ := Finset.mem_map.mp hj
  have := congrFun (View.read_write_univ (v := (orow i oM1).view) (Val := Elt F) g u) y
  rw [← h y j hy, ← this, ← hy]
  rfl

end Out

section Tile
variable (d : Dev nD) (i : grid0.Coords)

/-- The scratch of a tile, at some contents. -/
def scratch : sProp 𝕄 := iprop((∃ g, bM0.view.loc (thr d i) ↦{fullShare} g) ∗ (∃ g, bM1.view.loc (thr d i) ↦{fullShare} g)
  ∗ (∃ g, bM2.view.loc (thr d i) ↦{fullShare} g) ∗ (∃ g, bM3.view.loc (thr d i) ↦{fullShare} g)
  ∗ (∃ g, bM4.view.loc (thr d i) ↦{fullShare} g) ∗ (∃ g, bM5.view.loc (thr d i) ↦{fullShare} g))

/-- The semaphores of a tile, idle. -/
def idle : sProp 𝕄 := iprop(semVal (thr d i, .dma cc0_scratch6.sem) 0 ∗ semVal (thr d i, .dma cc0_scratch7.sem) 0
  ∗ semVal (thr d i, .dma cc0_scoped0.sem) 0 ∗ semVal (thr d i, .dma cc0_scoped1.sem) 0)

/-- The row of the argument that the tile's row `r` comes from. -/
def srcRow (i : grid0.Coords) : Fin 2 → ℕ := ![4 * (i 1).val + 2 * (i 0).val + 64, 4 * (i 1).val + 2 * (i 0).val + 65]

theorem srcRow_eq (r : Fin 2) : srcRow i r = 64 + (base i + r.val) := by
  unfold base
  match r with
  | 0 => show 4 * (i 1).val + 2 * (i 0).val + 64 = 64 + (4 * (i 1).val + 2 * (i 0).val + 0); omega
  | 1 => show 4 * (i 1).val + 2 * (i 0).val + 65 = 64 + (4 * (i 1).val + 2 * (i 0).val + 1); omega

theorem gV (x : FVec F S128x32768 .f32) (r : Fin 2) (j : S64x16.Idx) (h : (j 0).val = base i + r.val) :
    scV x j = (fun r => outV (rowOut (rowAt x (srcRow i r)))) r (lane (j 1)) := by
  show outV (rowOut (rowAt x (64 + (j 0).val))) (lane (j 1)) = outV (rowOut (rowAt x (srcRow i r))) (lane (j 1))
  rw [h, srcRow_eq]

theorem gI (x : FVec F S128x32768 .f32) (r : Fin 2) (j : S64x16.Idx) (h : (j 0).val = base i + r.val) :
    scI x j = (fun r => outI (rowOut (rowAt x (srcRow i r)))) r (lane (j 1)) := by
  show outI (rowOut (rowAt x (64 + (j 0).val))) (lane (j 1)) = outI (rowOut (rowAt x (srcRow i r))) (lane (j 1))
  rw [h, srcRow_eq]

/-- Two rows of lanes stored one after the other. -/
def pair4 (f : bM4.view.ty.Contents (Elt F)) (v w : FVec F S16 .f32) : bM4.view.ty.Contents (Elt F) :=
  (bM4.access (Rect.unit (s := S2x16) ![1, 0] S1x16.size inb_S2x16_S1x16_1_0)).write (Elt F)
    ((bM4.access (Rect.unit (s := S2x16) ![0, 0] S1x16.size inb_S2x16_S1x16_0_0)).write (Elt F) f (shapeCast S1x16 v shapeCasts_S16_S1x16) Finset.univ)
    (shapeCast S1x16 w shapeCasts_S16_S1x16) Finset.univ

theorem pair4_rows (f : bM4.view.ty.Contents (Elt F)) (v w : FVec F S16 .f32) : RowIs bM4 (pair4 f v w) 0 v ∧ RowIs bM4 (pair4 f v w) 1 w :=
  ⟨RowIs.other (m := bM4) (r := 1) (r' := 0) (by decide) (RowIs.same (m := bM4) (f := f) 0 v inb_S2x16_S1x16_0_0) w inb_S2x16_S1x16_1_0,
    RowIs.same (m := bM4) 1 w inb_S2x16_S1x16_1_0⟩

/-- Two rows of lanes stored one after the other. -/
def pair5 (f : bM5.view.ty.Contents (Elt F)) (v w : IVec S16 32) : bM5.view.ty.Contents (Elt F) :=
  (bM5.access (Rect.unit (s := S2x16) ![1, 0] S1x16.size inb_S2x16_S1x16_1_0)).write (Elt F)
    ((bM5.access (Rect.unit (s := S2x16) ![0, 0] S1x16.size inb_S2x16_S1x16_0_0)).write (Elt F) f (shapeCast S1x16 v shapeCasts_S16_S1x16) Finset.univ)
    (shapeCast S1x16 w shapeCasts_S16_S1x16) Finset.univ

theorem pair5_rows (f : bM5.view.ty.Contents (Elt F)) (v w : IVec S16 32) : RowIs bM5 (pair5 f v w) 0 v ∧ RowIs bM5 (pair5 f v w) 1 w :=
  ⟨RowIs.other (m := bM5) (r := 1) (r' := 0) (by decide) (RowIs.same (m := bM5) (f := f) 0 v inb_S2x16_S1x16_0_0) w inb_S2x16_S1x16_1_0,
    RowIs.same (m := bM5) 1 w inb_S2x16_S1x16_1_0⟩

/-- The tile's rows of result 0 once both rows of lanes are stored and copied out. -/
theorem landed0 (x : FVec F S128x32768 .f32) (g : FVec F S64x16 .f32) (f : bM4.view.ty.Contents (Elt F)) :
    (oM0.view.loc (thr d i) ↦[(orow i oM0).view.set]{fullShare} ((orow i oM0).view.write (Elt F) g (bM4.view.read (Elt F)
        (pair4 f (outV (rowOut (rowAt x (4 * (i 1).val + 2 * (i 0).val + 64)))) (outV (rowOut (rowAt x (4 * (i 1).val + 2 * (i 0).val + 65)))))) Finset.univ) : sProp 𝕄)
      ⊢ oM0.view.loc (thr d i) ↦[(orow i oM0).view.set]{fullShare} scV x := by
  rw [pointsTo_congr (out0_eq i fun y j hj => two_rows i (gV i x) (pair4_rows f _ _).1 (pair4_rows f _ _).2 y j hj)]

/-- The tile's rows of result 1 once both rows of lanes are stored and copied out. -/
theorem landed1 (x : FVec F S128x32768 .f32) (g : IVec S64x16 32) (f : bM5.view.ty.Contents (Elt F)) :
    (oM1.view.loc (thr d i) ↦[(orow i oM1).view.set]{fullShare} ((orow i oM1).view.write (Elt F) g (bM5.view.read (Elt F)
        (pair5 f (outI (rowOut (rowAt x (4 * (i 1).val + 2 * (i 0).val + 64)))) (outI (rowOut (rowAt x (4 * (i 1).val + 2 * (i 0).val + 65)))))) Finset.univ) : sProp 𝕄)
      ⊢ oM1.view.loc (thr d i) ↦[(orow i oM1).view.set]{fullShare} scI x := by
  rw [pointsTo_congr (out1_eq i fun y j hj => two_rows i (gI i x) (pair5_rows f _ _).1 (pair5_rows f _ _).2 y j hj)]

theorem tile_wp {x : FVec F S128x32768 .f32} {q : PosShare TreeShare} {O : CellTallies nD τ sig (HIx 1)} {W : Waits sig (HIx 1)} :
    iprop(Transfers.MayWaits (thr d i) (default : HIx 1) O ∗ (xM.view.loc (thr d i) ↦{q} x)
        ∗ (∃ g, oM0.view.loc (thr d i) ↦[(orow i oM0).view.set]{fullShare} g) ∗ (∃ g, oM1.view.loc (thr d i) ↦[(orow i oM1).view.set]{fullShare} g)
        ∗ scratch d i ∗ idle d i ∗ owes (thr d i) O W)
      ⊢ tileWp (F := F) d i (tileProg i bM0 bM2 bM3 bM4 bM5 xM oM0 oM1 bM1 (Memref.isWhole_whole _) (Memref.isWhole_whole _)
          (Memref.isWhole_whole _) (Memref.isWhole_whole _) cc0_scratch6 cc0_scratch7 cc0_scoped0 cc0_scoped1) fun _ =>
        iprop((xM.view.loc (thr d i) ↦{q} x)
          ∗ (oM0.view.loc (thr d i) ↦[(orow i oM0).view.set]{fullShare} scV x) ∗ (oM1.view.loc (thr d i) ↦[(orow i oM1).view.set]{fullShare} scI x)
          ∗ scratch d i ∗ idle d i ∗ ∃ W', ⌜∀ p ∈ W', p ∈ W ∨ p.2 = none⌝ ∗ owes (thr d i) O W') := by
  have hsub : (xrow xM (k0_off2 i) (k0_off2_inb i)).view.set ⊆ Finset.univ \ (xrow xM (k0_off1 i) (k0_off1_inb i)).view.set := by
    intro j hj
    refine Finset.mem_sdiff.mpr ⟨Finset.mem_univ _, fun hj' => ?_⟩
    have e2 := mem_xrow (k0_off2_eq i) hj
    have e1 := mem_xrow (k0_off1_eq i) hj'
    omega
  have hx : (xM.view.loc (thr d i) ↦{q} x : sProp 𝕄) ⊣⊢ iprop((xM.view.loc (thr d i) ↦[(xrow xM (k0_off1 i) (k0_off1_inb i)).view.set]{q} x)
      ∗ (xM.view.loc (thr d i) ↦[Finset.univ \ (xrow xM (k0_off1 i) (k0_off1_inb i)).view.set]{q} x)) :=
    pointsTo_split_subset (Finset.subset_univ _)
  have hx' : (xM.view.loc (thr d i) ↦[Finset.univ \ (xrow xM (k0_off1 i) (k0_off1_inb i)).view.set]{q} x : sProp 𝕄)
      ⊣⊢ iprop((xM.view.loc (thr d i) ↦[(xrow xM (k0_off2 i) (k0_off2_inb i)).view.set]{q} x)
      ∗ (xM.view.loc (thr d i) ↦[(Finset.univ \ (xrow xM (k0_off1 i) (k0_off1_inb i)).view.set) \ (xrow xM (k0_off2 i) (k0_off2_inb i)).view.set]{q} x)) :=
    pointsTo_split_subset hsub
  unfold scratch idle tileProg
  iintro ⟨#Hm, Hx, ⟨%g0, Ho0⟩, ⟨%g1, Ho1⟩, ⟨⟨%f0, H0⟩, ⟨%f1, H1⟩, H2, H3, ⟨%f4, H4⟩, ⟨%f5, H5⟩⟩, ⟨S6, S7, S8, S9⟩, HO⟩
  ihave Hx := hx.1 $$ Hx
  icases Hx with ⟨Hx1, Hx⟩
  ihave Hx := hx'.1 $$ Hx
  icases Hx with ⟨Hx2, Hx⟩
  rw [tw_bind]
  iapply (tw_dma d i (src := xrow xM (k0_off1 i) (k0_off1_inb i)) (dst := bM0) (q := q) (fs := x) (Sd := Finset.univ) (fd := f0)
    _ rfl (View.amount_pos _ _ (show 0 < S32768.numel by decide)) (Finset.subset_univ _))
  isplitl [Hx1]; · iexact Hx1
  isplitl [H0]; · iexact H0
  isplitl [S6]; · iexact S6
  iintro F0
  rw [tw_bind]
  iapply (tw_dma d i (src := xrow xM (k0_off2 i) (k0_off2_inb i)) (dst := bM1) (q := q) (fs := x) (Sd := Finset.univ) (fd := f1)
    _ rfl (View.amount_pos _ _ (show 0 < S32768.numel by decide)) (Finset.subset_univ _))
  isplitl [Hx2]; · iexact Hx2
  isplitl [H1]; · iexact H1
  isplitl [S7]; · iexact S7
  iintro F1
  rw [tw_bind]
  iapply (tw_wait d i (dstw := bM0) rfl)
  isplitr; · iexact Hm
  isplitl [F0]; · iexact F0
  isplitl [HO]; · iexact HO
  iintro ⟨⟨H0, Hx1⟩, S6, HO⟩
  rw [tw_bind]
  iapply (wp_wand_r _ _ _)
  isplitl [H0 H2 H3]
  · iapply (rowProg_wp d i (row := bM0) (sv := bM2) (si := bM3) (q := fullShare) (xrow_reads (h := k0_off1_inb i) bM0 x (k0_off1_eq i) f0))
    iframe
  iintro %a ⟨%ha, H0, H2, H3⟩
  subst ha
  rw [tw_bind]
  iapply (wp_wand_r _ _ _)
  isplitl [H4 H5]
  · iapply (storeRow_wp d i (fv := f4) (fi := f5)); iframe
  iintro %_ ⟨H4, H5⟩
  rw [tw_bind]
  iapply (tw_wait d i (dstw := bM1) rfl)
  isplitr; · iexact Hm
  isplitl [F1]; · iexact F1
  isplitl [HO]; · iexact HO
  iintro ⟨⟨H1, Hx2⟩, S7, HO⟩
  rw [tw_bind]
  iapply (wp_wand_r _ _ _)
  isplitl [H1 H2 H3]
  · iapply (rowProg_wp d i (row := bM1) (sv := bM2) (si := bM3) (q := fullShare) (xrow_reads (h := k0_off2_inb i) bM1 x (k0_off2_eq i) f1))
    iframe
  iintro %a ⟨%ha, H1, H2, H3⟩
  subst ha
  rw [tw_bind]
  iapply (wp_wand_r _ _ _)
  isplitl [H4 H5]
  · iapply (storeRow_wp d i); iframe
  iintro %_ ⟨H4, H5⟩
  rw [tw_bind]
  iapply (tw_dma d i (src := bM4) (dst := orow i oM0) (q := fullShare) (Sd := (orow i oM0).view.set) (fd := g0)
    _ rfl (View.amount_pos _ _ (show 0 < S2x16.numel by decide)) subset_rfl)
  isplitl [H4]
  · rw [View.set_whole]; iexact H4
  isplitl [Ho0]; · iexact Ho0
  isplitl [S8]; · iexact S8
  iintro F4
  rw [tw_bind]
  iapply (tw_wait d i (dstw := orow i oM0) rfl)
  isplitr; · iexact Hm
  isplitl [F4]; · iexact F4
  isplitl [HO]; · iexact HO
  iintro ⟨⟨Ho0, H4⟩, S8, HO⟩
  rw [tw_bind]
  iapply (tw_dma d i (src := bM5) (dst := orow i oM1) (q := fullShare) (Sd := (orow i oM1).view.set) (fd := g1)
    _ rfl (View.amount_pos _ _ (show 0 < S2x16.numel by decide)) subset_rfl)
  isplitl [H5]
  · rw [View.set_whole]; iexact H5
  isplitl [Ho1]; · iexact Ho1
  isplitl [S9]; · iexact S9
  iintro F5
  iapply (tw_wait d i (dstw := orow i oM1) rfl)
  isplitr; · iexact Hm
  isplitl [F5]; · iexact F5
  isplitl [HO]; · iexact HO
  iintro ⟨⟨Ho1, H5⟩, S9, HO⟩
  isplitl [Hx Hx1 Hx2]
  · iapply hx.2
    isplitl [Hx1]; · iexact Hx1
    iapply hx'.2
    isplitl [Hx2]; · iexact Hx2
    iexact Hx
  isplitl [Ho0]
  · iapply (landed0 d i x g0 f4); iexact Ho0
  isplitl [Ho1]
  · iapply (landed1 d i x g1 f5); iexact Ho1
  isplitl [H0 H1 H2 H3 H4 H5]
  · isplitl [H0]; · iexists _; iexact H0
    isplitl [H1]; · iexists _; iexact H1
    isplitl [H2]; · iexact H2
    isplitl [H3]; · iexact H3
    isplitl [H4]
    · iexists _; rw [View.set_whole]; iexact H4
    · iexists _; rw [View.set_whole]; iexact H5
  isplitl [S6 S7 S8 S9]
  · iframe
  iexists _
  isplitr
  swap
  · iexact HO
  ipureintro
  intro p hp
  rcases Finset.mem_insert.mp hp with hp | hp
  · exact .inr (hp ▸ rfl)
  rcases Finset.mem_insert.mp hp with hp | hp
  · exact .inr (hp ▸ rfl)
  rcases Finset.mem_insert.mp hp with hp | hp
  · exact .inr (hp ▸ rfl)
  rcases Finset.mem_insert.mp hp with hp | hp
  · exact .inr (hp ▸ rfl)
  exact .inl hp

end Tile

end Cert.Proof
-- ==== Proof.TileObl.lean ====
module

public import proofs.«01_k».proof.Proof.TileBody

@[expose] public section

/-! # The tiles' obligation

What the call hands a tile and takes back from it, and that the tile keeps to it. -/

noncomputable section

namespace Cert.Proof

open Cert.KernelIdeal Cert.KernelIdeal.Gen Idealize.ShloMosaic
open Idealize.ShloMosaic.SparseCore (S V T)
open Idealize.ShloMosaic.SparseCore.Cfg (HIx Pay ownCells ownRefs ownSems0 ownBufs mem_ownCells mem_ownRefs_of_owner)
open Idealize.SL Idealize.SL.RA Idealize.SL.BI
open Idealize.SL.BI.BIBase Idealize.SL.BI.Laws Idealize.SL.ProofMode Idealize.SL.Sem
open Idealize.ShloMosaic.Rounds Idealize.ShloMosaic.Tactic

variable {F : FTy → Type}

local notation "𝕄" => MT nD τ sig (HIx 1) (Elt F) ℕ UU ℕ

/-! ## The scratch of a tile among all that is its own -/

/-- A tile's semaphores. -/
def tileSems : Finset (SemLoc sig) := {.dma cc0_scratch6.sem, .dma cc0_scratch7.sem, .dma cc0_scoped0.sem, .dma cc0_scoped1.sem}

/-- A tile's buffers. -/
def tileRefs : Finset (Ref sig .scVector) := {cc0_scratch0, cc0_scratch1, cc0_scratch2, cc0_scratch3, cc0_scratch4, cc0_scratch5}

def semAt (t : Thread nD τ) : SemLoc sig ↪ GSem nD τ sig := ⟨fun s => (t, s), fun _ _ h => (Prod.mk.inj h).2⟩

def refAt (d : Dev nD) (i : grid0.Coords) : Ref sig .scVector ↪ DevRef τ sig := ⟨(thr d i).2.devRef, Proc.devRef_injective _⟩

theorem sems_sub (d : Dev nD) (i : grid0.Coords) : tileSems.map (semAt (thr d i)) ⊆ ownCells (thr d i) := by
  intro g hg
  obtain ⟨s, hs, rfl⟩ := Finset.mem_map.mp hg
  refine mem_ownCells.mpr ⟨rfl, ?_⟩
  exact (show ∀ s ∈ tileSems, s.isScoped .scVector = true by decide) s hs

theorem refs_sub (d : Dev nD) (i : grid0.Coords) : tileRefs.map (refAt d i) ⊆ ownRefs (thr d i).2 := by
  intro b hb
  obtain ⟨r, hr, rfl⟩ := Finset.mem_map.mp hb
  refine mem_ownRefs_of_owner ?_
  simp only [tileRefs, Finset.mem_insert, Finset.mem_singleton] at hr
  rcases hr with rfl | rfl | rfl | rfl | rfl | rfl <;> rfl

theorem ownSems0_tile (d : Dev nD) (i : grid0.Coords) :
    (ownSems0 (thr d i) : sProp 𝕄) = iprop(idle d i ∗ bigSep (ownCells (thr d i) \ tileSems.map (semAt (thr d i))) fun g => semVal g 0) := by
  unfold ownSems0
  rw [SparseCore.bigSep_sdiff_split' (sems_sub d i), bigSep_map]
  unfold tileSems idle
  rw [SparseCore.bigSep_insert' (by decide), SparseCore.bigSep_insert' (by decide), SparseCore.bigSep_insert' (by decide), bigSep_singleton]
  rfl

theorem ownBufs_tile (d : Dev nD) (i : grid0.Coords) :
    (ownBufs (thr d i) : sProp 𝕄) = iprop(scratch d i
      ∗ bigSep (ownRefs (thr d i).2 \ tileRefs.map (refAt d i)) fun b => iprop(∃ f, ((d, b) : Loc nD τ sig) ↦{fullShare} f)) := by
  unfold ownBufs
  rw [SparseCore.bigSep_sdiff_split' (refs_sub d i), bigSep_map]
  unfold tileRefs scratch
  rw [SparseCore.bigSep_insert' (by decide), SparseCore.bigSep_insert' (by decide), SparseCore.bigSep_insert' (by decide),
    SparseCore.bigSep_insert' (by decide), SparseCore.bigSep_insert' (by decide), bigSep_singleton]
  rfl

/-! ## What the handshakes carry -/

variable (m : (ℓ : Loc nD τ sig) → Buf (Elt F) ℓ)

abbrev xLoc (d : Dev nD) : Loc nD τ sig := (SparseCore.T d).loc main_arg0
abbrev s0Loc (d : Dev nD) : Loc nD τ sig := (SparseCore.T d).loc main_v0_0
abbrev s1Loc (d : Dev nD) : Loc nD τ sig := (SparseCore.T d).loc main_v0_1

/-- The rows of either result that a tile writes. -/
def rows (i : grid0.Coords) : Finset S64x16.Idx := (orow i oM0).view.set

theorem rows_eq (i : grid0.Coords) : rows i = (orow i oM1).view.set := rfl

def coordsV (c : Fin (grid0.bound 0)) (s : Fin (grid0.bound 1)) : grid0.Coords :=
  fun | 0 => c | 1 => s | ⟨_ + 2, h⟩ => absurd h (Nat.not_lt.2 (Nat.le_add_left _ _))

/-- A SparseCore's read share of the argument, and a tile's. -/
def coreShare (c : ℕ) : PosShare TreeShare := Transfers.shareTokN fullShare c
def tileShare (c s : ℕ) : PosShare TreeShare := Transfers.shareTokN (coreShare c) s

variable [FloatOps F]

/-- What a tile takes. -/
def goT (d : Dev nD) (i : grid0.Coords) : sProp 𝕄 :=
  iprop((xLoc d ↦{tileShare (i 0).val (i 1).val} m (xLoc d)) ∗ (s0Loc d ↦[rows i]{fullShare} m (s0Loc d)) ∗ (s1Loc d ↦[rows i]{fullShare} m (s1Loc d)))

/-- What it brings back. -/
def tdT (d : Dev nD) (i : grid0.Coords) : sProp 𝕄 :=
  iprop((xLoc d ↦{tileShare (i 0).val (i 1).val} m (xLoc d)) ∗ (s0Loc d ↦[rows i]{fullShare} scV (F := F) (m (xLoc d)))
    ∗ (s1Loc d ↦[rows i]{fullShare} scI (F := F) (m (xLoc d))))

/-- What a SparseCore takes. -/
def stT (d : Dev nD) (c : Fin (grid0.bound 0)) : sProp 𝕄 :=
  iprop((xLoc d ↦{coreShare c.val} m (xLoc d)) ∗ (bigSep Finset.univ fun s : Fin (grid0.bound 1) => s0Loc d ↦[rows (coordsV c s)]{fullShare} m (s0Loc d))
    ∗ (bigSep Finset.univ fun s : Fin (grid0.bound 1) => s1Loc d ↦[rows (coordsV c s)]{fullShare} m (s1Loc d)))

/-- What it brings back. -/
def dnT (d : Dev nD) (c : Fin (grid0.bound 0)) : sProp 𝕄 :=
  iprop((xLoc d ↦{coreShare c.val} m (xLoc d)) ∗ (bigSep Finset.univ fun s : Fin (grid0.bound 1) => s0Loc d ↦[rows (coordsV c s)]{fullShare} scV (F := F) (m (xLoc d)))
    ∗ (bigSep Finset.univ fun s : Fin (grid0.bound 1) => s1Loc d ↦[rows (coordsV c s)]{fullShare} scI (F := F) (m (xLoc d))))

/-- The one call's payloads. -/
def P : (K (F := F)).Pay (nD := nD) (Val := Elt F) (Name := ℕ) (U := UU) where
  st := fun q d c => match q with | 0 => stT m d c
  dn := fun q d c => match q with | 0 => dnT m d c
  go := fun q d c i => match q with | 0 => goT m d (coordsV c i)
  td := fun q d c i => match q with | 0 => tdT m d (coordsV c i)
  x := fun _ _ => iprop(emp)

instance P_storable : (P (F := F) m).IsStorable where
  st q d c := match q with | 0 => by show BI.Storable _ (stT m d c); unfold stT; infer_instance
  dn q d c := match q with | 0 => by show BI.Storable _ (dnT m d c); unfold dnT; infer_instance
  go q d c i := match q with | 0 => by show BI.Storable _ (goT m d (coordsV c i)); unfold goT; infer_instance
  td q d c i := match q with | 0 => by show BI.Storable _ (tdT m d (coordsV c i)); unfold tdT; infer_instance

theorem tile_body (d : Dev nD) (i : grid0.Coords) (O : CellTallies nD τ sig (HIx 1)) (W : Waits sig (HIx 1)) (hO : ∀ g, O g none = 0) :
    iprop(levAts (K (F := F)).L (K (F := F)).lev ∗ emp ∗ goT m d i ∗ scopedBufs (thr d i) ∗ scopedSems0 (thr d i) ∗ owes (thr d i) O W)
      ⊢ wp frame (wpE (defs₀ (F := F)) 𝒱₀ (thr d i) none) Set.univ
          (cc0__sc_kernel_body (F := F) i xM (Memref.isWhole_whole _) oM0 (Memref.isWhole_whole _) oM1 (Memref.isWhole_whole _)
            bM0 (Memref.isWhole_whole _) bM1 (Memref.isWhole_whole _) bM2 (Memref.isWhole_whole _) bM3 (Memref.isWhole_whole _)
            bM4 (Memref.isWhole_whole _) bM5 (Memref.isWhole_whole _) cc0_scratch6 cc0_scratch7 cc0_scoped0 cc0_scoped1)
          fun _ => iprop(tdT m d i ∗ scopedBufs (thr d i) ∗ scopedSems0 (thr d i) ∗ ∃ W', ⌜∀ p ∈ W', p ∈ W ∨ p.2 = none⌝ ∗ owes (thr d i) O W') := by
  rw [body_eq, (K (F := F)).scopedBufs_V facts d _ _, SparseCore.Cfg.scopedSems0_V (Val := Elt F) d _ _, ownSems0_tile, ownBufs_tile]
  unfold goT tdT
  iintro ⟨#Hlv, -, ⟨Hx, H0, H1⟩, ⟨Hs, Hbufs⟩, ⟨Hi, Hsems⟩, HO⟩
  ihave Hmw := (show levAts (K (F := F)).L (K (F := F)).lev ⊢ Transfers.MayWaits (thr d i) (default : HIx 1) O from
    (K (F := F)).mayWaits_none (thr := thr d i) hO) $$ Hlv
  iapply (wp_wand_r _ _ _)
  isplitr [Hbufs Hsems]
  · iapply (tile_wp d i (x := m (xLoc d)) (q := tileShare (i 0).val (i 1).val) (O := O) (W := W))
    isplitl [Hmw]; · iexact Hmw
    isplitl [Hx]; · iexact Hx
    isplitl [H0]; · iexists _; iexact H0
    isplitl [H1]; · iexists _; iexact H1
    isplitl [Hs]; · iexact Hs
    isplitl [Hi]; · iexact Hi
    iexact HO
  · iintro %_ ⟨Hx, H0, H1, Hs, Hi, HO⟩
    isplitl [Hx H0 H1]
    · isplitl [Hx]; · iexact Hx
      isplitl [H0]; · iexact H0
      iexact H1
    isplitl [Hs Hbufs]
    · isplitl [Hs]; · iexact Hs
      iexact Hbufs
    isplitl [Hi Hsems]
    · isplitl [Hi]; · iexact Hi
      iexact Hsems
    iexact HO

/-! ## The obligation -/

theorem defs₀_vector (c : Fin τ.nSC) (s : Fin τ.nSub) :
    defs₀ (F := F) (.scVector c s) 0 ()
      = SparseCore.onTile hcore0 hsub0 (fun c s => cc0__sc_kernel_body (F := F) (coordsV c s) xM (Memref.isWhole_whole _) oM0 (Memref.isWhole_whole _)
          oM1 (Memref.isWhole_whole _) bM0 (Memref.isWhole_whole _) bM1 (Memref.isWhole_whole _) bM2 (Memref.isWhole_whole _) bM3 (Memref.isWhole_whole _)
          bM4 (Memref.isWhole_whole _) bM5 (Memref.isWhole_whole _) cc0_scratch6 cc0_scratch7 cc0_scoped0 cc0_scoped1) ⟨⟩ c s := rfl

omit [FloatOps F] in
/-- What a tile ends with, as the obligation asks for it. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

set_option maxRecDepth 16384 in
/-- Every tile keeps to its payloads. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) O W hO).trans (wp_mono frame _ _ fun _ => obl_post)

omit [FloatOps F] in
theorem core_toks (d : Dev nD) (c : Fin (grid0.bound 0)) : (xLoc d ↦{coreShare c.val} m (xLoc d) : sProp 𝕄)
    ⊣⊢ iprop((xLoc d ↦{Transfers.shareDrop (coreShare c.val) (grid0.bound 1)} m (xLoc d))
      ∗ bigSep Finset.univ fun s : Fin (grid0.bound 1) => xLoc d ↦{tileShare c.val s.val} m (xLoc d)) :=
  Transfers.pointsTo_toks _ _

theorem go_eq (d : Dev nD) (c : Fin (grid0.bound 0)) : (bigSep Finset.univ fun s : Fin (grid0.bound 1) => goT m d (coordsV c s))
    = iprop((bigSep Finset.univ fun s : Fin (grid0.bound 1) => xLoc d ↦{tileShare c.val s.val} m (xLoc d))
      ∗ (bigSep Finset.univ fun s : Fin (grid0.bound 1) => s0Loc d ↦[rows (coordsV c s)]{fullShare} m (s0Loc d))
      ∗ (bigSep Finset.univ fun s : Fin (grid0.bound 1) => s1Loc d ↦[rows (coordsV c s)]{fullShare} m (s1Loc d))) := by
  unfold goT
  rw [bigSep_sep', bigSep_sep']
  rfl

theorem td_eq (d : Dev nD) (c : Fin (grid0.bound 0)) : (bigSep Finset.univ fun s : Fin (grid0.bound 1) => tdT m d (coordsV c s))
    = iprop((bigSep Finset.univ fun s : Fin (grid0.bound 1) => xLoc d ↦{tileShare c.val s.val} m (xLoc d))
      ∗ (bigSep Finset.univ fun s : Fin (grid0.bound 1) => s0Loc d ↦[rows (coordsV c s)]{fullShare} scV (F := F) (m (xLoc d)))
      ∗ (bigSep Finset.univ fun s : Fin (grid0.bound 1) => s1Loc d ↦[rows (coordsV c s)]{fullShare} scI (F := F) (m (xLoc d)))) := by
  unfold tdT
  rw [bigSep_sep', bigSep_sep']
  rfl

/-- A SparseCore's payload splits into its tiles', and joins again from theirs. -/
theorem split_tiles (d : Dev nD) (c : Fin (grid0.bound 0)) :
    stT m d c ⊢ |={Set.univ}=> iprop((bigSep Finset.univ fun s : Fin (grid0.bound 1) => goT m d (coordsV c s))
    ∗ ((bigSep Finset.univ fun s : Fin (grid0.bound 1) => tdT m d (coordsV c s)) -∗ dnT m d c)) := by
  rw [go_eq, td_eq]
  unfold stT dnT
  iintro ⟨Hx, H0, H1⟩
  ihave Hx := (core_toks m d c).1 $$ Hx
  icases Hx with ⟨Hd, Hx⟩
  imodintro
  isplitl [Hx H0 H1]
  · iframe
  iintro ⟨Hx, H0, H1⟩
  isplitl [Hd Hx]
  · iapply (core_toks m d c).2
    isplitl [Hd]; · iexact Hd
    iexact Hx
  isplitl [H0]; · iexact H0
  iexact H1

theorem vecSplit : (K (F := F)).VecSplit' (P m) 0 := fun d c => split_tiles m d c

end Cert.Proof
-- ==== Proof.ScCall.lean ====
module

public import proofs.«01_k».proof.Proof.TileObl
public import Idealize.ShloMosaic.Lib.Pipeline.Value

@[expose] public section

/-! # The SparseCore call, from the TensorCore

The argument is shared out and the results split by tile; what comes back is the results whole. -/

noncomputable section

namespace Cert.Proof

open Cert.KernelIdeal Cert.KernelIdeal.Gen Idealize.ShloMosaic Idealize.ShloMosaic.TcCoe
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds Idealize.ShloMosaic.Tactic
open Idealize.ShloMosaic.StableHlo (held)

variable {F : FTy → Type} [FloatOps F]

local notation "𝕄" => MT nD τ sig (HIx 1) (Elt F) ℕ UU ℕ

variable (m : (ℓ : Loc nD τ sig) → Buf (Elt F) ℓ)

/-! ## The tiles' rows cover the results -/

/-- The rows that a tile writes, as two inequalities. -/
theorem mem_rows (i : grid0.Coords) (j : S64x16.Idx) : j ∈ rows i ↔ base i ≤ (j 0).val ∧ (j 0).val < base i + 2 := by
  constructor
  · intro h
    obtain ⟨y, hy⟩ := View.exists_emb_of_mem_set _ h
    obtain ⟨e0, -⟩ := orow_emb i main_v0_0_scv y j hy
    have : (y 0).val < 2 := (y 0).isLt
    omega
  · rintro ⟨h1, h2⟩
    have hy := (orow i oM0).view.emb_mem_set (ix2 (⟨(j 0).val - base i, by omega⟩ : Fin 2) (j 1) : S2x16.Idx)
    obtain ⟨e0, e1⟩ := orow_emb i main_v0_0_scv (ix2 (⟨(j 0).val - base i, by omega⟩ : Fin 2) (j 1) : S2x16.Idx) _ rfl
    have he : (orow i oM0).view.emb (ix2 (⟨(j 0).val - base i, by omega⟩ : Fin 2) (j 1) : S2x16.Idx) = j := by
      funext a
      apply Fin.ext
      match a with
      | 0 => exact e0.trans (by show base i + ((j 0).val - base i) = (j 0).val; omega)
      | 1 => exact e1
    rw [he] at hy
    exact hy

/-- A tile by its two coordinates. -/
abbrev pairs : Fin (grid0.bound 0) × Fin (grid0.bound 1) → Finset S64x16.Idx := fun p => rows (coordsV p.1 p.2)

theorem pairs_disjoint (p p' : Fin (grid0.bound 0) × Fin (grid0.bound 1)) (h : p ≠ p') : Disjoint (pairs p) (pairs p') := by
  rw [Finset.disjoint_left]
  intro j h1 h2
  apply h
  obtain ⟨c, s⟩ := p
  obtain ⟨c', s'⟩ := p'
  have hc : c.val < 2 := c.isLt
  have hc' : c'.val < 2 := c'.isLt
  have e1 : base (coordsV c s) ≤ (j 0).val ∧ (j 0).val < base (coordsV c s) + 2 := (mem_rows _ _).1 h1
  have e2 : base (coordsV c' s') ≤ (j 0).val ∧ (j 0).val < base (coordsV c' s') + 2 := (mem_rows _ _).1 h2
  have b1 : base (coordsV c s) = 4 * s.val + 2 * c.val := rfl
  have b2 : base (coordsV c' s') = 4 * s'.val + 2 * c'.val := rfl
  have hs : s.val = s'.val := by omega
  have hcc : c.val = c'.val := by omega
  exact Prod.ext (Fin.ext hcc) (Fin.ext hs)

theorem pairs_cover : (Finset.univ : Finset S64x16.Idx) = Finset.univ.biUnion pairs := by
  ext j
  have hj : (j 0).val < 64 := (j 0).isLt
  simp only [Finset.mem_univ, Finset.mem_biUnion, true_and, true_iff]
  refine ⟨(⟨(j 0).val / 2 % 2, Nat.mod_lt _ (by decide)⟩, ⟨(j 0).val / 4, show _ < 16 by omega⟩), (mem_rows _ _).2 ?_⟩
  show 4 * ((j 0).val / 4) + 2 * ((j 0).val / 2 % 2) ≤ _ ∧ _ < 4 * ((j 0).val / 4) + 2 * ((j 0).val / 2 % 2) + 2
  omega

omit [FloatOps F] in
/-- A buffer whole is its parts, where they are disjoint and cover it. -/
theorem parts {ℓ : Loc nD τ sig} {A B : Type} [Fintype A] [Fintype B] [DecidableEq A] [DecidableEq B] (f : Buf (Elt F) ℓ) (R : A × B → Finset (Idx ℓ))
    (hc : (Finset.univ : Finset (Idx ℓ)) = Finset.univ.biUnion R) (hd : ∀ p p', p ≠ p' → Disjoint (R p) (R p')) :
    (ℓ ↦{fullShare} f : sProp 𝕄) = bigSep Finset.univ fun a => bigSep Finset.univ fun b => ℓ ↦[R (a, b)]{fullShare} f := by
  rw [show (ℓ ↦{fullShare} f : sProp 𝕄) = (ℓ ↦[Finset.univ.biUnion R]{fullShare} f) by rw [← hc],
    pointsTo_biUnion _ R fun p _ p' _ h => hd p p' h, bigSep_univ_prod]

omit [FloatOps F] in
/-- The first result whole is its rows by tile. -/
theorem rows_s0 (d : Dev nD) (f : Buf (Elt F) (s0Loc d)) : (s0Loc d ↦{fullShare} f : sProp 𝕄)
    = bigSep Finset.univ fun c : Fin (grid0.bound 0) => bigSep Finset.univ fun s : Fin (grid0.bound 1) => s0Loc d ↦[rows (coordsV c s)]{fullShare} f :=
  parts (ℓ := s0Loc d) f pairs pairs_cover pairs_disjoint

omit [FloatOps F] in
/-- The second result whole is its rows by tile. -/
theorem rows_s1 (d : Dev nD) (f : Buf (Elt F) (s1Loc d)) : (s1Loc d ↦{fullShare} f : sProp 𝕄)
    = bigSep Finset.univ fun c : Fin (grid0.bound 0) => bigSep Finset.univ fun s : Fin (grid0.bound 1) => s1Loc d ↦[rows (coordsV c s)]{fullShare} f :=
  parts (ℓ := s1Loc d) f pairs pairs_cover pairs_disjoint

/-- The argument whole is what stays with the TensorCore and a share per SparseCore. -/
theorem x_toks (d : Dev nD) : (xLoc d ↦{fullShare} m (xLoc d) : sProp 𝕄)
    ⊣⊢ iprop((xLoc d ↦{Transfers.shareDrop fullShare (grid0.bound 0)} m (xLoc d))
      ∗ bigSep Finset.univ fun c : Fin (grid0.bound 0) => xLoc d ↦{coreShare c.val} m (xLoc d)) :=
  Transfers.pointsTo_toks fullShare (grid0.bound 0)

/-- What the SparseCores take, by buffer. -/
theorem st_eq (d : Dev nD) : (bigSep Finset.univ fun c : Fin (grid0.bound 0) => stT m d c)
    = iprop((bigSep Finset.univ fun c : Fin (grid0.bound 0) => xLoc d ↦{coreShare c.val} m (xLoc d))
      ∗ (s0Loc d ↦{fullShare} m (s0Loc d)) ∗ (s1Loc d ↦{fullShare} m (s1Loc d))) := by
  unfold stT
  rw [bigSep_sep', bigSep_sep', ← rows_s0, ← rows_s1]

/-- What they bring back, by buffer. -/
theorem dn_eq (d : Dev nD) : (bigSep Finset.univ fun c : Fin (grid0.bound 0) => dnT m d c)
    = iprop((bigSep Finset.univ fun c : Fin (grid0.bound 0) => xLoc d ↦{coreShare c.val} m (xLoc d))
      ∗ (s0Loc d ↦{fullShare} scV (F := F) (m (xLoc d))) ∗ (s1Loc d ↦{fullShare} scI (F := F) (m (xLoc d)))) := by
  unfold dnT
  rw [bigSep_sep', bigSep_sep', ← rows_s0, ← rows_s1]

/-! ## The SparseCore call over the unscoped buffers -/

/-- The TensorCore's unscoped buffers. -/
def ucRefs : Finset (DevRef τ sig) := (StableHlo.tcRefs τ sig).filter fun b => ¬ b.isScoped

omit [FloatOps F] in
/-- The unscoped buffers at a valuation are that set held at it. -/
theorem unscoped_held (c : Dev nD) (W : Valuation τ sig (Elt F)) :
    (unscopedBufs c (fun b => W b) : sProp 𝕄) = held (SparseCore.T c) ucRefs W := by
  unfold unscopedBufs StableHlo.held ucRefs StableHlo.tcRefs
  rw [Finset.filter_map, bigSep_map]
  rfl

/-- The buffers the SparseCore call touches. -/
def scRefs : Finset (DevRef τ sig) := {(main_arg0 : DevRef τ sig), (main_v0_0 : DevRef τ sig), (main_v0_1 : DevRef τ sig)}

theorem scRefs_sub : scRefs ⊆ ucRefs := by decide

omit [FloatOps F] in
theorem held_sc (d : Dev nD) (W : Valuation τ sig (Elt F)) : (held (SparseCore.T d) scRefs W : sProp 𝕄)
    = iprop((xLoc d ↦{fullShare} W main_arg0) ∗ (s0Loc d ↦{fullShare} W main_v0_0) ∗ (s1Loc d ↦{fullShare} W main_v0_1)) := by
  unfold StableHlo.held scRefs
  rw [SparseCore.bigSep_insert' (by decide), SparseCore.bigSep_insert' (by decide), bigSep_singleton]

/-- The contents at the start. -/
def W0 (d : Dev nD) : Valuation τ sig (Elt F) := fun b => m (d, b)

/-- The contents after the SparseCore call. -/
def W1 (d : Dev nD) : Valuation τ sig (Elt F) :=
  Function.update (Function.update (W0 m d) main_v0_0 (scV (F := F) (m (xLoc d)))) main_v0_1 (scI (F := F) (m (xLoc d)))

theorem W1_x (d : Dev nD) : W1 m d main_arg0 = m (xLoc d) := by
  unfold W1; rw [Function.update_of_ne (by decide), Function.update_of_ne (by decide)]; rfl
theorem W1_s0 (d : Dev nD) : W1 m d main_v0_0 = scV (F := F) (m (xLoc d)) := by
  unfold W1; rw [Function.update_of_ne (by decide), Function.update_self]
theorem W1_s1 (d : Dev nD) : W1 m d main_v0_1 = scI (F := F) (m (xLoc d)) := by
  unfold W1; rw [Function.update_self]
theorem W1_rest (d : Dev nD) : (held (SparseCore.T d) (ucRefs \ scRefs) (W1 m d) : sProp 𝕄) = held (SparseCore.T d) (ucRefs \ scRefs) (W0 m d) := by
  unfold StableHlo.held
  refine bigSep_congr fun b hb => ?_
  have hb' := (Finset.mem_sdiff.mp hb).2
  have h0 : b ≠ (main_v0_0 : DevRef τ sig) := fun h => hb' (h ▸ by decide)
  have h1 : b ≠ (main_v0_1 : DevRef τ sig) := fun h => hb' (h ▸ by decide)
  unfold W1; rw [Function.update_of_ne h1, Function.update_of_ne h0]

/-- The buffers are what the SparseCores take and a remainder, which with what they bring back is the buffers after the call. -/
theorem sc_split (d : Dev nD) : (held (SparseCore.T d) ucRefs (W0 m d) : sProp 𝕄)
    ⊢ iprop((bigSep Finset.univ fun c : Fin (grid0.bound 0) => stT m d c)
      ∗ ((bigSep Finset.univ fun c : Fin (grid0.bound 0) => dnT m d c) -∗ held (SparseCore.T d) ucRefs (W1 m d))) := by
  rw [st_eq, dn_eq, StableHlo.held_sub_split (SparseCore.T d) scRefs_sub (W0 m d), StableHlo.held_sub_split (SparseCore.T d) scRefs_sub (W1 m d), W1_rest,
    held_sc, held_sc, W1_x, W1_s0, W1_s1,
    show W0 m d main_arg0 = m (xLoc d) from rfl, show W0 m d main_v0_0 = m (s0Loc d) from rfl, show W0 m d main_v0_1 = m (s1Loc d) from rfl]
  iintro ⟨⟨Hx, H0, H1⟩, Hr⟩
  ihave Hx := (x_toks m d).1 $$ Hx
  icases Hx with ⟨Hd, Hx⟩
  isplitl [Hx H0 H1]
  · isplitl [Hx]; · iexact Hx
    isplitl [H0]; · iexact H0
    iexact H1
  iintro ⟨Hx, H0, H1⟩
  isplitr [Hr]
  · isplitl [Hd Hx]
    · iapply (x_toks m d).2
      isplitl [Hd]; · iexact Hd
      iexact Hx
    isplitl [H0]; · iexact H0
    iexact H1
  iexact Hr

end Cert.Proof

end
-- ==== Proof.TcBody.lean ====
module

public import proofs.«01_k».proof.Proof.TileObl
public import proofs.«01_k».proof.Proof.Gen.KernelIdeal.Launch
public import proofs.«01_k».proof.Proof.Gen.KernelIdeal.Points
public import Idealize.ShloMosaic.Lib.Pipeline.Value

@[expose] public section

/-! # The pipelined call's body

Sixteen rows at a time the TensorCore reads a block and stores two blocks of results, each a function of the block read. -/

noncomputable section

namespace Cert.Proof

open Cert.KernelIdeal Cert.KernelIdeal.Gen Idealize.ShloMosaic Idealize.ShloMosaic.TcCoe
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat BodyObligation)

variable {F : FTy → Type} [FloatOps F]

local notation "𝕄" => MT nD τ sig (HIx 1) (Elt F) ℕ UU ℕ

/-- The values a block's rows give: the second argument's columns 0, 1, 2 hold the three largest. -/
def tcPayV (X : FVec F S16x32768 .f32) : FVec F S16x8 .f32 :=
  k1_pay3 (iota .tc S16x32768 32 [1] iota_S16x32768_d1_w32) (iota .tc S16x8 32 [1] iota_S16x8_d1_w32) (k1_pay8 X) (k1_pay10 X) (k1_pay11 X)

/-- The positions a block's rows give. -/
def tcPayI (X : FVec F S16x32768 .f32) : IVec S16x8 32 :=
  k1_pay4 (F := F) (iota .tc S16x32768 32 [1] iota_S16x32768_d1_w32) (iota .tc S16x8 32 [1] iota_S16x8_d1_w32) (k1_pay7 X) (k1_pay8 X)
    (k1_pay10 X) k1_pay12 (k1_pay13 X)

/-- A program of the pipelined call's body on its TensorCore. -/
abbrev bodyWp {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Steps
variable (c : Dev nD) {s : Shape} {e : EltTy}

/-- A load of all of an owned buffer reads what it holds. -/
theorem bw_ld {m : Memref sig .tc .vmem s e} {off : Fin s.rank → ℕ} (h0 : off = fun _ => 0) {inb : ∀ a, off a + s.size a ≤ s.size a}
    {hl : m.view.LoadsAt (Rect.unit (s := s) off s.size inb)} {q : PosShare TreeShare} {X : s.Idx → Elt F e} {α : Type}
    {k : Vec F s e → Prog (TpuEff nD τ sig (Elt F) Λ₀ .tc) α} {Q : α → sProp 𝕄} :
    iprop(owns c m q X ∗ (owns c m q X -∗ bodyWp c (k X) Q))
      ⊢ bodyWp c (.op (.load m (Rect.unit (s := s) off s.size inb).toLoadRect hl) k) Q := by
  unfold owns
  iintro ⟨⟨%f, %hf, H⟩, HQ⟩
  have hld := wp_load_rect (Q := Q) 𝒱₀ (defs := defs₀ (F := F)) (Γ := .empty) c none Set.univ (m := m)
    (r := Rect.unit (s := s) off s.size inb) (hl := hl) (k := k) (S := m.view.set) (f := f) (q := q) (m.view.set_slice_subset _)
  iapply hld $$ H
  iintro H
  rw [show (m.access (Rect.unit (s := s) off s.size inb)).read (Elt F) f = X from
    (show _ = View.ld (m.view.read (Elt F) f) (Rect.unit (s := s) off s.size inb) from rfl).trans
      ((View.ld_unit_zero h0 inb _).trans hf)]
  iapply HQ
  iexists f
  isplitr; · ipureintro; exact hf
  iexact H

/-- A store of all of an owned buffer leaves what is stored. -/
theorem bw_st {m : Memref sig .tc .vmem s e} {off : Fin s.rank → ℕ} (h0 : off = fun _ => 0) {inb : ∀ a, off a + s.size a ≤ s.size a}
    {w : s.Idx → Elt F e} {hx : (m.access (Rect.unit (s := s) off s.size inb)).Stores Finset.univ}
    {hm : (Finset.univ : Finset (Rect.unit (s := s) off s.size inb).shape.Idx) = Finset.univ ∨ ∀ a, (Rect.unit (s := s) off s.size inb).stride a = 1}
    {X : s.Idx → Elt F e} {α : Type}
    {k : PUnit → Prog (TpuEff nD τ sig (Elt F) Λ₀ .tc) α} {Q : α → sProp 𝕄} :
    iprop(owns c m fullShare X ∗ (owns c m fullShare w -∗ bodyWp c (k ⟨⟩) Q))
      ⊢ bodyWp c (.op (.store m (Rect.unit (s := s) off s.size inb) w Finset.univ hx hm) k) Q := by
  unfold owns
  iintro ⟨⟨%f, -, H⟩, HQ⟩
  have hst := wp_store (Q := Q) 𝒱₀ (defs := defs₀ (F := F)) (Γ := .empty) c none Set.univ (m := m)
    (r := Rect.unit (s := s) off s.size inb) (w := w) (Mk := Finset.univ) (hx := hx) (hm := hm) (k := k) (S := m.view.set) (f := f)
    (by rw [View.setOn_univ]; exact m.view.set_slice_subset _)
  iapply hst $$ H
  iintro H
  iapply HQ
  iexists _
  isplitr; swap; · iexact H
  ipureintro
  refine ((View.ld_unit_zero h0 inb _).symm.trans ?_)
  exact View.read_write_univ (v := m.access (Rect.unit (s := s) off s.size inb)) f w

end Steps

/-- The body's triple: the block is read and stays, and the results' buffers hold the block's results. -/
theorem tc_body_wp (c : Dev nD) (i : grid1.Coords) (M0 : Memref sig .tc .vmem S16x32768 .f32) (h0 : M0.IsWhole)
    (M1 : Memref sig .tc .vmem S16x8 .f32) (h1 : M1.IsWhole) (M2 : Memref sig .tc .vmem S16x8 .i32) (h2 : M2.IsWhole)
    (X : FVec F S16x32768 .f32) (Y : FVec F S16x8 .f32) (Z : IVec S16x8 32) (Q : PUnit → sProp 𝕄) :
    iprop(owns c M0 fullShare X ∗ owns c M1 fullShare Y ∗ owns c M2 fullShare (Z : S16x8.Idx → Elt F .i32)
        ∗ (iprop(owns c M0 fullShare X ∗ owns c M1 fullShare (tcPayV X) ∗ owns c M2 fullShare (tcPayI X : S16x8.Idx → Elt F .i32)) -∗ Q ⟨⟩))
      ⊢ bodyWp c (cc1__tc_body (F := F) i M0 h0 M1 h1 M2 h2) Q := by
  rw [cc1__tc_body_eq_skeleton]
  unfold cc1__tc_body_skel
  rw [k1_part1_eq_skeleton]
  unfold k1_part1_skel
  iintro ⟨H0, H1, H2, HQ⟩
  iapply (bw_ld c (by funext a; fin_cases a <;> rfl)) $$ [H0 H1 H2 HQ]
  isplitl [H0]; · iexact H0
  iintro H0
  iapply (bw_ld c (by funext a; fin_cases a <;> rfl)) $$ [H0 H1 H2 HQ]
  isplitl [H1]; · iexact H1
  iintro H1
  iapply (bw_st c (by funext a; fin_cases a <;> rfl)) $$ [H0 H1 H2 HQ]
  isplitl [H1]; · iexact H1
  iintro H1
  iapply (bw_ld c (by funext a; fin_cases a <;> rfl)) $$ [H0 H1 H2 HQ]
  isplitl [H2]; · iexact H2
  iintro H2
  iapply (bw_st c (by funext a; fin_cases a <;> rfl)) $$ [H0 H1 H2 HQ]
  isplitl [H2]; · iexact H2
  iintro H2
  unfold bodyWp
  iapply (show Q ⟨⟩ ⊢ wp frame (wpE (defs₀ (F := F)) 𝒱₀ (c : Thread nD τ) none) Set.univ (.ret ⟨⟩) Q by
    rw [wp_ret]; iintro H; imodintro; iexact H) $$ [H0 H1 H2 HQ]
  iapply HQ
  isplitl [H0]; · iexact H0
  isplitl [H1]; · iexact H1
  iexact H2

end Cert.Proof

end
-- ==== Proof.TcRegion.lean ====
module

public import proofs.«01_k».proof.Proof.TcBody
public import Idealize.ShloMosaic.Lib.Pipeline.RegionsLoop
public import Idealize.ShloMosaic.Lib.Pipeline.ValueKit

@[expose] public section

/-! # The pipelined call

Four blocks of sixteen rows: the call leaves its two results' arrays at functions of the argument's, and every other buffer
as it was. -/

noncomputable section

namespace Cert.Proof

open Cert.KernelIdeal Cert.KernelIdeal.Gen Idealize.ShloMosaic Idealize.ShloMosaic.TcCoe
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat BodyObligation)

variable {F : FTy → Type} [FloatOps F]

local notation "𝕄" => MT nD τ sig (HIx 1) (Elt F) ℕ UU ℕ

/-- Sixteen rows of the argument. -/
def xBlk (x : FVec F S128x32768 .f32) (b : ℕ) : FVec F S16x32768 .f32 :=
  fun k => x (ix2 ⟨(b * 16 + (k 0).val) % 128, Nat.mod_lt _ (Nat.zero_lt_succ _)⟩ (k 1))

/-- The position of a result's entry in its block. -/
def inBlk (j : S64x8.Idx) : S16x8.Idx := ix2 ⟨(j 0).val % 16, Nat.mod_lt _ (Nat.zero_lt_succ _)⟩ (j 1)

/-- The values the pipelined call leaves. -/
def tcV (x : FVec F S128x32768 .f32) : FVec F S64x8 .f32 := fun j => tcPayV (xBlk x ((j 0).val / 16)) (inBlk j)

/-- The positions the pipelined call leaves. -/
def tcI (x : FVec F S128x32768 .f32) : IVec S64x8 32 := fun j => tcPayI (xBlk x ((j 0).val / 16)) (inBlk j)

variable (b : ℕ) (V : (c : Dev nD) → (b : Ref sig .tc) → Buf (Elt F) ((c : Thread nD τ).loc b))

/-- The argument's array on entry. -/
abbrev xOf (c : Dev nD) : FVec F S128x32768 .f32 := V c main_arg0

/-- The call's proof data: the arrays as on entry, the blocks as the body leaves them. -/
def dat (c : Dev nD) : Dat τ (Elt F) (HIx 1) ℕ UU ℕ cfg1 c where
  A w := V c (Pipeline.arrRef spec1 w)
  after
    | 0 => fun t => xBlk (xOf V c) t.val
    | 1 => fun t => tcPayV (xBlk (xOf V c) t.val)
    | 2 => fun t => tcPayI (xBlk (xOf V c) t.val)
    | ⟨_ + 3, h⟩ => absurd h (Nat.not_lt.2 (Nat.le_add_left _ _))
  Φ _ := BI.emp
  q _ := fullShare
  owed _ := 0
  recorded _ := {p | (K (F := F)).lev ((c : Thread nD τ), p.1) p.2 ≤ b}

theorem index0 : ∀ t : Fin cfg1.N, win1_0.index t = ![t.val, 0] := (by decide +kernel : ∀ t : Fin grid1.N, _)
theorem index1 : ∀ t : Fin cfg1.N, win1_1.index t = ![t.val, 0] := (by decide +kernel : ∀ t : Fin grid1.N, _)
theorem index2 : ∀ t : Fin cfg1.N, win1_2.index t = ![t.val, 0] := (by decide +kernel : ∀ t : Fin grid1.N, _)

/-- The body finds the block in the argument's buffer. -/
theorem before_in (c : Dev nD) (t : Fin cfg1.N) (d : (cfg1.win 0).block.Idx → Elt F (cfg1.win 0).elt) :
    (dat b V c).before 0 t d = xBlk (xOf V c) t.val := by
  rw [(dat b V c).before_fetched 0 t (fetch1_0 t) d]
  funext k
  have ht : t.val < 4 := lt_of_lt_of_eq t.isLt N_1
  have h0 : (k 0 : ℕ) < 16 := (k 0).isLt
  show V c main_arg0 ((win1_0.blk t).view.emb k) = V c main_arg0 _
  congr 1
  funext a
  apply Fin.ext
  fin_cases a
  · show ((win1_0.rect t).emb k 0 : ℕ) = (t.val * 16 + (k 0).val) % 128
    rw [Pipeline.Window.rect_emb_val win1_0, index0]
    show t.val * 16 + (k 0).val = _
    omega
  · show ((win1_0.rect t).emb k 1 : ℕ) = (k 1).val
    rw [Pipeline.Window.rect_emb_val win1_0, index0]
    show 0 * _ + (k 1).val = _
    omega

/-- The body's obligation at every point of the grid. -/
theorem body_obligation (c : Dev nD) : BodyObligation (dat b V c) (defs₀ (F := F)) 𝒱₀ none Set.univ := fun t => by
  rw [bigSep_W1, bigSep_W1]
  rw [show (dat b V c).Φ t.succ = (dat b V c).Φ t.castSucc from rfl,
    show (dat b V c).owesAt none t.succ = (dat b V c).owesAt none t.castSucc from rfl]
  iintro ⟨HΦ, HO, ⟨%d0, H0⟩, ⟨%d1, H1⟩, ⟨%d2, H2⟩⟩
  rw [before_in]
  iapply (tc_body_wp c (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2))
    (hstage1_2 ((cfg1.slots t 2).cast nbuf1_2)) (xBlk (xOf V c) t.val))
  isplitl [H0]; · iexact H0
  isplitl [H1]; · iexact H1
  isplitl [H2]; · iexact H2
  iintro ⟨H0, H1, H2⟩
  isplitl [HΦ]; · iexact HΦ
  isplitl [HO]; · iexact HO
  isplitl [H0]; · iexact H0
  isplitl [H1]; · iexact H1
  iexact H2

theorem inBlk_emb (t : ℕ) (ht : t < 4) (j : S64x8.Idx) (y : S16x8.Idx) (h0 : (j 0 : ℕ) = t * 16 + (y 0).val) (h1 : (j 1 : ℕ) = (y 1).val) :
    (j 0).val / 16 = t ∧ inBlk j = y := by
  have hy : (y 0 : ℕ) < 16 := (y 0).isLt
  refine ⟨by omega, ?_⟩
  funext a
  apply Fin.ext
  fin_cases a
  · show (j 0).val % 16 = (y 0).val; omega
  · exact h1

/-- The values' array on exit. -/
theorem arr_v (c : Dev nD) : (dat b V c).arrAt 1 cfg1.N = tcV (xOf V c) := by
  refine (dat b V c).arrAt_eq_of_covers 1 _ (by decide +kernel) fun t _ y => ?_
  have ht : t.val < 4 := lt_of_lt_of_eq t.isLt N_1
  obtain ⟨e1, e2⟩ := inBlk_emb t.val ht ((win1_1.blk t).view.emb y) y
    (by show ((win1_1.rect t).emb y 0 : ℕ) = _
        rw [Pipeline.Window.rect_emb_val win1_1, index1]; rfl)
    (by show ((win1_1.rect t).emb y 1 : ℕ) = _
        rw [Pipeline.Window.rect_emb_val win1_1, index1]; show 0 * _ + (y 1).val = _; omega)
  show tcPayV (xBlk (xOf V c) t.val) y = tcPayV (xBlk (xOf V c) _) _
  rw [e1, e2]

/-- The positions' array on exit. -/
theorem arr_i (c : Dev nD) : (dat b V c).arrAt 2 cfg1.N = tcI (xOf V c) := by
  refine (dat b V c).arrAt_eq_of_covers 2 _ (by decide +kernel) fun t _ y => ?_
  have ht : t.val < 4 := lt_of_lt_of_eq t.isLt N_1
  obtain ⟨e1, e2⟩ := inBlk_emb t.val ht ((win1_2.blk t).view.emb y) y
    (by show ((win1_2.rect t).emb y 0 : ℕ) = _
        rw [Pipeline.Window.rect_emb_val win1_2, index2]; rfl)
    (by show ((win1_2.rect t).emb y 1 : ℕ) = _
        rw [Pipeline.Window.rect_emb_val win1_2, index2]; show 0 * _ + (y 1).val = _; omega)
  show tcPayI (xBlk (xOf V c) t.val) y = tcPayI (xBlk (xOf V c) _) _
  rw [e1, e2]

/-- The proof data by pipelined call. -/
def pdats : (p : Fin 1) → (c : Dev nD) → Dat τ (Elt F) (HIx 1) ℕ UU ℕ (Pipeline.pin (pcfgs (F := F)) (fun p => (cfgs p).toPCfg_adm) p) c
  | ⟨0, _⟩ => fun c => dat b V c

/-- The buffers' contents after the call. -/
def after (c : Dev nD) : (r : Ref sig .tc) → Buf (Elt F) ((c : Thread nD τ).loc r) :=
  Function.update (Function.update (V c) main_v3_0 (tcV (xOf V c))) main_v3_1 (tcI (xOf V c))

theorem after_v (c : Dev nD) : after V c main_v3_0 = tcV (xOf V c) := by
  unfold after; rw [Function.update_of_ne (by decide), Function.update_self]
theorem after_i (c : Dev nD) : after V c main_v3_1 = tcI (xOf V c) := by
  unfold after; rw [Function.update_self]
theorem after_ne (c : Dev nD) (r : Ref sig .tc) (h0 : r ≠ main_v3_0) (h1 : r ≠ main_v3_1) : after V c r = V c r := by
  unfold after; rw [Function.update_of_ne h1, Function.update_of_ne h0]

/-- What the core owes: nothing, its waits below the level. -/
def owesNone (c : Dev nD) : sProp 𝕄 :=
  iprop(∃ W, ⌜(K (F := F)).WBelow (c : Thread nD τ) W b⌝ ∗ owes (c : Thread nD τ) (0 : CellTallies nD τ sig (HIx 1)) W)

set_option backward.isDefEq.respectTransparency.types false in
/-- The call over the unscoped buffers. -/
def reg : Pipeline.RegionSeg (pcfgs (F := F)) (fun p => (cfgs p).toPCfg_adm) (pdats b V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation b V c).loose
  hwaits := Pipeline.hwaits_of_owed_zero _ _ _ _ _ _ 0 fun _ _ => rfl
  pre c := iprop(unscopedBufs c (V c) ∗ owesNone b c)
  post c := iprop(unscopedBufs c (after V c) ∗ owesNone b c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) (fun p => (cfgs p).toPCfg_adm) (pdats b V) launch1.win launch1.arr_whole c
      ((pdats b V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owesNone Pipeline.Dat.owesAt Pipeline.owesWithin
      icases HO with ⟨%W, %hW, HO⟩
      iexists W
      isplitr; · ipureintro; exact fun p hp => Or.inl (hW p hp)
      iexact HO
    isplitr; · iempintro
    iexact Hrest
  hin c := by
    rw [show (pdats b V 0 c).Φ 0 = BI.emp from rfl]
    iintro -; iempintro
  hout c := by
    rw [Pipeline.ownSems0_none]
    iintro -
    isplitr; · iempintro
    isplitr; · iempintro
    iapply (show (BI.emp : sProp 𝕄) ⊢ Pipeline.scopedRest (Val := Elt F) spec1 c by rw [scopedRest1_eq])
    iempintro
  hexit c := by
    have hjoin := Pipeline.unscopedBufs_of_arrays (p := 0) (pcfgs (F := F)) (fun p => (cfgs p).toPCfg_adm) (Ix := HIx 1) (Name := ℕ) (U := UU) (Lvl := ℕ) launch1.win launch1.arr_whole c
      (pdats b V) ((pdats b V 0 c).share_full fun _ => rfl) (V c) (after V c) ((pdats b V 0 c).arrAt · cfg1.N)
      (fun w => by
        fin_cases w
        · exact ((pdats b V 0 c).arrAt_in 0 rfl _).trans (after_ne V c main_arg0 (by decide) (by decide)).symm
        · exact (arr_v b V c).trans (after_v V c).symm
        · exact (arr_i b V c).trans (after_i V c).symm)
      (fun r hr => after_ne V c r (fun h => hr (h ▸ Finset.mem_image.mpr ⟨1, Finset.mem_univ _, rfl⟩))
        fun h => hr (h ▸ Finset.mem_image.mpr ⟨2, Finset.mem_univ _, rfl⟩))
    iintro ⟨Ha, HO, -, Hrest⟩
    imodintro
    isplitl [Ha Hrest]
    · iapply hjoin; isplitl [Ha] <;> iassumption
    unfold owesNone Pipeline.Dat.owesAt Pipeline.owesWithin
    icases HO with ⟨%W, %hW, HO⟩; iexists W
    isplitr
    · ipureintro
      intro p hp
      rcases hW hp with h | ⟨w, s, h⟩
      · exact h
      · subst h; exact Nat.zero_le _
    iexact HO

end Cert.Proof

end
-- ==== Proof.Main.lean ====
module

public import proofs.«01_k».proof.Proof.ScCall
public import proofs.«01_k».proof.Proof.TcRegion

@[expose] public section

/-! # @main

The SparseCore call, the pipelined call and the slices and concatenations around them. -/

noncomputable section

namespace Cert.Proof

open Cert.KernelIdeal Cert.KernelIdeal.Gen Idealize.ShloMosaic Idealize.ShloMosaic.TcCoe
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds Idealize.ShloMosaic.Tactic
open Idealize.ShloMosaic.StableHlo (held)

variable {F : FTy → Type} [FloatOps F]

local notation "𝕄" => MT nD τ sig (HIx 1) (Elt F) ℕ UU ℕ

variable (m : (ℓ : Loc nD τ sig) → Buf (Elt F) ℓ)

/-! ## The pipelined call in @main -/

/-- The pipelined call's rounds in the whole. -/
abbrev EP : Emb (UR sig nD τ) 𝕄 := (Emb.inl : Emb (UR sig nD τ) (UR sig nD τ × Counters)).trans (embR : Emb (UR sig nD τ × Counters) 𝕄)

instance EP_landsIn : (EP (F := F)).LandsIn (upEmb : UEmb _ 𝕄) := by unfold EP; infer_instance

/-- The pipelined call's pieces that the launch deals. -/
def ghost (d : Dev nD) : sProp 𝕄 :=
  iprop(Pipeline.cellsGhost (Pipeline.pin (pcfgs (F := F)) (fun p => (cfgs p).toPCfg_adm)) EP 0 d
    ∗ Pipeline.toksInit (Pipeline.pin (pcfgs (F := F)) (fun p => (cfgs p).toPCfg_adm)) EP 0 d)

/-- The call's triple. -/
theorem region_wp [∀ e, Nonempty (Elt F e)] (b : ℕ) (V : (c : Dev nD) → (r : Ref sig .tc) → Buf (Elt F) ((c : Thread nD τ).loc r)) (d : Dev nD) (Q : PUnit → sProp 𝕄) :
    iprop(boundary (SparseCore.T d) ∗ unscopedBufs d (V d) ∗ owesNone b d ∗ levAts (K (F := F)).L (K (F := F)).lev ∗ ghost d
        ∗ ((boundary (SparseCore.T d) ∗ unscopedBufs d (after V d) ∗ owesNone b d) -∗ Q ⟨⟩))
      ⊢ wp frame (wpE ((K (F := F)).defs (D (F := F))) 𝒱 (SparseCore.T d) none) Set.univ
        (Prog.lift (.customCall (SparseCore.inner (Pipeline.entry 0)) ())) Q := by
  have h1 := (K (F := F)).wp_liftProg (D (F := F)) 𝒱 (SparseCore.T d) Set.univ none
    (Prog.lift (.customCall (Pipeline.entry 0) ()) : Prog (TpuEff nD τ sig (Elt F) (ΛP (F := F)) .tc) PUnit) Q
  have h2 := (reg b V).wp (pcfgs (F := F)) (fun p => (cfgs p).toPCfg_adm) (pdats b V) none cellOf_inj EP defs₀ 𝒱₀ (K (F := F)).L (K (F := F)).lev d none
    (fun _ h => nomatch h) .ret Q
  rw [show (reg b V).post d = iprop(unscopedBufs d (after V d) ∗ owesNone b d) from rfl,
    show (reg b V).pre d = iprop(unscopedBufs d (V d) ∗ owesNone b d) from rfl] at h2
  unfold ghost
  iintro ⟨Hb, Hu, HO, Hl, ⟨Hg, Ht⟩, HQ⟩
  iapply h1
  iapply h2
  isplitl [HQ]
  · iintro ⟨Hb, Hu, HO⟩
    rw [wp_ret]; imodintro
    iapply HQ
    isplitl [Hb]; · iexact Hb
    isplitl [Hu]; · iexact Hu
    iexact HO
  isplitl [Hb]; · iexact Hb
  isplitl [Hu HO]
  · isplitl [Hu]; · iexact Hu
    iexact HO
  isplitl [Hl]; · iexact Hl
  isplitl [Hg]; · iexact Hg
  iexact Ht

/-! ## The whole of @main -/

/-- The contents before the pipelined call. -/
abbrev W3 (d : Dev nD) : Valuation τ sig (Elt F) :=
  (StableHlo.unary main_v0_1 main_v2 ((extractStridedSlice S64x3 ![0, 0] · slices_S64x16_S64x3_0_0) : (⟨S64x16, .i32⟩ : BufTy).Contents (Elt F) → (⟨S64x3, .i32⟩ : BufTy).Contents (Elt F))).result
  ((StableHlo.unary main_v0_0 main_v1 ((extractStridedSlice S64x3 ![0, 0] · slices_S64x16_S64x3_0_0) : (⟨S64x16, .f32⟩ : BufTy).Contents (Elt F) → (⟨S64x3, .f32⟩ : BufTy).Contents (Elt F))).result (W1 m d))

/-- The contents after it. -/
def W4 (d : Dev nD) : Valuation τ sig (Elt F) :=
  Function.update (Function.update (W3 m d) main_v3_0 (tcV (F := F) (W3 m d main_arg0))) main_v3_1 (tcI (F := F) (W3 m d main_arg0))

/-- The contents at the end. -/
abbrev W8 (d : Dev nD) : Valuation τ sig (Elt F) :=
  (StableHlo.binary main_v5 main_v2 main_v7 ((fun a b => concatenate S128x3 0 [⟨S64x3, a⟩, ⟨S64x3, b⟩] concatenates_S64x3_S64x3_S128x3_d0) : (⟨S64x3, .i32⟩ : BufTy).Contents (Elt F) → (⟨S64x3, .i32⟩ : BufTy).Contents (Elt F) → (⟨S128x3, .i32⟩ : BufTy).Contents (Elt F))).result
  ((StableHlo.binary main_v4 main_v1 main_v6 ((fun a b => concatenate S128x3 0 [⟨S64x3, a⟩, ⟨S64x3, b⟩] concatenates_S64x3_S64x3_S128x3_d0) : (⟨S64x3, .f32⟩ : BufTy).Contents (Elt F) → (⟨S64x3, .f32⟩ : BufTy).Contents (Elt F) → (⟨S128x3, .f32⟩ : BufTy).Contents (Elt F))).result
  ((StableHlo.unary main_v3_1 main_v5 ((extractStridedSlice S64x3 ![0, 0] · slices_S64x8_S64x3_0_0) : (⟨S64x8, .i32⟩ : BufTy).Contents (Elt F) → (⟨S64x3, .i32⟩ : BufTy).Contents (Elt F))).result
  ((StableHlo.unary main_v3_0 main_v4 ((extractStridedSlice S64x3 ![0, 0] · slices_S64x8_S64x3_0_0) : (⟨S64x8, .f32⟩ : BufTy).Contents (Elt F) → (⟨S64x3, .f32⟩ : BufTy).Contents (Elt F))).result (W4 m d))))

theorem after_W (d : Dev nD) : (after (fun c r => W3 m c r) d) = fun r : Ref sig .tc => W4 m d r := by
  funext r
  by_cases h1 : r = main_v3_1
  · subst h1; rw [after_i]; unfold W4; rw [Function.update_self]
  by_cases h0 : r = main_v3_0
  · subst h0; rw [after_v]; unfold W4; rw [Function.update_of_ne (by decide), Function.update_self]
  rw [after_ne _ _ _ h0 h1]
  unfold W4
  rw [Function.update_of_ne (fun h => h1 (Proc.devRef_injective _ h)), Function.update_of_ne (fun h => h0 (Proc.devRef_injective _ h))]

theorem W3_x (d : Dev nD) : W3 m d main_arg0 = m (xLoc d) := by
  unfold W3
  rw [StableHlo.unary_result_ne', StableHlo.unary_result_ne', W1_x]
  all_goals decide
/-- The values the program leaves. -/
def resV (x : FVec F S128x32768 .f32) : FVec F S128x3 .f32 :=
  concatenate S128x3 0 [⟨S64x3, extractStridedSlice S64x3 ![0, 0] (tcV x) slices_S64x8_S64x3_0_0⟩,
    ⟨S64x3, extractStridedSlice S64x3 ![0, 0] (scV x) slices_S64x16_S64x3_0_0⟩] concatenates_S64x3_S64x3_S128x3_d0

/-- The positions the program leaves. -/
def resI (x : FVec F S128x32768 .f32) : IVec S128x3 32 :=
  concatenate S128x3 0 [⟨S64x3, extractStridedSlice S64x3 ![0, 0] (tcI x) slices_S64x8_S64x3_0_0⟩,
    ⟨S64x3, extractStridedSlice S64x3 ![0, 0] (scI x) slices_S64x16_S64x3_0_0⟩] concatenates_S64x3_S64x3_S128x3_d0

theorem W4_v (d : Dev nD) : W4 m d main_v3_0 = tcV (F := F) (m (xLoc d)) := by
  unfold W4; rw [Function.update_of_ne (by decide), Function.update_self, W3_x]
theorem W4_i (d : Dev nD) : W4 m d main_v3_1 = tcI (F := F) (m (xLoc d)) := by
  unfold W4; rw [Function.update_self, W3_x]
theorem W4_x (d : Dev nD) : W4 m d main_arg0 = m (xLoc d) := by
  unfold W4; rw [Function.update_of_ne (by decide), Function.update_of_ne (by decide), W3_x]
theorem W4_1 (d : Dev nD) : W4 m d main_v1 = extractStridedSlice S64x3 ![0, 0] (scV (F := F) (m (xLoc d))) slices_S64x16_S64x3_0_0 := by
  unfold W4; rw [Function.update_of_ne (by decide), Function.update_of_ne (by decide)]
  unfold W3; rw [StableHlo.unary_result_ne', StableHlo.unary_result, W1_s0]
  all_goals decide
theorem W4_2 (d : Dev nD) : W4 m d main_v2 = extractStridedSlice S64x3 ![0, 0] (scI (F := F) (m (xLoc d))) slices_S64x16_S64x3_0_0 := by
  unfold W4; rw [Function.update_of_ne (by decide), Function.update_of_ne (by decide)]
  unfold W3; rw [StableHlo.unary_result, StableHlo.unary_result_ne', W1_s1]
  all_goals decide
theorem W8_x (d : Dev nD) : W8 m d main_arg0 = m (xLoc d) := by
  unfold W8
  rw [StableHlo.binary_result_ne', StableHlo.binary_result_ne',
    StableHlo.unary_result_ne', StableHlo.unary_result_ne', W4_x]
  all_goals decide
theorem W8_v (d : Dev nD) : W8 m d main_v6 = resV (F := F) (m (xLoc d)) := by
  unfold W8
  rw [StableHlo.binary_result_ne', StableHlo.binary_result,
    StableHlo.unary_result_ne', StableHlo.unary_result, W4_v,
    StableHlo.unary_result_ne', StableHlo.unary_result_ne', W4_1]
  · rfl
  all_goals decide
theorem W8_i (d : Dev nD) : W8 m d main_v7 = resI (F := F) (m (xLoc d)) := by
  unfold W8
  rw [StableHlo.binary_result, StableHlo.binary_result_ne', StableHlo.unary_result,
    StableHlo.unary_result_ne', W4_i, StableHlo.binary_result_ne',
    StableHlo.unary_result_ne', StableHlo.unary_result_ne', W4_2]
  · rfl
  all_goals decide

/-- What @main leaves: every array of its own at its last contents. -/
abbrev FIN (d : Dev nD) : sProp 𝕄 := held (T d) ucRefs (W8 m d)

/-- After the SparseCore call the TensorCore owes nothing. -/
theorem owes_eq (d : Dev nD) (n : ℕ) (hn : n = 1) :
    (iprop(∃ W, ⌜(K (F := F)).WBelow (SparseCore.T d) W (8 * (SparseCore.Cfg.Blocks.one 1).fst n)⌝ ∗ owes (SparseCore.T d) ((K (F := F)).Otc d n) W) : sProp 𝕄)
      = owesNone (8 * (SparseCore.Cfg.Blocks.one 1).fst 1) d := by
  subst hn
  unfold owesNone
  rw [(K (F := F)).Otc_end d (le_refl 1)]

/-- @main on the TensorCore: the SparseCore call, two slices, the pipelined call, two slices, two concatenations. -/
theorem hmain [∀ e, Nonempty (Elt F e)] (ρ : Dev nD → PrngReg) (κ : GSem nD τ sig → ℕ) (d : Dev nD) :
    iprop((K (F := F)).ctx EH (P m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) ucRefs (W0 m d) from unscoped_held d (W0 m d)]
  simp only [main, wp_bind, wp_pure]
  iintro ⟨#Hctx, Hst, ⟨Hb, Hheld, Hts, -⟩, HG⟩
  have hs : (held (SparseCore.T d) ucRefs (W0 m d) : sProp 𝕄) ⊢ iprop((bigSep Finset.univ fun c : Fin ((K (F := F)).nCore 0) => (P m).st 0 d c)
      ∗ ((bigSep Finset.univ fun c : Fin ((K (F := F)).nCore 0) => (P m).dn 0 d c) -∗ held (SparseCore.T d) ucRefs (W1 m d))) := sc_split m d
  ihave Hs := hs $$ Hheld
  icases Hs with ⟨Hs, Hback⟩
  iapply ((K (F := F)).wp_run (D (F := F)) 𝒱 (EH := EH) (P := P m) κ d 0) $$ [Hst Hs Hback Hb Hts HG]
  isplitr; · iexact Hctx
  isplitl [Hst]; · iexact Hst
  isplitl [Hs]; · iexact Hs
  iintro ⟨Hst, Hdn⟩
  ihave Hheld := Hback $$ Hdn
  iapply (StableHlo.wp_hlo_within 𝒱 (SparseCore.T d) none Set.univ (op := _) (S := ucRefs) (show ({(Proc.devRef .tc main_v0_0 : DevRef τ sig), Proc.devRef .tc main_v1} : Finset (DevRef τ sig)) ⊆ ucRefs by decide) (V := W1 m d)) $$ [Hb Hheld]
  · isplitl [Hb] <;> iassumption
  iintro ⟨Hb, Hheld⟩
  rw [wp_ret]; imodintro
  iapply (StableHlo.wp_hlo_within 𝒱 (SparseCore.T d) none Set.univ (op := _) (S := ucRefs) (show ({(Proc.devRef .tc main_v0_1 : DevRef τ sig), Proc.devRef .tc main_v2} : Finset (DevRef τ sig)) ⊆ ucRefs by decide) (V := _)) $$ [Hb Hheld]
  · isplitl [Hb] <;> iassumption
  iintro ⟨Hb, Hheld⟩
  rw [wp_ret]; imodintro
  ihave Hu := (Entails.of_eq (unscoped_held d (W3 m d)).symm) $$ Hheld
  unfold SparseCore.Cfg.tcSt
  icases Hst with ⟨HO, Hst⟩
  ihave Hl := ((K (F := F)).ctx_levAts κ) $$ Hctx
  have h := region_wp (F := F) (8 * (SparseCore.Cfg.Blocks.one 1).fst 1) (fun c r => W3 m c r) d
  iapply h
  isplitl [Hb]; · iexact Hb
  isplitl [Hu]; · iexact Hu
  isplitl [HO]; · iapply (Entails.of_eq (owes_eq (F := F) d _ rfl)); iexact HO
  isplitl [Hl]; · iexact Hl
  isplitl [HG]; · iexact HG
  iintro ⟨Hb, Hu, HO⟩
  ihave Hheld := (Entails.of_eq ((congrArg (unscopedBufs d) (after_W m d)).trans (unscoped_held d (W4 m d)))) $$ Hu
  iapply (StableHlo.wp_hlo_within 𝒱 (SparseCore.T d) none Set.univ (op := _) (S := ucRefs) (show ({(Proc.devRef .tc main_v3_0 : DevRef τ sig), Proc.devRef .tc main_v4} : Finset (DevRef τ sig)) ⊆ ucRefs by decide) (V := W4 m d)) $$ [Hb Hheld]
  · isplitl [Hb] <;> iassumption
  iintro ⟨Hb, Hheld⟩
  rw [wp_ret]; imodintro
  iapply (StableHlo.wp_hlo_within 𝒱 (SparseCore.T d) none Set.univ (op := _) (S := ucRefs) (show ({(Proc.devRef .tc main_v3_1 : DevRef τ sig), Proc.devRef .tc main_v5} : Finset (DevRef τ sig)) ⊆ ucRefs by decide) (V := _)) $$ [Hb Hheld]
  · isplitl [Hb] <;> iassumption
  iintro ⟨Hb, Hheld⟩
  rw [wp_ret]; imodintro
  iapply (StableHlo.wp_hlo_within 𝒱 (SparseCore.T d) none Set.univ (op := _) (S := ucRefs) (show ({(Proc.devRef .tc main_v4 : DevRef τ sig), Proc.devRef .tc main_v1, Proc.devRef .tc main_v6} : Finset (DevRef τ sig)) ⊆ ucRefs by decide) (V := _)) $$ [Hb Hheld]
  · isplitl [Hb] <;> iassumption
  iintro ⟨Hb, Hheld⟩
  rw [wp_ret]; imodintro
  iapply (StableHlo.wp_hlo_within 𝒱 (SparseCore.T d) none Set.univ (op := _) (S := ucRefs) (show ({(Proc.devRef .tc main_v5 : DevRef τ sig), Proc.devRef .tc main_v2, Proc.devRef .tc main_v7} : Finset (DevRef τ sig)) ⊆ ucRefs by decide) (V := _)) $$ [Hb Hheld]
  · isplitl [Hb] <;> iassumption
  iintro ⟨Hb, Hheld⟩
  rw [wp_ret]; imodintro; imodintro
  isplitl [Hst HO]
  · isplitl [HO]; · iapply (Entails.of_eq (owes_eq (F := F) d 1 rfl).symm); iexact HO
    iexact Hst
  isplitl [Hheld]; · iexact Hheld
  isplitl [Hb] <;> iassumption

end Cert.Proof

end
-- ==== Proof.Run.lean ====
module

public import proofs.«01_k».proof.Proof.Main

@[expose] public section

/-! # The run

The launch of every thread, and what the last state holds. -/

noncomputable section

namespace Cert.Proof

open Cert.KernelIdeal Cert.KernelIdeal.Gen Idealize.ShloMosaic Idealize.ShloMosaic.TcCoe
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds Idealize.ShloMosaic.Tactic
open Idealize.ShloMosaic.StableHlo (held)

variable {F : FTy → Type} [FloatOps F]

local notation "𝕄" => MT nD τ sig (HIx 1) (Elt F) ℕ UU ℕ
variable (m : (ℓ : Loc nD τ sig) → Buf (Elt F) ℓ)

/-! ## What the launch deals -/

/-- The rounds of the pipelined call. -/
def uP : UR sig nD τ := initOf (Pipeline.cells (Pipeline.pin (pcfgs (F := F)) (fun p => (cfgs p).toPCfg_adm)) (nD := nD) cellOf_inj)
  (Pipeline.launchToks (Pipeline.pin (pcfgs (F := F)) (fun p => (cfgs p).toPCfg_adm)) cellOf_inj)

/-- The launch's ghost state: the handshakes' rounds and the pipelined call's. -/
def u₀ : UU := (initOf (K (F := F)).hsCells (K (F := F)).hsToks, (uP (F := F), 1))

omit [FloatOps F] in
theorem bigSep_emp' {I : Type} (s : Finset I) : (bigSep s fun _ => iprop(emp)) = (iprop(emp) : sProp 𝕄) := bigSep_emp_const s

theorem fund : (BI.own (EP (F := F) (uP (F := F))) : sProp 𝕄) ⊢ iprop(|==> bigSep Finset.univ fun d : Dev nD => ghost d) := by
  unfold uP
  have e : (bigSep Finset.univ fun d : Dev nD => ghost (F := F) d)
      = iprop((bigSep Finset.univ fun c : Dev nD => bigSep Finset.univ fun p => Pipeline.cellsGhost (Pipeline.pin (pcfgs (F := F)) (fun p => (cfgs p).toPCfg_adm)) EP p c)
          ∗ (bigSep Finset.univ fun c : Dev nD => bigSep Finset.univ fun p => Pipeline.toksInit (Pipeline.pin (pcfgs (F := F)) (fun p => (cfgs p).toPCfg_adm)) EP p c)) := by
    unfold ghost
    rw [bigSep_sep']
    rw [bigSep_congr fun (d : Dev nD) _ => bigSep_univ_of_subsingleton (0 : Fin 1) (Φ := fun p => Pipeline.cellsGhost (Pipeline.pin (pcfgs (F := F)) (fun p => (cfgs p).toPCfg_adm)) EP p d),
      bigSep_congr fun (d : Dev nD) _ => bigSep_univ_of_subsingleton (0 : Fin 1) (Φ := fun p => Pipeline.toksInit (Pipeline.pin (pcfgs (F := F)) (fun p => (cfgs p).toPCfg_adm)) EP p d)]
  rw [e]
  exact Pipeline.fund_ghost (Pipeline.pin (pcfgs (F := F)) (fun p => (cfgs p).toPCfg_adm)) (EP (F := F)) cellOf_inj

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb (embR : Emb (UR sig nD τ × Counters) 𝕄) (uP (F := F)) 1) $$ HR
  icases H2 with ⟨HP, -⟩
  imod (fund (F := F)) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What the last state shows -/

/-- Where the values lie. -/
abbrev vLoc (d : Dev nD) : Loc nD τ sig := (SparseCore.T d).loc main_v6
/-- Where the positions lie. -/
abbrev iLoc (d : Dev nD) : Loc nD τ sig := (SparseCore.T d).loc main_v7

/-- The argument as it was, and the two results. -/
def fq (d : Dev nD) (s' : Phys nD τ sig (Elt F)) : Prop :=
  s'.mem.mem (xLoc d) = m (xLoc d) ∧ s'.mem.mem (vLoc d) = resV (F := F) (m (xLoc d)) ∧ s'.mem.mem (iLoc d) = resI (F := F) (m (xLoc d))

/-- A held buffer's contents in the state. -/
theorem held_read (d : Dev nD) (s' : Phys nD τ sig (Elt F)) (W : Valuation τ sig (Elt F)) (r : DevRef τ sig) (hr : r ∈ ucRefs) :
    iprop(held (SparseCore.T d) ucRefs W ∗ SI s') ⊢ (⌜s'.mem.mem (d, r) = W r⌝ : sProp 𝕄) := by
  have h1 : (held (SparseCore.T d) ucRefs W : sProp 𝕄) ⊢ ((d, r) : Loc nD τ sig) ↦{fullShare} W r := bigSep_elim hr
  iintro ⟨Hx, HSI⟩
  ihave Hx' := h1 $$ Hx
  ihave H := (SI_pointsTo_agree (st := s') (ℓ := (d, r)) (I := Finset.univ) (q := fullShare) (f := W r)) $$ [HSI Hx']
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  have hx := held_read d s' (W8 m d) (Proc.devRef .tc main_arg0) (by decide)
  have hv := held_read d s' (W8 m d) (Proc.devRef .tc main_v6) (by decide)
  have hi := held_read d s' (W8 m d) (Proc.devRef .tc main_v7) (by decide)
  rw [W8_x] at hx
  rw [W8_v] at hv
  rw [W8_i] at hi
  exact fun a h => ⟨hx a h, hv a h, hi a h⟩

/-! ## The program's run -/

/-- What every run of the program leaves. -/
def QC : PUnit × MemSt nD τ sig (Elt F) → Prop := fun r =>
  (∀ c : Dev nD, r.2.mem (xLoc c) = m (xLoc c) ∧ r.2.mem (vLoc c) = resV (F := F) (m (xLoc c)) ∧ r.2.mem (iLoc c) = resI (F := F) (m (xLoc c)))
    ∧ r.2.sem = fun _ => 0

/-- Every run ends with the argument as it was, the results as computed and every semaphore at zero. -/
theorem run_main [∀ e, Nonempty (Elt F e)] (ρ : Dev nD → PrngReg) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main ghost (FIN m) (u₀ (F := F)) (sep_elim_left.trans (hu₀ m)) (hmain m ρ) (fq m) (hfin m) (QC m) (fun _ h hz => ⟨h, hz⟩)

end Cert.Proof

end
-- ==== Proof.Rank.lean ====
module

public import proofs.«01_k».proof.Proof.Model

/-! # Ranks in a finite set ordered by a key -/

@[expose] public section

noncomputable section

namespace Cert.Proof

open Cert.KernelIdeal Cert.KernelIdeal.Gen Idealize.ShloMosaic Idealize.SL.Sem

section rank
variable {K : Type*} [LinearOrder K]

/-- `n` lies in `S` and exactly `j` members of `S` have a smaller key. -/
def Rk (e : ℕ → K) (S : Finset ℕ) (j n : ℕ) : Prop := n ∈ S ∧ (S.filter fun m => e m < e n).card = j

theorem Rk.mem {e : ℕ → K} {S : Finset ℕ} {j n : ℕ} (h : Rk e S j n) : n ∈ S := h.1

/-- A smaller rank is a smaller key. -/
theorem Rk.lt {e : ℕ → K} {S : Finset ℕ} {i j n m : ℕ} (hn : Rk e S i n) (hm : Rk e S j m) (hij : i < j) : e n < e m := by
  by_contra hle
  have hle := not_lt.mp hle
  have : j ≤ i := by
    rw [← hn.2, ← hm.2]
    refine Finset.card_le_card fun x hx => ?_
    rw [Finset.mem_filter] at hx ⊢
    exact ⟨hx.1, lt_of_lt_of_le hx.2 hle⟩
  omega

/-- A member with a smaller key has a smaller rank. -/
theorem card_lt_card_of_lt {e : ℕ → K} {S : Finset ℕ} {n m : ℕ} (hn : n ∈ S) (h : e n < e m) :
    (S.filter fun x => e x < e n).card < (S.filter fun x => e x < e m).card := by
  refine Finset.card_lt_card ⟨fun x hx => ?_, fun hsub => ?_⟩
  · rw [Finset.mem_filter] at hx ⊢
    exact ⟨hx.1, hx.2.trans h⟩
  · have : n ∈ S.filter fun x => e x < e n := hsub (Finset.mem_filter.mpr ⟨hn, h⟩)
    exact lt_irrefl _ (Finset.mem_filter.mp this).2

/-- Where keys differ, one member has each rank. -/
theorem Rk.unique {e : ℕ → K} {S : Finset ℕ} {j n m : ℕ} (he : Set.InjOn e S) (hn : Rk e S j n) (hm : Rk e S j m) : n = m := by
  rcases lt_trichotomy (e n) (e m) with h | h | h
  · have := card_lt_card_of_lt hn.1 h
    rw [hn.2, hm.2] at this
    exact absurd this (lt_irrefl _)
  · exact he hn.1 hm.1 h
  · have := card_lt_card_of_lt hm.1 h
    rw [hn.2, hm.2] at this
    exact absurd this (lt_irrefl _)

/-- Rank zero is the least key. -/
theorem rk_zero {e : ℕ → K} {S : Finset ℕ} {n : ℕ} : Rk e S 0 n ↔ n ∈ S ∧ ∀ m ∈ S, e n ≤ e m := by
  unfold Rk
  rw [Finset.card_eq_zero, Finset.filter_eq_empty_iff]
  simp only [not_lt]

/-- Without its least member, the ranks move down by one. -/
theorem Rk.pop {e : ℕ → K} {S : Finset ℕ} {j w n : ℕ} (hw : Rk e S 0 w) (hn : Rk e S (j + 1) n) : Rk e (S.erase w) j n := by
  have hlt : e w < e n := hw.lt hn (Nat.succ_pos j)
  refine ⟨Finset.mem_erase.mpr ⟨fun h => ?_, hn.1⟩, ?_⟩
  · rw [h] at hlt
    exact lt_irrefl _ hlt
  · rw [Finset.filter_erase, Finset.card_erase_of_mem (Finset.mem_filter.mpr ⟨hw.1, hlt⟩), hn.2]
    rfl

/-- The other way: with its least member back, the ranks move up by one. -/
theorem Rk.push {e : ℕ → K} {S : Finset ℕ} {j w n : ℕ} (he : Set.InjOn e S) (hw : Rk e S 0 w) (hn : Rk e (S.erase w) j n) :
    Rk e S (j + 1) n := by
  have hnS : n ∈ S := Finset.mem_of_mem_erase hn.1
  have hlt : e w < e n :=
    lt_of_le_of_ne ((rk_zero.mp hw).2 n hnS) fun h => Finset.ne_of_mem_erase hn.1 (he hw.1 hnS h).symm
  refine ⟨hnS, ?_⟩
  have h := hn.2
  rw [Finset.filter_erase, Finset.card_erase_of_mem (Finset.mem_filter.mpr ⟨hw.1, hlt⟩)] at h
  have hpos : 0 < (S.filter fun m => e m < e n).card := Finset.card_pos.mpr ⟨w, Finset.mem_filter.mpr ⟨hw.1, hlt⟩⟩
  omega

/-- Every rank below the size is taken. -/
theorem Rk.exists {e : ℕ → K} : ∀ (j : ℕ) {S : Finset ℕ} (_ : Set.InjOn e S) (_ : j < S.card), ∃ n, Rk e S j n := by
  intro j
  induction j with
  | zero =>
    intro S he hj
    obtain ⟨n, hn, hmin⟩ := S.exists_min_image e (Finset.card_pos.mp hj)
    exact ⟨n, rk_zero.mpr ⟨hn, hmin⟩⟩
  | succ j ih =>
    intro S he hj
    obtain ⟨w, hw, hmin⟩ := S.exists_min_image e (Finset.card_pos.mp (by omega))
    have hw0 : Rk e S 0 w := rk_zero.mpr ⟨hw, hmin⟩
    obtain ⟨n, hn⟩ := ih (S := S.erase w) (he.mono (by simp)) (by rw [Finset.card_erase_of_mem hw]; omega)
    exact ⟨n, hw0.push he hn⟩

/-- Ranks in a part that holds all the first `q` of the whole are ranks in the whole. -/
theorem Rk.of_subset {e : ℕ → K} {q : ℕ} : ∀ (j : ℕ) {S T : Finset ℕ} {n : ℕ} (_ : Set.InjOn e T) (_ : S ⊆ T)
    (_ : ∀ i m, i < q → Rk e T i m → m ∈ S) (_ : j < q) (_ : j < T.card) (_ : Rk e S j n), Rk e T j n := by
  intro j S T n he hST hcl hj hT hn
  obtain ⟨m, hm⟩ := Rk.exists j he hT
  have hmS : m ∈ S := hcl j m hj hm
  have hcount : (S.filter fun x => e x < e m).card = j := by
    rw [← hm.2]
    congr 1
    ext x
    rw [Finset.mem_filter, Finset.mem_filter]
    refine ⟨fun h => ⟨hST h.1, h.2⟩, fun h => ⟨?_, h.2⟩⟩
    refine hcl _ x ?_ ⟨h.1, rfl⟩
    have := card_lt_card_of_lt h.1 h.2
    rw [hm.2] at this
    omega
  rw [Rk.unique (he.mono hST) hn ⟨hmS, hcount⟩]
  exact hm

/-- A new member with a larger key leaves a rank. -/
theorem Rk.insert_of_lt {e : ℕ → K} {S : Finset ℕ} {j n c : ℕ} (hn : Rk e S j n) (h : e n < e c) : Rk e (insert c S) j n := by
  refine ⟨Finset.mem_insert_of_mem hn.1, ?_⟩
  rw [Finset.filter_insert, if_neg (not_lt.mpr h.le), hn.2]

/-- A new member with a smaller key moves a rank up by one. -/
theorem Rk.insert_of_gt {e : ℕ → K} {S : Finset ℕ} {j n c : ℕ} (hn : Rk e S j n) (hc : c ∉ S) (h : e c < e n) :
    Rk e (insert c S) (j + 1) n := by
  refine ⟨Finset.mem_insert_of_mem hn.1, ?_⟩
  rw [Finset.filter_insert, if_pos h, Finset.card_insert_of_notMem fun hx => hc (Finset.mem_filter.mp hx).1, hn.2]

/-- The new member's own rank is the number of smaller keys there were. -/
theorem Rk.insert_self {e : ℕ → K} {S : Finset ℕ} {c : ℕ} : Rk e (insert c S) (S.filter fun m => e m < e c).card c := by
  refine ⟨Finset.mem_insert_self _ _, ?_⟩
  rw [Finset.filter_insert, if_neg (lt_irrefl _)]

end rank

/-! ### The order of the kernel: larger values first, then smaller indices -/

/-- The key of an element: smaller is better. -/
def key (val : ℕ → EReal) (idx : ℕ → ℕ) (n : ℕ) : Lex (ERealᵒᵈ × ℕ) := toLex (OrderDual.toDual (val n), idx n)

theorem key_lt {val : ℕ → EReal} {idx : ℕ → ℕ} {n m : ℕ} :
    key val idx n < key val idx m ↔ val m < val n ∨ (val n = val m ∧ idx n < idx m) := by
  unfold key
  rw [Prod.Lex.toLex_lt_toLex]
  simp [OrderDual.toDual_lt_toDual]

theorem key_inj {val : ℕ → EReal} {idx : ℕ → ℕ} {S : Set ℕ} (h : Set.InjOn idx S) : Set.InjOn (key val idx) S := by
  intro a ha b hb hab
  refine h ha hb ?_
  have := congrArg (fun k => (ofLex k).2) hab
  exact this

end Cert.Proof

end
-- ==== Proof.Lane.lean ====
module

public import proofs.«01_k».proof.Proof.Rank

/-! # The cells of a lane and the best of the lanes, over the extended reals -/

@[expose] public section

noncomputable section

namespace Cert.Proof

open Cert.KernelIdeal Cert.KernelIdeal.Gen Idealize.ShloMosaic Idealize.SL.Sem

section cells
variable (val : ℕ → EReal) (idx : ℕ → ℕ) (plc : ℕ → BitVec 32)

/-- A value, an index and a place are those of element `n`. -/
def Holds (n : ℕ) (t : EReal) (i p : BitVec 32) : Prop := t = val n ∧ i = BitVec.ofNat 32 (idx n) ∧ p = plc n

/-- A cell holds the member of `S` of rank `j`, or minus infinity where there is none. -/
def Cell (S : Finset ℕ) (j : ℕ) (t : EReal) (i p : BitVec 32) : Prop :=
  (∃ n, Rk (key val idx) S j n ∧ Holds val idx plc n t i p) ∨ (S.card ≤ j ∧ t = ⊥)

/-- The number of members of `S` that come before `c`. -/
def before (S : Finset ℕ) (c : ℕ) : ℕ := (S.filter fun m => key val idx m < key val idx c).card

variable {val idx plc}

theorem Cell.empty {j : ℕ} {i p : BitVec 32} : Cell val idx plc ∅ j ⊥ i p := .inr ⟨by simp, rfl⟩

/-- A newcomer with a larger value pushes a cell down by one. -/
theorem Cell.down {S : Finset ℕ} {j c : ℕ} {t : EReal} {i p : BitVec 32} (h : Cell val idx plc S j t i p) (hc : c ∉ S)
    (hb : t < val c) : Cell val idx plc (insert c S) (j + 1) t i p ∧ before val idx S c ≤ j := by
  rcases h with ⟨n, hn, hh⟩ | ⟨hS, ht⟩
  · have hlt : key val idx c < key val idx n := key_lt.mpr (.inl (hh.1 ▸ hb))
    refine ⟨.inl ⟨n, hn.insert_of_gt hc hlt, hh⟩, ?_⟩
    rw [← hn.2]
    refine Finset.card_le_card fun x hx => ?_
    rw [Finset.mem_filter] at hx ⊢
    exact ⟨hx.1, hx.2.trans hlt⟩
  · refine ⟨.inr ⟨?_, ht⟩, (Finset.card_le_card (Finset.filter_subset _ _)).trans hS⟩
    rw [Finset.card_insert_of_notMem hc]
    omega

/-- A newcomer that is not larger, and comes later, leaves a cell. -/
theorem Cell.stay {S : Finset ℕ} {j c : ℕ} {t : EReal} {i p : BitVec 32} (h : Cell val idx plc S j t i p)
    (hi : ∀ n ∈ S, idx n < idx c) (hf : val c ≠ ⊥) (hb : ¬ t < val c) :
    Cell val idx plc (insert c S) j t i p ∧ j + 1 ≤ before val idx S c := by
  rcases h with ⟨n, hn, hh⟩ | ⟨_, ht⟩
  · have hlt : key val idx n < key val idx c := by
      rw [key_lt]
      rcases lt_or_eq_of_le (not_lt.mp hb) with h | h
      · exact .inl (hh.1 ▸ h)
      · exact .inr ⟨(h.trans hh.1).symm, hi n hn.1⟩
    refine ⟨.inl ⟨n, hn.insert_of_lt hlt, hh⟩, ?_⟩
    have := card_lt_card_of_lt hn.1 hlt
    rw [hn.2] at this
    exact this
  · exact absurd (ht ▸ bot_lt_iff_ne_bot.mpr hf) hb

/-- The newcomer's own cell. -/
theorem Cell.new {S : Finset ℕ} {j c : ℕ} (hj : before val idx S c = j) {t : EReal} {i p : BitVec 32}
    (hh : Holds val idx plc c t i p) : Cell val idx plc (insert c S) j t i p := .inl ⟨c, hj ▸ Rk.insert_self, hh⟩

/-- A lane's three candidates are the three first of `S`. -/
def T3 (val : ℕ → EReal) (idx : ℕ → ℕ) (plc : ℕ → BitVec 32) (S : Finset ℕ) (x : Tri Ideal) (l : S16.Idx) : Prop :=
  Cell val idx plc S 0 (x.t1 l) (x.i1 l) (x.p1 l) ∧ Cell val idx plc S 1 (x.t2 l) (x.i2 l) (x.p2 l) ∧
    Cell val idx plc S 2 (x.t3 l) (x.i3 l) (x.p3 l)

theorem gt_iff (a b : FVec Ideal S16 .f32) (l : S16.Idx) : cmpf .ogt a b l = 1#1 ↔ b l < a l := by
  show Ideal.cmp .ogt (a l) (b l) = 1#1 ↔ _
  simp only [Ideal.cmp]
  by_cases h : b l < a l <;> simp [h]

theorem sel_pos {α : Type} {c : BitVec 1} (h : c = 1#1) (a b : α) : Scalar.select c a b = a := if_pos h
theorem sel_neg {α : Type} {c : BitVec 1} (h : ¬ c = 1#1) (a b : α) : Scalar.select c a b = b := if_neg h

/-- Inserting a newcomer keeps the three first. -/
theorem T3.ins {S : Finset ℕ} {x : Tri Ideal} {l : S16.Idx} (h : T3 val idx plc S x l) {c : ℕ} (hc : c ∉ S)
    (hi : ∀ n ∈ S, idx n < idx c) (hf : val c ≠ ⊥) {m1 m2 m3 : IVec S16 1} {v : Cand Ideal}
    (hv : Holds val idx plc c (v.1 l) (v.2.1 l) (v.2.2 l))
    (h1 : m1 l = 1#1 ↔ x.t1 l < v.1 l) (h2 : m2 l = 1#1 ↔ x.t2 l < v.1 l) (h3 : m3 l = 1#1 ↔ x.t3 l < v.1 l) :
    T3 val idx plc (insert c S) (x.ins m1 m2 m3 v) l := by
  obtain ⟨c1, c2, c3⟩ := h
  rw [hv.1] at h1 h2 h3
  show Cell val idx plc _ 0 (Scalar.select (m1 l) _ _) (Scalar.select (m1 l) _ _) (Scalar.select (m1 l) _ _) ∧
    Cell val idx plc _ 1 (Scalar.select (m1 l) _ (Scalar.select (m2 l) _ _)) (Scalar.select (m1 l) _ (Scalar.select (m2 l) _ _))
      (Scalar.select (m1 l) _ (Scalar.select (m2 l) _ _)) ∧
    Cell val idx plc _ 2 (Scalar.select (m2 l) _ (Scalar.select (m3 l) _ _)) (Scalar.select (m2 l) _ (Scalar.select (m3 l) _ _))
      (Scalar.select (m2 l) _ (Scalar.select (m3 l) _ _))
  by_cases e1 : m1 l = 1#1
  · obtain ⟨d1, k1⟩ := c1.down hc (h1.mp e1)
    by_cases e2 : m2 l = 1#1
    · obtain ⟨d2, k2⟩ := c2.down hc (h2.mp e2)
      simp only [sel_pos e1, sel_pos e2]
      exact ⟨.new (by omega) hv, d1, d2⟩
    · have := (c2.stay hi hf (mt h2.mpr e2)).2
      omega
  · obtain ⟨d1, k1⟩ := c1.stay hi hf (mt h1.mpr e1)
    by_cases e2 : m2 l = 1#1
    · obtain ⟨d2, k2⟩ := c2.down hc (h2.mp e2)
      simp only [sel_neg e1, sel_pos e2]
      exact ⟨d1, .new (by omega) hv, d2⟩
    · obtain ⟨d2, k2⟩ := c2.stay hi hf (mt h2.mpr e2)
      by_cases e3 : m3 l = 1#1
      · obtain ⟨d3, k3⟩ := c3.down hc (h3.mp e3)
        simp only [sel_neg e1, sel_neg e2, sel_pos e3]
        exact ⟨d1, d2, .new (by omega) hv⟩
      · obtain ⟨d3, k3⟩ := c3.stay hi hf (mt h3.mpr e3)
        simp only [sel_neg e1, sel_neg e2, sel_neg e3]
        exact ⟨d1, d2, d3⟩

/-- Inserting under comparisons that are all false changes nothing. -/
theorem T3.skip {S : Finset ℕ} {x : Tri Ideal} {l : S16.Idx} (h : T3 val idx plc S x l) {m1 m2 m3 : IVec S16 1} {v : Cand Ideal}
    (h1 : ¬ m1 l = 1#1) (h2 : ¬ m2 l = 1#1) (h3 : ¬ m3 l = 1#1) : T3 val idx plc S (x.ins m1 m2 m3 v) l := by
  show Cell val idx plc _ 0 (Scalar.select (m1 l) _ _) (Scalar.select (m1 l) _ _) (Scalar.select (m1 l) _ _) ∧
    Cell val idx plc _ 1 (Scalar.select (m1 l) _ (Scalar.select (m2 l) _ _)) (Scalar.select (m1 l) _ (Scalar.select (m2 l) _ _))
      (Scalar.select (m1 l) _ (Scalar.select (m2 l) _ _)) ∧
    Cell val idx plc _ 2 (Scalar.select (m2 l) _ (Scalar.select (m3 l) _ _)) (Scalar.select (m2 l) _ (Scalar.select (m3 l) _ _))
      (Scalar.select (m2 l) _ (Scalar.select (m3 l) _ _))
  simp only [sel_neg h1, sel_neg h2, sel_neg h3]
  exact h

theorem negv_apply (l : S16.Idx) : (negv : FVec Ideal S16 .f32) l = ⊥ := by
  show Ideal.ofBits .f32 0xFF800000#32 = ⊥
  simp [Ideal.ofBits, Ideal.ieee]

theorem T3.none (l : S16.Idx) : T3 val idx plc ∅ Tri.none l := by
  have h := negv_apply l
  refine ⟨?_, ?_, ?_⟩
  · show Cell val idx plc ∅ 0 ((negv : FVec Ideal S16 .f32) l) _ _
    rw [h]; exact .empty
  · show Cell val idx plc ∅ 1 ((negv : FVec Ideal S16 .f32) l) _ _
    rw [h]; exact .empty
  · show Cell val idx plc ∅ 2 ((negv : FVec Ideal S16 .f32) l) _ _
    rw [h]; exact .empty

theorem T3.insert {S : Finset ℕ} {x : Tri Ideal} {l : S16.Idx} (h : T3 val idx plc S x l) {c : ℕ} (hc : c ∉ S)
    (hi : ∀ n ∈ S, idx n < idx c) (hf : val c ≠ ⊥) {v : Cand Ideal} (hv : Holds val idx plc c (v.1 l) (v.2.1 l) (v.2.2 l)) :
    T3 val idx plc (insert c S) (x.insert v) l := h.ins hc hi hf hv (gt_iff _ _ _) (gt_iff _ _ _) (gt_iff _ _ _)

/-! ### The best of the lanes -/

/-- Lane `l` of the candidates holds element `h l`. -/
def Lanes (val : ℕ → EReal) (idx : ℕ → ℕ) (plc : ℕ → BitVec 32) (c : Cand Ideal) (h : Fin 16 → ℕ) : Prop :=
  ∀ l, Holds val idx plc (h l) (c.1 (lane l)) (c.2.1 (lane l)) (c.2.2 (lane l))

open Classical in
/-- The better of two elements. -/
def pick (val : ℕ → EReal) (idx : ℕ → ℕ) (a b : ℕ) : ℕ := if key val idx a < key val idx b then a else b

theorem pick_le (a b : ℕ) : key val idx (pick val idx a b) ≤ key val idx a ∧ key val idx (pick val idx a b) ≤ key val idx b := by
  unfold pick
  split
  · rename_i h; exact ⟨le_refl _, h.le⟩
  · rename_i h; exact ⟨not_lt.mp h, le_refl _⟩

theorem pick_cases (a b : ℕ) : pick val idx a b = a ∨ pick val idx a b = b := by
  unfold pick
  split
  · exact .inl rfl
  · exact .inr rfl

theorem slt_ofNat {a b : ℕ} (ha : a < 2 ^ 31) (hb : b < 2 ^ 31) : (BitVec.ofNat 32 a).slt (BitVec.ofNat 32 b) = decide (a < b) := by
  have ea : (BitVec.ofNat 32 a).toNat = a := by rw [BitVec.toNat_ofNat]; omega
  have eb : (BitVec.ofNat 32 b).toNat = b := by rw [BitVec.toNat_ofNat]; omega
  rw [BitVec.slt_eq_decide, BitVec.toInt_eq_toNat_of_lt (by omega), BitVec.toInt_eq_toNat_of_lt (by omega), ea, eb]
  simp

theorem ofNat_inj {a b : ℕ} (ha : a < 2 ^ 31) (hb : b < 2 ^ 31) (h : BitVec.ofNat 32 a = BitVec.ofNat 32 b) : a = b := by
  have := congrArg BitVec.toNat h
  rw [BitVec.toNat_ofNat, BitVec.toNat_ofNat] at this
  omega

theorem Lanes.meet {o c : Cand Ideal} {ho hc : Fin 16 → ℕ} (h1 : Lanes val idx plc o ho) (h2 : Lanes val idx plc c hc)
    (b1 : ∀ l, idx (ho l) < 2 ^ 31) (b2 : ∀ l, idx (hc l) < 2 ^ 31) :
    Lanes val idx plc (Cert.Proof.meet o c) (fun l => pick val idx (ho l) (hc l)) := by
  intro l
  obtain ⟨t1, i1, p1⟩ := h1 l
  obtain ⟨t2, i2, p2⟩ := h2 l
  have hb : better o.1 o.2.1 c.1 c.2.1 (lane l) = 1#1 ↔ key val idx (ho l) < key val idx (hc l) := by
    show IntOp.ori (Ideal.cmp .ogt (o.1 (lane l)) (c.1 (lane l)))
      (IntOp.andi (Ideal.cmp .oeq (o.1 (lane l)) (c.1 (lane l))) (IntOp.cmpi .slt (o.2.1 (lane l)) (c.2.1 (lane l)))) = 1#1 ↔ _
    rw [key_lt, t1, t2, i1, i2]
    simp only [Ideal.cmp, IntOp.cmpi, slt_ofNat (b1 l) (b2 l), IntOp.ori, IntOp.andi]
    by_cases e1 : val (hc l) < val (ho l) <;> by_cases e2 : val (ho l) = val (hc l) <;>
      by_cases e3 : idx (ho l) < idx (hc l) <;> simp [e1, e2, e3]
  show Holds val idx plc _ (Scalar.select (better o.1 o.2.1 c.1 c.2.1 (lane l)) _ _) (Scalar.select (better o.1 o.2.1 c.1 c.2.1 (lane l)) _ _)
    (Scalar.select (better o.1 o.2.1 c.1 c.2.1 (lane l)) _ _)
  unfold pick
  by_cases e : key val idx (ho l) < key val idx (hc l)
  · simp only [sel_pos (hb.mpr e), if_pos e]
    exact h1 l
  · simp only [sel_neg (mt hb.mp e), if_neg e]
    exact h2 l

/-- One round of the butterfly on elements. -/
def round (val : ℕ → EReal) (idx : ℕ → ℕ) (s : ℕ) (h : Fin 16 → ℕ) : Fin 16 → ℕ := fun l => pick val idx (h (flip s l)) (h l)

theorem round_mem (s : ℕ) (h : Fin 16 → ℕ) (l : Fin 16) : ∃ l', round val idx s h l = h l' := by
  rcases pick_cases (val := val) (idx := idx) (h (flip s l)) (h l) with e | e
  · exact ⟨_, e⟩
  · exact ⟨_, e⟩

/-- All four rounds. -/
def rounds (val : ℕ → EReal) (idx : ℕ → ℕ) (h : Fin 16 → ℕ) : Fin 16 → ℕ :=
  round val idx 8 (round val idx 4 (round val idx 2 (round val idx 1 h)))

theorem rounds_mem (h : Fin 16 → ℕ) (l : Fin 16) : ∃ l', rounds val idx h l = h l' := by
  obtain ⟨a, ha⟩ := round_mem (val := val) (idx := idx) 8 (round val idx 4 (round val idx 2 (round val idx 1 h))) l
  obtain ⟨b, hb⟩ := round_mem (val := val) (idx := idx) 4 (round val idx 2 (round val idx 1 h)) a
  obtain ⟨c, hc⟩ := round_mem (val := val) (idx := idx) 2 (round val idx 1 h) b
  obtain ⟨d, hd⟩ := round_mem (val := val) (idx := idx) 1 h c
  exact ⟨d, (ha.trans hb).trans (hc.trans hd)⟩

/-- The lane paired with, or the lane itself. -/
def hop (b : Bool) (s : ℕ) (l : Fin 16) : Fin 16 := if b then flip s l else l

theorem reach (l l' : Fin 16) : ∃ a b c d : Bool, l' = hop d 1 (hop c 2 (hop b 4 (hop a 8 l))) := by
  revert l l'; decide

theorem round_le (s : ℕ) (h : Fin 16 → ℕ) (b : Bool) (l : Fin 16) :
    key val idx (round val idx s h l) ≤ key val idx (h (hop b s l)) := by
  have := pick_le (val := val) (idx := idx) (h (flip s l)) (h l)
  cases b
  · exact this.2
  · exact this.1

theorem rounds_le (h : Fin 16 → ℕ) (l l' : Fin 16) : key val idx (rounds val idx h l) ≤ key val idx (h l') := by
  obtain ⟨a, b, c, d, rfl⟩ := reach l l'
  exact (round_le 8 _ a _).trans ((round_le 4 _ b _).trans ((round_le 2 _ c _).trans (round_le 1 _ d _)))

theorem Lanes.best {c : Cand Ideal} {h : Fin 16 → ℕ} (hl : Lanes val idx plc c h) (hb : ∀ l, idx (h l) < 2 ^ 31) :
    Lanes val idx plc (Cert.Proof.best c) (rounds val idx h) := by
  have step : ∀ (s : ℕ) (sw : ∀ {α : Type}, (S16.Idx → α) → S16.Idx → α)
      (_ : ∀ {α : Type} (v : S16.Idx → α) (l : Fin 16), sw v (lane l) = v (lane (flip s l))) {c : Cand Ideal} {h : Fin 16 → ℕ}
      (_ : Lanes val idx plc c h) (_ : ∀ l, idx (h l) < 2 ^ 31),
      Lanes val idx plc (Cert.Proof.meet (sw c.1, sw c.2.1, sw c.2.2) c) (round val idx s h) ∧ ∀ l, idx (round val idx s h l) < 2 ^ 31 := by
    intro s sw hsw c h hl hb
    refine ⟨Lanes.meet (ho := fun l => h (flip s l)) (fun l => ?_) hl (fun l => hb _) hb, fun l => ?_⟩
    · show Holds val idx plc _ (sw c.1 (lane l)) (sw c.2.1 (lane l)) (sw c.2.2 (lane l))
      rw [hsw, hsw, hsw]
      exact hl _
    · obtain ⟨l', e⟩ := round_mem (val := val) (idx := idx) s h l
      rw [e]; exact hb _
  obtain ⟨l1, b1⟩ := step 1 swap1 swap1_apply hl hb
  obtain ⟨l2, b2⟩ := step 2 swap2 swap2_apply l1 b1
  obtain ⟨l4, b4⟩ := step 4 swap4 swap4_apply l2 b2
  exact (step 8 swap8 swap8_apply l4 b4).1

end cells

end Cert.Proof

end
-- ==== Proof.Pops.lean ====
module

public import proofs.«01_k».proof.Proof.Lane

/-! # Taking the three best of the lanes, one after another -/

@[expose] public section

noncomputable section

namespace Cert.Proof

open Cert.KernelIdeal Cert.KernelIdeal.Gen Idealize.ShloMosaic Idealize.SL.Sem

theorem cmpi_eq_iff (a b : BitVec 32) : IntOp.cmpi .eq a b = 1#1 ↔ a = b := by
  by_cases h : a = b
  · simp [IntOp.cmpi, h]
  · simp [IntOp.cmpi, h, bne, beq_eq_false_iff_ne.mpr h]

theorem cmpi_ne_iff (a b : BitVec 32) : IntOp.cmpi .ne a b = 1#1 ↔ a ≠ b := by
  by_cases h : a = b
  · simp [IntOp.cmpi, h]
  · simp [IntOp.cmpi, h, bne, beq_eq_false_iff_ne.mpr h]

section pops
variable {val : ℕ → EReal} {idx : ℕ → ℕ} {plc : ℕ → BitVec 32}

/-- A cell holds the member of `S` of rank `j`. -/
def Valid (val : ℕ → EReal) (idx : ℕ → ℕ) (plc : ℕ → BitVec 32) (S : Finset ℕ) (j : ℕ) (t : EReal) (i p : BitVec 32) : Prop :=
  ∃ n, Rk (key val idx) S j n ∧ Holds val idx plc n t i p

theorem Cell.valid {S : Finset ℕ} {j : ℕ} {t : EReal} {i p : BitVec 32} (h : Cell val idx plc S j t i p) (hj : j < S.card) :
    Valid val idx plc S j t i p := by
  rcases h with h | h
  · exact h
  · omega

/-- The first `q` of a lane's three candidates are the `q` first of what remains to the lane. -/
def PopSt (val : ℕ → EReal) (idx : ℕ → ℕ) (plc : ℕ → BitVec 32) (R : Fin 16 → Finset ℕ) (q : ℕ) (x : Tri Ideal) : Prop :=
  ∀ l, (0 < q → Valid val idx plc (R l) 0 (x.t1 (lane l)) (x.i1 (lane l)) (x.p1 (lane l))) ∧
    (1 < q → Valid val idx plc (R l) 1 (x.t2 (lane l)) (x.i2 (lane l)) (x.p2 (lane l))) ∧
    (2 < q → Valid val idx plc (R l) 2 (x.t3 (lane l)) (x.i3 (lane l)) (x.p3 (lane l)))

/-- The lanes share nothing, and no two elements have the same index. -/
structure Apart (idx : ℕ → ℕ) (R : Fin 16 → Finset ℕ) : Prop where
  lane : ∀ l l' n, n ∈ R l → n ∈ R l' → l = l'
  differ : ∀ l l' n n', n ∈ R l → n' ∈ R l' → idx n = idx n' → n = n'
  small : ∀ l n, n ∈ R l → idx n < 2 ^ 31

/-- What remains to all the lanes. -/
def allOf (R : Fin 16 → Finset ℕ) : Finset ℕ := Finset.univ.biUnion R

theorem mem_allOf {R : Fin 16 → Finset ℕ} {n : ℕ} : n ∈ allOf R ↔ ∃ l, n ∈ R l := by simp [allOf]

theorem allOf_erase {R : Fin 16 → Finset ℕ} {w : ℕ} : allOf (fun l => (R l).erase w) = (allOf R).erase w := by
  ext n
  simp only [mem_allOf, Finset.mem_erase]
  exact ⟨fun ⟨l, h⟩ => ⟨h.1, l, h.2⟩, fun ⟨h, l, h'⟩ => ⟨l, h, h'⟩⟩

theorem Apart.injOn {R : Fin 16 → Finset ℕ} (h : Apart idx R) : Set.InjOn (key val idx) (allOf R) := by
  refine key_inj fun a ha b hb hab => ?_
  obtain ⟨l, hl⟩ := mem_allOf.mp ha
  obtain ⟨l', hl'⟩ := mem_allOf.mp hb
  exact h.differ l l' a b hl hl' hab

theorem Apart.erase {R : Fin 16 → Finset ℕ} (h : Apart idx R) (w : ℕ) : Apart idx (fun l => (R l).erase w) :=
  ⟨fun l l' n a b => h.lane l l' n (Finset.mem_of_mem_erase a) (Finset.mem_of_mem_erase b),
    fun l l' n n' a b => h.differ l l' n n' (Finset.mem_of_mem_erase a) (Finset.mem_of_mem_erase b),
    fun l n a => h.small l n (Finset.mem_of_mem_erase a)⟩

/-- The best candidate is the first of what remains, and taking it away leaves the rest. -/
theorem PopSt.pop {R : Fin 16 → Finset ℕ} {q : ℕ} {x : Tri Ideal} (h : PopSt val idx plc R (q + 1) x) (ha : Apart idx R) (hq : q < 3) :
    ∃ w, Rk (key val idx) (allOf R) 0 w ∧ (Lanes val idx plc x.top fun _ => w) ∧
      PopSt val idx plc (fun l => (R l).erase w) q x.pop := by
  choose f hf using fun l => (h l).1 (Nat.succ_pos q)
  have hb : ∀ l, idx (f l) < 2 ^ 31 := fun l => ha.small l _ (hf l).1.1
  have hL : Lanes val idx plc x.top (rounds val idx f) := Lanes.best (fun l => (hf l).2) hb
  obtain ⟨l0, hl0⟩ := rounds_mem (val := val) (idx := idx) f 0
  have hmem : ∀ l, f l ∈ allOf R := fun l => mem_allOf.mpr ⟨l, (hf l).1.1⟩
  have hall : ∀ l, rounds val idx f l = f l0 := by
    intro l
    obtain ⟨l', hl'⟩ := rounds_mem (val := val) (idx := idx) f l
    rw [hl']
    refine ha.injOn (val := val) (hmem l') (hmem l0) (le_antisymm ?_ ?_)
    · rw [← hl']; exact rounds_le f l l0
    · rw [← hl0]; exact rounds_le f 0 l'
  have hLw : Lanes val idx plc x.top fun _ => f l0 := fun l => by
    have := hL l
    rw [hall l] at this
    exact this
  refine ⟨f l0, rk_zero.mpr ⟨hmem l0, fun m hm => ?_⟩, hLw, fun l => ?_⟩
  · obtain ⟨l, hl⟩ := mem_allOf.mp hm
    rw [← hl0]
    exact (rounds_le f 0 l).trans ((rk_zero.mp (hf l).1).2 m hl)
  · have hbit : cmpi .eq x.i1 x.top.2.1 (lane l) = 1#1 ↔ f l = f l0 := by
      show IntOp.cmpi .eq (x.i1 (lane l)) (x.top.2.1 (lane l)) = 1#1 ↔ _
      rw [(hf l).2.2.1, (hLw l).2.1]
      rw [cmpi_eq_iff]
      exact ⟨fun e => ha.differ l l0 _ _ (hf l).1.1 (hf l0).1.1 (ofNat_inj (hb l) (hb l0) e), fun e => by rw [e]⟩
    show (0 < q → Valid val idx plc _ 0 (Scalar.select (cmpi .eq x.i1 x.top.2.1 (lane l)) _ _) (Scalar.select (cmpi .eq x.i1 x.top.2.1 (lane l)) _ _)
        (Scalar.select (cmpi .eq x.i1 x.top.2.1 (lane l)) _ _)) ∧
      (1 < q → Valid val idx plc _ 1 (Scalar.select (cmpi .eq x.i1 x.top.2.1 (lane l)) _ _) (Scalar.select (cmpi .eq x.i1 x.top.2.1 (lane l)) _ _)
        (Scalar.select (cmpi .eq x.i1 x.top.2.1 (lane l)) _ _)) ∧ (2 < q → _)
    by_cases e : f l = f l0
    · simp only [sel_pos (hbit.mpr e)]
      have hw : Rk (key val idx) (R l) 0 (f l0) := e ▸ (hf l).1
      refine ⟨fun hq => ?_, fun hq => ?_, fun hq' => by omega⟩
      · obtain ⟨n, hn, hh⟩ := (h l).2.1 (by omega)
        exact ⟨n, hw.pop hn, hh⟩
      · obtain ⟨n, hn, hh⟩ := (h l).2.2 (by omega)
        exact ⟨n, hw.pop hn, hh⟩
    · simp only [sel_neg (mt hbit.mp e)]
      have hnot : f l0 ∉ R l := fun hx => e (congrArg f (ha.lane l l0 _ hx (hf l0).1.1))
      rw [Finset.erase_eq_of_notMem hnot]
      exact ⟨fun _ => (h l).1 (by omega), fun hq => (h l).2.1 (by omega), fun hq => by omega⟩

/-- Three pops give the three first. -/
theorem three_pops {R : Fin 16 → Finset ℕ} {x : Tri Ideal} (h : ∀ l, T3 val idx plc (R l) x (lane l)) (hc : ∀ l, 3 ≤ (R l).card)
    (ha : Apart idx R) :
    ∃ w0 w1 w2, Rk (key val idx) (allOf R) 0 w0 ∧ Rk (key val idx) (allOf R) 1 w1 ∧ Rk (key val idx) (allOf R) 2 w2 ∧
      (Lanes val idx plc x.top fun _ => w0) ∧ (Lanes val idx plc x.pop.top fun _ => w1) ∧ (Lanes val idx plc x.pop.pop.top fun _ => w2) := by
  have h3 : PopSt val idx plc R 3 x := fun l =>
    ⟨fun _ => (h l).1.valid (by have := hc l; omega), fun _ => (h l).2.1.valid (by have := hc l; omega),
      fun _ => (h l).2.2.valid (by have := hc l; omega)⟩
  obtain ⟨w0, r0, l0, s0⟩ := h3.pop ha (by omega)
  obtain ⟨w1, r1, l1, s1⟩ := s0.pop (ha.erase w0) (by omega)
  obtain ⟨w2, r2, l2, _⟩ := s1.pop ((ha.erase w0).erase w1) (by omega)
  rw [allOf_erase] at r1
  rw [allOf_erase, allOf_erase] at r2
  have i0 := ha.injOn (val := val)
  have r2' := r1.push (i0.mono (by simp)) r2
  exact ⟨w0, w1, w2, r0, r0.push i0 r1, r0.push i0 r2', l0, l1, l2⟩

end pops

end Cert.Proof

end
-- ==== Proof.ScRow.lean ====
module

public import proofs.«01_k».proof.Proof.Pops

/-! # What a row of the SparseCore kernel computes: its block maxima and the blocks chosen -/

@[expose] public section

noncomputable section

namespace Cert.Proof

open Cert.KernelIdeal Cert.KernelIdeal.Gen Idealize.ShloMosaic Idealize.SL.Sem

section row
variable (X : ℕ → EReal)

/-- The first `n` positions of column `l` of block `b`. -/
def Col (b l : ℕ) : ℕ → Finset ℕ
  | 0 => ∅
  | n + 1 => insert (512 * b + 16 * n + l) (Col b l n)

theorem mem_Col {b l n m : ℕ} : m ∈ Col b l n ↔ ∃ k < n, m = 512 * b + 16 * k + l := by
  induction n with
  | zero => simp [Col]
  | succ n ih =>
    rw [Col, Finset.mem_insert, ih]
    constructor
    · rintro (h | ⟨k, hk, h⟩)
      · exact ⟨n, by omega, h⟩
      · exact ⟨k, by omega, h⟩
    · rintro ⟨k, hk, h⟩
      rcases Nat.lt_succ_iff_lt_or_eq.mp hk with hk | rfl
      · exact .inr ⟨k, hk, h⟩
      · exact .inl h

theorem Col_fresh {b l n : ℕ} : 512 * b + 16 * n + l ∉ Col b l n := by
  rw [mem_Col]; rintro ⟨k, hk, h⟩; omega

theorem Col_card {b l n : ℕ} : (Col b l n).card = n := by
  induction n with
  | zero => rfl
  | succ n ih => rw [Col, Finset.card_insert_of_notMem Col_fresh, ih]

theorem mem_Col_all {b l m : ℕ} (hl : l < 16) : m ∈ Col b l 32 ↔ m / 512 = b ∧ m % 16 = l := by
  rw [mem_Col]
  constructor
  · rintro ⟨k, hk, rfl⟩; omega
  · rintro ⟨rfl, rfl⟩; exact ⟨m % 512 / 16, by omega, by omega⟩

theorem cnt_mul (b : ℕ) : Scalar.muli (cnt b) 512#32 = BitVec.ofNat 32 (512 * b) := by
  apply BitVec.eq_of_toNat_eq
  simp [Scalar.muli, IntOp.muli, cnt, Scf.iv, Nat.mul_comm]

/-! ### The running maximum of a block -/

/-- A lane's running maximum is the first of its column so far. -/
theorem blockF_spec (hX : ∀ n, X n ≠ ⊥) (b : ℕ) (l : Fin 16) (n : ℕ) :
    Cell X (fun n => n) (fun _ => 0#32) (Col b l n) 0 ((blockF (F := Ideal) X b n).1 (lane l)) ((blockF (F := Ideal) X b n).2.1 (lane l)) 0#32 ∧
      (blockF (F := Ideal) X b n).2.2 (lane l) = BitVec.ofNat 32 (512 * b + 16 * n + l.val) := by
  induction n with
  | zero =>
    refine ⟨?_, ?_⟩
    · show Cell _ _ _ ∅ 0 ((negv : FVec Ideal S16 .f32) (lane l)) _ _
      rw [negv_apply]; exact .empty
    · show lanes (lane l) + Scalar.muli (cnt b) 512#32 = _
      rw [lanes_lane, cnt_mul, ← BitVec.ofNat_add]
      congr 1; omega
  | succ n ih =>
    obtain ⟨hc, hi⟩ := ih
    have hv : vec (α := EReal) X (512 * b + 16 * n) (lane l) = X (512 * b + 16 * n + l.val) := rfl
    have hlt : ∀ m ∈ Col b l n, m < 512 * b + 16 * n + l.val := by
      intro m hm
      obtain ⟨k, hk, rfl⟩ := mem_Col.mp hm
      omega
    refine ⟨?_, ?_⟩
    · show Cell _ _ _ _ 0 (Scalar.select (cmpf (F := Ideal) .ogt (vec X (512 * b + 16 * n)) (blockF (F := Ideal) X b n).1 (lane l)) _ _)
        (Scalar.select (cmpf (F := Ideal) .ogt (vec X (512 * b + 16 * n)) (blockF (F := Ideal) X b n).1 (lane l)) _ _) _
      have hgt := gt_iff (vec X (512 * b + 16 * n)) (blockF (F := Ideal) X b n).1 (lane l)
      rw [hv] at hgt
      by_cases e : cmpf (F := Ideal) .ogt (vec X (512 * b + 16 * n)) (blockF (F := Ideal) X b n).1 (lane l) = 1#1
      · simp only [sel_pos e]
        have := (hc.down Col_fresh (hgt.mp e)).2
        exact .new (by omega) ⟨hv, hi, rfl⟩
      · simp only [sel_neg e]
        exact (hc.stay hlt (hX _) (mt hgt.mpr e)).1
    · show (blockF (F := Ideal) X b n).2.2 (lane l) + 16#32 = _
      rw [hi, show (16#32 : BitVec 32) = BitVec.ofNat 32 16 from rfl, ← BitVec.ofNat_add]
      congr 1; omega

/-- The block maxima: column `p` holds its first element. -/
theorem best_spec (hX : ∀ n, X n ≠ ⊥) : ∃ g : ℕ → ℕ, ∀ p, Rk (key X fun n => n) (Col (p / 16) (p % 16) 32) 0 (g p) ∧
    bestV (F := Ideal) X p = X (g p) ∧ bestI (F := Ideal) X p = BitVec.ofNat 32 (g p) := by
  have h : ∀ p, ∃ n, Rk (key X fun n => n) (Col (p / 16) (p % 16) 32) 0 n ∧
      bestV (F := Ideal) X p = X n ∧ bestI (F := Ideal) X p = BitVec.ofNat 32 n := by
    intro p
    have h := (blockF_spec X hX (p / 16) ⟨p % 16, Nat.mod_lt _ (by decide)⟩ 32).1
    obtain ⟨n, hn, hh⟩ := h.valid (by rw [Col_card]; omega)
    exact ⟨n, hn, hh.1, hh.2.1⟩
  choose g hg using h
  exact ⟨g, hg⟩

/-! ### The best blocks -/

/-- The first `n` columns of lane `l`. -/
def Cols (l : ℕ) : ℕ → Finset ℕ
  | 0 => ∅
  | n + 1 => insert (16 * n + l) (Cols l n)

theorem mem_Cols {l n p : ℕ} : p ∈ Cols l n ↔ ∃ k < n, p = 16 * k + l := by
  induction n with
  | zero => simp [Cols]
  | succ n ih =>
    rw [Cols, Finset.mem_insert, ih]
    constructor
    · rintro (h | ⟨k, hk, h⟩)
      · exact ⟨n, by omega, h⟩
      · exact ⟨k, by omega, h⟩
    · rintro ⟨k, hk, h⟩
      rcases Nat.lt_succ_iff_lt_or_eq.mp hk with hk | rfl
      · exact .inr ⟨k, hk, h⟩
      · exact .inl h

theorem Cols_fresh {l n : ℕ} : 16 * n + l ∉ Cols l n := by
  rw [mem_Cols]; rintro ⟨k, hk, h⟩; omega

theorem Cols_card {l n : ℕ} : (Cols l n).card = n := by
  induction n with
  | zero => rfl
  | succ n ih => rw [Cols, Finset.card_insert_of_notMem Cols_fresh, ih]

/-- Column `p` starts in block `p / 16`, at lane `p % 16`. -/
def Placed (g : ℕ → ℕ) : Prop := ∀ p, g p / 512 = p / 16 ∧ g p % 16 = p % 16

theorem sumF_spec (hX : ∀ n, X n ≠ ⊥) {g : ℕ → ℕ} (hg : Placed g) {V : ℕ → EReal} {I : ℕ → BitVec 32}
    (hv : ∀ p, V p = X (g p)) (hi : ∀ p, I p = BitVec.ofNat 32 (g p)) (l : Fin 16) (n : ℕ) :
    T3 (fun p => X (g p)) g (fun p => BitVec.ofNat 32 p) (Cols l n) (sumF (F := Ideal) V I n) (lane l) := by
  induction n with
  | zero => exact T3.none _
  | succ n ih =>
    refine ih.insert Cols_fresh (fun p hp => ?_) (hX _) ⟨hv (16 * n + l.val), hi (16 * n + l.val), ?_⟩
    · obtain ⟨k, hk, rfl⟩ := mem_Cols.mp hp
      have h1 := (hg (16 * k + l.val)).1
      have h2 := (hg (16 * n + l.val)).1
      have := l.isLt
      omega
    · show lanes (lane l) + BitVec.ofNat 32 (16 * n) = _
      rw [lanes_lane, ← BitVec.ofNat_add]
      congr 1; omega

/-- The three best columns' blocks hold the row's three first elements. -/
theorem chosen_spec (hX : ∀ n, X n ≠ ⊥) : ∃ b0 b1 b2 : ℕ, b0 ≤ b1 ∧ b1 ≤ b2 ∧ b2 < 64 ∧
    (∀ l, (chosen (F := Ideal) X).1 l = BitVec.ofNat 32 b0 ∧ (chosen (F := Ideal) X).2.1 l = BitVec.ofNat 32 b1 ∧
      (chosen (F := Ideal) X).2.2 l = BitVec.ofNat 32 b2) ∧
    ∀ j n, j < 3 → Rk (key X fun n => n) (Finset.range 32768) j n → n / 512 = b0 ∨ n / 512 = b1 ∨ n / 512 = b2 := by
  obtain ⟨g, hg⟩ := best_spec X hX
  have hplace : Placed g := fun p => (mem_Col_all (Nat.mod_lt _ (by decide))).mp (hg p).1.1
  have hS := fun l => sumF_spec X hX hplace (V := bestV (F := Ideal) X) (I := bestI (F := Ideal) X) (fun p => (hg p).2.1) (fun p => (hg p).2.2) l 64
  have hap : Apart g fun l : Fin 16 => Cols l 64 := by
    refine ⟨fun l l' p h h' => ?_, fun l l' p p' h h' e => ?_, fun l p h => ?_⟩
    · obtain ⟨k, _, e⟩ := mem_Cols.mp h
      obtain ⟨k', _, e'⟩ := mem_Cols.mp h'
      have := l.isLt
      have := l'.isLt
      exact Fin.ext (by omega)
    · have h1 := hplace p
      have h2 := hplace p'
      rw [e] at h1
      omega
    · obtain ⟨k, _, e⟩ := mem_Cols.mp h
      have h1 := hplace p
      have := l.isLt
      omega
  have hall : allOf (fun l : Fin 16 => Cols l 64) = Finset.range 1024 := by
    ext p
    rw [mem_allOf, Finset.mem_range]
    constructor
    · rintro ⟨l, h⟩
      obtain ⟨k, _, e⟩ := mem_Cols.mp h
      have := l.isLt
      omega
    · intro h
      exact ⟨⟨p % 16, Nat.mod_lt _ (by decide)⟩, mem_Cols.mpr ⟨p / 16, by omega, by simp only; omega⟩⟩
  obtain ⟨w0, w1, w2, r0, r1, r2, t0, t1, t2⟩ := three_pops hS (fun l => by rw [Cols_card]; omega) hap
  have hinj := hap.injOn (val := fun p => X (g p))
  rw [hall] at r0 r1 r2 hinj
  have k0 := Finset.mem_range.mp r0.1
  have k1 := Finset.mem_range.mp r1.1
  have k2 := Finset.mem_range.mp r2.1
  have hblk : ∀ (p : IVec S16 32) (w : ℕ) (l : Fin 16), w < 1024 → p (lane l) = BitVec.ofNat 32 w → (blkOf p (lane l)).toNat = w / 16 := by
    intro p w l hw e
    show (IntOp.shrui .vector (p (lane l)) 4#32).toNat = _
    have e' : IntOp.shrui .vector (p (lane l)) 4#32 = p (lane l) >>> 4#32 := rfl
    rw [e', e, BitVec.ushiftRight_eq', BitVec.toNat_ushiftRight, Nat.shiftRight_eq_div_pow, BitVec.toNat_ofNat, Nat.mod_eq_of_lt (by omega)]
    rfl
  refine ⟨min (min (w0 / 16) (w1 / 16)) (w2 / 16),
    w0 / 16 + w1 / 16 + w2 / 16 - min (min (w0 / 16) (w1 / 16)) (w2 / 16) - max (max (w0 / 16) (w1 / 16)) (w2 / 16),
    max (max (w0 / 16) (w1 / 16)) (w2 / 16), by omega, by omega, by omega, fun l => ?_, fun j n hj hn => ?_⟩
  · obtain ⟨l, rfl⟩ := exists_lane l
    have e0 := hblk _ w0 l k0 (t0 l).2.2
    have e1 := hblk _ w1 l k1 (t1 l).2.2
    have e2 := hblk _ w2 l k2 (t2 l).2.2
    obtain ⟨h1, h2, h3⟩ := three (a := blkOf (sumF (F := Ideal) (bestV (F := Ideal) X) (bestI (F := Ideal) X) 64).top.2.2 (lane l))
      (b := blkOf (sumF (F := Ideal) (bestV (F := Ideal) X) (bestI (F := Ideal) X) 64).pop.top.2.2 (lane l))
      (c := blkOf (sumF (F := Ideal) (bestV (F := Ideal) X) (bestI (F := Ideal) X) 64).pop.pop.top.2.2 (lane l)) (by omega) (by omega) (by omega)
    rw [e0, e1, e2] at h1 h2 h3
    refine ⟨?_, ?_, ?_⟩
    · refine BitVec.eq_of_toNat_eq (h1.trans ?_)
      rw [BitVec.toNat_ofNat, Nat.mod_eq_of_lt (by omega)]
    · refine BitVec.eq_of_toNat_eq (h3.trans ?_)
      rw [BitVec.toNat_ofNat, Nat.mod_eq_of_lt (by omega)]
    · refine BitVec.eq_of_toNat_eq (h2.trans ?_)
      rw [BitVec.toNat_ofNat, Nat.mod_eq_of_lt (by omega)]
  · have hn32 := Finset.mem_range.mp hn.1
    have hcol : n ∈ Col ((16 * (n / 512) + n % 16) / 16) ((16 * (n / 512) + n % 16) % 16) 32 :=
      (mem_Col_all (Nat.mod_lt _ (by decide))).mpr ⟨by omega, by omega⟩
    generalize hq : 16 * (n / 512) + n % 16 = q at hcol
    have hle : key X (fun n => n) (g q) ≤ key X (fun n => n) n := (rk_zero.mp (hg q).1).2 n hcol
    have hcount : ((Finset.range 1024).filter fun p => key (fun p => X (g p)) g p < key (fun p => X (g p)) g q).card ≤ j := by
      rw [← hn.2]
      refine Finset.card_le_card_of_injOn g (fun p hp => ?_) fun p _ p' _ e => ?_
      · have hp := Finset.mem_filter.mp (Finset.mem_coe.mp hp)
        have h1 := hplace p
        have h2 := Finset.mem_range.mp hp.1
        exact Finset.mem_coe.mpr (Finset.mem_filter.mpr ⟨Finset.mem_range.mpr (by omega), lt_of_lt_of_le hp.2 hle⟩)
      · have h1 := hplace p
        have h2 := hplace p'
        rw [e] at h1
        omega
    have hqr : Rk (key (fun p => X (g p)) g) (Finset.range 1024) _ q := ⟨Finset.mem_range.mpr (by omega), rfl⟩
    generalize ((Finset.range 1024).filter fun p => key (fun p => X (g p)) g p < key (fun p => X (g p)) g q).card = i at hcount hqr
    have hw : q = w0 ∨ q = w1 ∨ q = w2 := by
      have hi3 : i = 0 ∨ i = 1 ∨ i = 2 := by omega
      rcases hi3 with rfl | rfl | rfl
      · exact .inl (hqr.unique hinj r0)
      · exact .inr (.inl (hqr.unique hinj r1))
      · exact .inr (.inr (hqr.unique hinj r2))
    rcases hw with rfl | rfl | rfl <;> omega

end row

end Cert.Proof

end
-- ==== Proof.ScScan.lean ====
module

public import proofs.«01_k».proof.Proof.ScRow

/-! # What a row of the SparseCore kernel computes: the blocks chosen, and the three results -/

@[expose] public section

noncomputable section

namespace Cert.Proof

open Cert.KernelIdeal Cert.KernelIdeal.Gen Idealize.ShloMosaic Idealize.SL.Sem

section clear

/-- Where there are no places, an insertion is the plain one with place zero. -/
theorem insertAt_none {x : Tri Ideal} (hx : x.clear = x) (v : FVec Ideal S16 .f32) (iv : IVec S16 32) :
    x.insertAt .none v iv = x.ins (cmpf .ogt v x.t1) (cmpf .ogt v x.t2) (cmpf .ogt v x.t3) (v, iv, zerov) := by
  have hs : ∀ (m : IVec S16 1), select m (zerov : IVec S16 32) zerov = zerov := fun m => funext fun l => by
    show Scalar.select (m l) _ _ = _
    unfold Scalar.select
    split <;> rfl
  have h1 : x.p1 = zerov := congrArg Tri.p1 hx.symm
  have h2 : x.p2 = zerov := congrArg Tri.p2 hx.symm
  have h3 : x.p3 = zerov := congrArg Tri.p3 hx.symm
  simp only [Tri.insertAt, Tri.ins, h1, h2, h3, ins1, ins2, ins3, hs]

/-- As `insertAt_none`, in the lanes of a mask. -/
theorem insertAt_some {x : Tri Ideal} (hx : x.clear = x) (g : IVec S16 1) (v : FVec Ideal S16 .f32) (iv : IVec S16 32) :
    x.insertAt (.some g) v iv =
      x.ins (andi (cmpf .ogt v x.t1) g) (andi (cmpf .ogt v x.t2) g) (andi (cmpf .ogt v x.t3) g) (v, iv, zerov) := by
  have hs : ∀ (m : IVec S16 1), select m (zerov : IVec S16 32) zerov = zerov := fun m => funext fun l => by
    show Scalar.select (m l) _ _ = _
    unfold Scalar.select
    split <;> rfl
  have h1 : x.p1 = zerov := congrArg Tri.p1 hx.symm
  have h2 : x.p2 = zerov := congrArg Tri.p2 hx.symm
  have h3 : x.p3 = zerov := congrArg Tri.p3 hx.symm
  simp only [Tri.insertAt, Tri.ins, h1, h2, h3, ins1, ins2, ins3, hs]

theorem top0_eq {x : Tri Ideal} (hx : x.clear = x) : x.top0 = x.top := by
  have h1 : x.p1 = zerov := congrArg Tri.p1 hx.symm
  rw [Tri.top0, Tri.top, h1]

theorem pop0_eq {x : Tri Ideal} (hx : x.clear = x) : x.pop0 = x.pop := by
  rw [Tri.pop0, Tri.pop, top0_eq hx]

theorem pop_clear {x : Tri Ideal} (hx : x.clear = x) : x.pop.clear = x.pop := by
  have hs : ∀ (m : IVec S16 1), select m (zerov : IVec S16 32) zerov = zerov := fun m => funext fun l => by
    show Scalar.select (m l) _ _ = _
    unfold Scalar.select
    split <;> rfl
  have h1 : x.p1 = zerov := congrArg Tri.p1 hx.symm
  have h2 : x.p2 = zerov := congrArg Tri.p2 hx.symm
  have h3 : x.p3 = zerov := congrArg Tri.p3 hx.symm
  simp only [Tri.pop, Tri.popBy, Tri.clear, h1, h2, h3, hs]

end clear

section scan
variable (X : ℕ → EReal)

/-- `S` with the first `n` positions of column `l` of block `b` added. -/
def Add (b l : ℕ) (S : Finset ℕ) : ℕ → Finset ℕ
  | 0 => S
  | n + 1 => insert (512 * b + 16 * n + l) (Add b l S n)

theorem mem_Add {b l n m : ℕ} {S : Finset ℕ} : m ∈ Add b l S n ↔ m ∈ S ∨ m ∈ Col b l n := by
  induction n with
  | zero => simp [Add, Col]
  | succ n ih =>
    rw [Add, Col, Finset.mem_insert, Finset.mem_insert, ih]
    tauto

theorem scan_next {b : ℕ} (l : Fin 16) {x : Tri Ideal} (g : Option (IVec S16 1)) (n : ℕ) :
    (scanF (F := Ideal) g X (BitVec.ofNat 32 b) x n).2 (lane l) = BitVec.ofNat 32 (512 * b + 16 * n + l.val) := by
  induction n with
  | zero =>
    show lanes (lane l) + Scalar.muli (BitVec.ofNat 32 b) 512#32 = _
    rw [lanes_lane]
    apply BitVec.eq_of_toNat_eq
    simp only [Scalar.muli, IntOp.muli, BitVec.toNat_add, BitVec.toNat_mul, BitVec.toNat_ofNat]
    omega
  | succ n ih =>
    show (scanF (F := Ideal) g X (BitVec.ofNat 32 b) x n).2 (lane l) + 16#32 = _
    rw [ih, show (16#32 : BitVec 32) = BitVec.ofNat 32 16 from rfl, ← BitVec.ofNat_add]
    congr 1; omega

/-- A mask that lets a lane in, or no mask. -/
def Open (g : Option (IVec S16 1)) (l : S16.Idx) : Prop := ∀ m, g = .some m → m l = 1#1

theorem and_one {a g : BitVec 1} (h : g = 1#1) : IntOp.andi a g = 1#1 ↔ a = 1#1 := by
  subst h; revert a; decide

theorem and_zero {a g : BitVec 1} (h : ¬ g = 1#1) : ¬ IntOp.andi a g = 1#1 := by
  revert a g; decide

/-- Scanning a block adds its column to what a lane has seen. -/
theorem scan_on (hX : ∀ n, X n ≠ ⊥) {b : ℕ} (hb : b < 64) (l : Fin 16) {x : Tri Ideal} (hx : x.clear = x) {S : Finset ℕ}
    (h : T3 X (fun n => n) (fun _ => 0#32) S x (lane l)) (hS : ∀ n ∈ S, n < 512 * b) {g : Option (IVec S16 1)} (hg : Open g (lane l)) (n : ℕ) :
    T3 X (fun n => n) (fun _ => 0#32) (Add b l S n) (scanF (F := Ideal) g X (BitVec.ofNat 32 b) x n).1 (lane l) := by
  induction n with
  | zero =>
    show T3 X _ _ S x.clear (lane l)
    rw [hx]; exact h
  | succ n ih =>
    have hc := scanF_clear (F := Ideal) g X (BitVec.ofNat 32 b) x n
    have hi := scan_next X (b := b) l (x := x) g n
    have hw : (BitVec.ofNat 32 b).toNat = b := by rw [BitVec.toNat_ofNat]; omega
    have hfresh : 512 * b + 16 * n + l.val ∉ Add b l S n := by
      rw [mem_Add]
      rintro (h | h)
      · have := hS _ h; omega
      · exact Col_fresh h
    have hlt : ∀ m ∈ Add b l S n, m < 512 * b + 16 * n + l.val := by
      intro m hm
      rcases mem_Add.mp hm with h | h
      · have := hS _ h; omega
      · obtain ⟨k, hk, rfl⟩ := mem_Col.mp h; omega
    show T3 X _ _ _ ((scanF (F := Ideal) g X (BitVec.ofNat 32 b) x n).1.insertAt g (vec X (512 * (BitVec.ofNat 32 b).toNat + 16 * n))
      (scanF (F := Ideal) g X (BitVec.ofNat 32 b) x n).2) (lane l)
    rw [hw]
    generalize (scanF (F := Ideal) g X (BitVec.ofNat 32 b) x n) = y at ih hc hi ⊢
    have hv : Holds X (fun n => n) (fun _ => 0#32) (512 * b + 16 * n + l.val) (vec X (512 * b + 16 * n) (lane l)) (y.2 (lane l)) ((zerov : IVec S16 32) (lane l)) :=
      ⟨rfl, hi, rfl⟩
    cases g with
    | none =>
      rw [insertAt_none hc]
      exact ih.ins hfresh hlt (hX _) hv (gt_iff _ _ _) (gt_iff _ _ _) (gt_iff _ _ _)
    | some m =>
      have hm := hg m rfl
      rw [insertAt_some hc]
      exact ih.ins hfresh hlt (hX _) hv ((and_one hm).trans (gt_iff _ _ _)) ((and_one hm).trans (gt_iff _ _ _)) ((and_one hm).trans (gt_iff _ _ _))

/-- Scanning a block under a mask that is closed changes nothing. -/
theorem scan_off (b : BitVec 32) (l : Fin 16) {x : Tri Ideal} (hx : x.clear = x) {S : Finset ℕ}
    (h : T3 X (fun n => n) (fun _ => 0#32) S x (lane l)) {m : IVec S16 1} (hm : ¬ m (lane l) = 1#1) (n : ℕ) :
    T3 X (fun n => n) (fun _ => 0#32) S (scanF (F := Ideal) (.some m) X b x n).1 (lane l) := by
  induction n with
  | zero =>
    show T3 X _ _ S x.clear (lane l)
    rw [hx]; exact h
  | succ n ih =>
    have hc := scanF_clear (F := Ideal) (.some m) X b x n
    show T3 X _ _ _ ((scanF (F := Ideal) (.some m) X b x n).1.insertAt (.some m) _ _) (lane l)
    rw [insertAt_some hc]
    exact ih.skip (and_zero hm) (and_zero hm) (and_zero hm)

/-- The positions of lane `l` in the blocks of `B`. -/
def Seen (B : Finset ℕ) (l : ℕ) : Finset ℕ := (Finset.range 32768).filter fun n => n / 512 ∈ B ∧ n % 16 = l

theorem mem_Seen {B : Finset ℕ} {l n : ℕ} : n ∈ Seen B l ↔ n < 32768 ∧ n / 512 ∈ B ∧ n % 16 = l := by
  rw [Seen, Finset.mem_filter, Finset.mem_range]

theorem Seen_insert {B : Finset ℕ} {b : ℕ} (hb : b < 64) (l : Fin 16) : Seen (insert b B) l = Add b l (Seen B l) 32 := by
  ext n
  rw [mem_Add, mem_Seen, mem_Seen, mem_Col_all l.isLt, Finset.mem_insert]
  constructor
  · rintro ⟨h1, h2 | h2, h3⟩
    · exact .inr ⟨h2, h3⟩
    · exact .inl ⟨h1, h2, h3⟩
  · rintro (⟨h1, h2, h3⟩ | ⟨h2, h3⟩)
    · exact ⟨h1, .inr h2, h3⟩
    · exact ⟨by omega, .inl h2, h3⟩

/-- One more block scanned, its mask closed exactly where the block was the last one. -/
theorem scan_block (hX : ∀ n, X n ≠ ⊥) {b b' : ℕ} (hb : b < 64) (hbb : b' ≤ b) (l : Fin 16) {x : Tri Ideal} (hx : x.clear = x)
    {B : Finset ℕ} (hB : ∀ c ∈ B, c ≤ b') (hB' : b' ∈ B) (h : T3 X (fun n => n) (fun _ => 0#32) (Seen B l) x (lane l)) {u u' : IVec S16 32}
    (hu : u (lane l) = BitVec.ofNat 32 b) (hu' : u' (lane l) = BitVec.ofNat 32 b') :
    T3 X (fun n => n) (fun _ => 0#32) (Seen (insert b B) l) (scanF (F := Ideal) (.some (cmpi .ne u u')) X (BitVec.ofNat 32 b) x 32).1 (lane l) := by
  have hm : cmpi .ne u u' (lane l) = 1#1 ↔ b ≠ b' := by
    show IntOp.cmpi .ne (u (lane l)) (u' (lane l)) = 1#1 ↔ _
    rw [cmpi_ne_iff, hu, hu']
    exact not_congr ⟨fun e => ofNat_inj (by omega) (by omega) e, fun e => by rw [e]⟩
  by_cases e : b = b'
  · rw [e, Finset.insert_eq_of_mem hB']
    exact scan_off X _ l hx h (fun h => (hm.mp h) e) 32
  · rw [Seen_insert hb]
    refine scan_on X hX hb l hx h (fun n hn => ?_) (fun m hm' => ?_) 32
    · have := hB _ (mem_Seen.mp hn).2.1
      omega
    · cases hm'
      exact hm.mpr e

/-- The three pops after the last block give the three first of the row. -/
theorem row_three (hX : ∀ n, X n ≠ ⊥) : ∃ w0 w1 w2 : ℕ, Rk (key X fun n => n) (Finset.range 32768) 0 w0 ∧
    Rk (key X fun n => n) (Finset.range 32768) 1 w1 ∧ Rk (key X fun n => n) (Finset.range 32768) 2 w2 ∧
    (Lanes X (fun n => n) (fun _ => 0#32) (rowOut (F := Ideal) X).top fun _ => w0) ∧
    (Lanes X (fun n => n) (fun _ => 0#32) (rowOut (F := Ideal) X).pop.top fun _ => w1) ∧
    (Lanes X (fun n => n) (fun _ => 0#32) (rowOut (F := Ideal) X).pop.pop.top fun _ => w2) := by
  obtain ⟨b0, b1, b2, h01, h12, h2, hch, hin⟩ := chosen_spec X hX
  have hT : ∀ l : Fin 16, T3 X (fun n => n) (fun _ => 0#32) (Seen {b2, b1, b0} l) (rowOut (F := Ideal) X) (lane l) := by
    intro l
    have t0 : T3 X (fun n => n) (fun _ => 0#32) (Seen ∅ l) (Tri.none (F := Ideal)) (lane l) := by
      have : Seen ∅ l = ∅ := by ext n; simp [mem_Seen]
      rw [this]; exact T3.none _
    have t1 : T3 X (fun n => n) (fun _ => 0#32) (Seen {b0} l) (scan1 (F := Ideal) X) (lane l) := by
      rw [scan1, lane0_eq, (hch _).1, ← insert_empty_eq, Seen_insert (by omega)]
      exact scan_on X hX (by omega) l rfl t0 (fun n hn => by simp [mem_Seen] at hn) (fun m hm => by cases hm) 32
    have t2 : T3 X (fun n => n) (fun _ => 0#32) (Seen {b1, b0} l) (scan2 (F := Ideal) X) (lane l) := by
      rw [scan2, lane0_eq, (hch _).2.1]
      exact scan_block X hX (by omega) h01 l (scanF_clear _ _ _ _ _) (by simp) (by simp) t1 (hch _).2.1 (hch _).1
    rw [rowOut, lane0_eq, (hch _).2.2]
    exact scan_block X hX h2 h12 l (scanF_clear _ _ _ _ _) (by simpa using h01) (by simp) t2 (hch _).2.2 (hch _).2.1
  generalize rowOut (F := Ideal) X = y at hT ⊢
  have hap : Apart (fun n => n) fun l : Fin 16 => Seen {b2, b1, b0} l :=
    ⟨fun l l' n h h' => Fin.ext ((mem_Seen.mp h).2.2.symm.trans (mem_Seen.mp h').2.2), fun _ _ _ _ _ _ e => e,
      fun l n h => by have := (mem_Seen.mp h).1; omega⟩
  have hcard : ∀ l : Fin 16, 3 ≤ (Seen {b2, b1, b0} l).card := by
    intro l
    refine le_trans (by omega) ((Col_card (b := b0) (l := l.val) (n := 32)).symm.le.trans (Finset.card_le_card fun n hn => ?_))
    rw [mem_Col_all l.isLt] at hn
    exact mem_Seen.mpr ⟨by omega, by simp [hn.1], hn.2⟩
  obtain ⟨w0, w1, w2, r0, r1, r2, l0, l1, l2⟩ := three_pops hT hcard hap
  have hinj : Set.InjOn (key X fun n => n) (Finset.range 32768 : Finset ℕ) := key_inj (fun _ _ _ _ e => e)
  have hsub : allOf (fun l : Fin 16 => Seen {b2, b1, b0} l) ⊆ Finset.range 32768 := fun n hn => by
    obtain ⟨l, h⟩ := mem_allOf.mp hn
    exact Finset.mem_range.mpr (mem_Seen.mp h).1
  have hcl : ∀ i m, i < 3 → Rk (key X fun n => n) (Finset.range 32768) i m → m ∈ allOf (fun l : Fin 16 => Seen {b2, b1, b0} l) := by
    intro i m hi hm
    refine mem_allOf.mpr ⟨⟨m % 16, Nat.mod_lt _ (by decide)⟩, mem_Seen.mpr ⟨Finset.mem_range.mp hm.1, ?_, rfl⟩⟩
    rcases hin i m hi hm with h | h | h <;> simp [h]
  have hc : (Finset.range 32768).card = 32768 := Finset.card_range _
  exact ⟨w0, w1, w2, r0.of_subset 0 hinj hsub hcl (by omega) (by rw [hc]; omega), r1.of_subset 1 hinj hsub hcl (by omega) (by rw [hc]; omega),
    r2.of_subset 2 hinj hsub hcl (by omega) (by rw [hc]; omega), l0, l1, l2⟩

theorem putV_lane (k : BitVec 32) (v w : FVec Ideal S16 .f32) (l : Fin 16) :
    putV k v w (lane l) = if BitVec.ofNat 32 l.val = k then v (lane l) else w (lane l) := by
  show Scalar.select (IntOp.cmpi .eq (lanes (lane l)) k) (v (lane l)) (w (lane l)) = _
  rw [lanes_lane]
  unfold Scalar.select
  exact if_congr (cmpi_eq_iff _ _) rfl rfl

theorem putI_lane (k : BitVec 32) (v w : IVec S16 32) (l : Fin 16) :
    putI k v w (lane l) = if BitVec.ofNat 32 l.val = k then v (lane l) else w (lane l) := by
  show Scalar.select (IntOp.cmpi .eq (lanes (lane l)) k) (v (lane l)) (w (lane l)) = _
  rw [lanes_lane]
  unfold Scalar.select
  exact if_congr (cmpi_eq_iff _ _) rfl rfl

theorem outV_lanes {x : Tri Ideal} (hx : x.clear = x) : outV x (lane 0) = x.top.1 (lane 0) ∧ outV x (lane 1) = x.pop.top.1 (lane 1) ∧
    outV x (lane 2) = x.pop.pop.top.1 (lane 2) := by
  have hp := pop_clear hx
  have hpp := pop_clear hp
  unfold outV
  rw [pop0_eq hx, pop0_eq hp, top0_eq hx, top0_eq hp, top0_eq hpp]
  simp only [putV_lane]
  exact ⟨by rw [if_neg (by decide), if_neg (by decide), if_pos (by decide)], by rw [if_neg (by decide), if_pos (by decide)],
    by rw [if_pos (by decide)]⟩

theorem outI_lanes {x : Tri Ideal} (hx : x.clear = x) : outI x (lane 0) = x.top.2.1 (lane 0) ∧ outI x (lane 1) = x.pop.top.2.1 (lane 1) ∧
    outI x (lane 2) = x.pop.pop.top.2.1 (lane 2) := by
  have hp := pop_clear hx
  have hpp := pop_clear hp
  unfold outI
  rw [pop0_eq hx, pop0_eq hp, top0_eq hx, top0_eq hp, top0_eq hpp]
  simp only [putI_lane]
  exact ⟨by rw [if_neg (by decide), if_neg (by decide), if_pos (by decide)], by rw [if_neg (by decide), if_pos (by decide)],
    by rw [if_pos (by decide)]⟩

/-- What a tile leaves of a row: the three first of the row, one after another. -/
theorem row_spec (hX : ∀ n, X n ≠ ⊥) : ∃ w0 w1 w2 : ℕ, Rk (key X fun n => n) (Finset.range 32768) 0 w0 ∧
    Rk (key X fun n => n) (Finset.range 32768) 1 w1 ∧ Rk (key X fun n => n) (Finset.range 32768) 2 w2 ∧
    (outV (rowOut (F := Ideal) X) (lane 0) = X w0 ∧ outV (rowOut (F := Ideal) X) (lane 1) = X w1 ∧ outV (rowOut (F := Ideal) X) (lane 2) = X w2) ∧
    outI (rowOut (F := Ideal) X) (lane 0) = BitVec.ofNat 32 w0 ∧ outI (rowOut (F := Ideal) X) (lane 1) = BitVec.ofNat 32 w1 ∧
      outI (rowOut (F := Ideal) X) (lane 2) = BitVec.ofNat 32 w2 := by
  obtain ⟨w0, w1, w2, r0, r1, r2, l0, l1, l2⟩ := row_three X hX
  have hclear : (rowOut (F := Ideal) X).clear = rowOut (F := Ideal) X := scanF_clear _ _ _ _ _
  generalize rowOut (F := Ideal) X = y at hclear l0 l1 l2 ⊢
  obtain ⟨v0, v1, v2⟩ := outV_lanes hclear
  obtain ⟨i0, i1, i2⟩ := outI_lanes hclear
  exact ⟨w0, w1, w2, r0, r1, r2, ⟨v0.trans (l0 0).1, v1.trans (l1 1).1, v2.trans (l2 2).1⟩, i0.trans (l0 0).2.1, i1.trans (l1 1).2.1,
    i2.trans (l2 2).2.1⟩

end scan

end Cert.Proof

end
-- ==== Proof.TcRow.lean ====
module

public import proofs.«01_k».proof.Proof.ScScan
public import proofs.«01_k».proof.Proof.TcRegion

/-! # The three rounds of the pipelined call on a row -/

@[expose] public section

noncomputable section

namespace Cert.Proof

open Cert.KernelIdeal Cert.KernelIdeal.Gen Idealize.ShloMosaic Idealize.SL.Sem

section fold

/-- A fold by an operation that takes the smaller of two values gives the smallest. -/
theorem fold_spec {α β ι : Type} [LinearOrder β] (μ : α → β) (op : α → α → α) [Std.Commutative op] [Std.Associative op]
    (hop : ∀ a b, (op a b = a ∨ op a b = b) ∧ μ (op a b) ≤ μ a ∧ μ (op a b) ≤ μ b) (f : ι → α) (init : α) (s : Finset ι) :
    (s.fold op init f = init ∨ ∃ k ∈ s, s.fold op init f = f k) ∧ ∀ k ∈ s, μ (s.fold op init f) ≤ μ (f k) := by
  classical
  induction s using Finset.induction_on with
  | empty => exact ⟨.inl rfl, fun k hk => absurd hk (Finset.notMem_empty k)⟩
  | insert a s ha ih =>
    rw [Finset.fold_insert ha]
    obtain ⟨h1, h2, h3⟩ := hop (f a) (s.fold op init f)
    refine ⟨?_, fun k hk => ?_⟩
    · rcases h1 with e | e
      · exact .inr ⟨a, Finset.mem_insert_self a s, e⟩
      · rcases ih.1 with e' | ⟨k, hk, e'⟩
        · exact .inl (e.trans e')
        · exact .inr ⟨k, Finset.mem_insert_of_mem hk, e.trans e'⟩
    · rcases Finset.mem_insert.mp hk with rfl | hk
      · exact h2
      · exact h3.trans (ih.2 k hk)

end fold

section rows

/-- Row `r` of a block. -/
def rowOf (Y : FVec Ideal S16x32768 .f32) (r : Fin 16) : ℕ → EReal := fun n => Y (ix2 r ⟨n % 32768, Nat.mod_lt _ (Nat.zero_lt_succ _)⟩)

/-- The largest of every row. -/
def mx (Y : FVec Ideal S16x32768 .f32) : FVec Ideal S16x1 .f32 :=
  shapeCast S16x1 (multiReduction .maximumf [1] S16 Y 0xFF800000#32 reduces_S16x32768_S16 (.inl rfl) rfl) shapeCasts_S16_S16x1

/-- The positions of a row where it is largest, and a large number elsewhere. -/
def amSrc (Y : FVec Ideal S16x32768 .f32) : IVec S16x32768 32 :=
  select (cmpf .oeq Y (broadcastTo S16x32768 (mx Y) broadcasts_S16x1_S16x32768)) (iota .tc S16x32768 32 [1] iota_S16x32768_d1_w32)
    (broadcast S16x32768 1073741824#32)

/-- Where every row is largest first. -/
def am (Y : FVec Ideal S16x32768 .f32) : IVec S16x1 32 :=
  shapeCast S16x1 (multiReductionI .minsi [1] S16 (amSrc Y) 2147483647#32 reduces_S16x32768_S16 rfl) shapeCasts_S16_S16x1

/-- Minus infinity at the position given of every row. -/
def kill (Y : FVec Ideal S16x32768 .f32) (i : IVec S16x1 32) : FVec Ideal S16x32768 .f32 :=
  select (cmpi .eq (iota .tc S16x32768 32 [1] iota_S16x32768_d1_w32) (broadcastTo S16x32768 i broadcasts_S16x1_S16x32768))
    (broadcast S16x32768 (Scalar.ofBits .f32 0xFF800000#32)) Y

theorem lift_row (r : Fin 16) (k : Fin 32768) : reduces_S16x32768_S16.lift (ix1 r) k = ix2 r k := by
  funext d
  fin_cases d <;> rfl

theorem cast_row {α : Type} (v : S16.Idx → α) (r : Fin 16) : shapeCast S16x1 v shapeCasts_S16_S16x1 (ix2 r 0) = v (ix1 r) := by
  pointwise

theorem wide_row {α : Type} (v : S16x1.Idx → α) (r : Fin 16) (k : Fin 32768) :
    broadcastTo S16x32768 v broadcasts_S16x1_S16x32768 (ix2 r k) = v (ix2 r 0) := by
  pointwise

theorem iota_row (r : Fin 16) (k : Fin 32768) : iota .tc S16x32768 32 [1] iota_S16x32768_d1_w32 (ix2 r k) = BitVec.ofNat 32 k.val := by
  pointwise

/-- A row's largest value, and the first place it is found at. -/
theorem round_row (Y : FVec Ideal S16x32768 .f32) (r : Fin 16) : ∃ w, Rk (key (rowOf Y r) fun n => n) (Finset.range 32768) 0 w ∧
    mx Y (ix2 r 0) = rowOf Y r w ∧ am Y (ix2 r 0) = BitVec.ofNat 32 w := by
  classical
  have hY : ∀ k : Fin 32768, Y (ix2 r k) = rowOf Y r k.val := fun k => by
    refine congrArg Y ?_
    simp only [Nat.mod_eq_of_lt k.isLt]
  have hmx : mx Y (ix2 r 0) = (Finset.univ : Finset (Fin 32768)).fold (FloatOps.maximumf (F := Ideal) (φ := .f32)) (⊥ : EReal)
      fun k => rowOf Y r k.val := by
    unfold mx
    rw [cast_row]
    refine (multiReduction_maximumf_eq_fold _ _ _ _ _ _).trans ?_
    rw [Shape.Reduces.fold_filter_drop_single]
    have hinit : FloatOps.ofBits (F := Ideal) .f32 0xFF800000#32 = (⊥ : EReal) := negv_apply (lane 0)
    rw [hinit]
    exact congrArg (Finset.fold _ _ · _) (funext fun k => (congrArg Y (lift_row r k)).trans (hY k))
  have hM := fold_spec (α := EReal) (fun v => OrderDual.toDual v) (FloatOps.maximumf (F := Ideal) (φ := .f32))
    (fun a b => ⟨max_choice a b, le_max_left a b, le_max_right a b⟩) (fun k : Fin 32768 => rowOf Y r k.val) ⊥ (Finset.univ : Finset (Fin 32768))
  rw [← hmx] at hM
  have hle : ∀ k : Fin 32768, rowOf Y r k.val ≤ mx Y (ix2 r 0) := fun k =>
    OrderDual.toDual_le_toDual.mp (hM.2 k (Finset.mem_univ k))
  have hex : ∃ k : Fin 32768, rowOf Y r k.val = mx Y (ix2 r 0) := by
    rcases hM.1 with e | ⟨k, _, e⟩
    · exact ⟨0, le_antisymm (hle 0) (e ▸ bot_le)⟩
    · exact ⟨k, e.symm⟩
  have hsrc : ∀ k : Fin 32768, amSrc Y (ix2 r k) = if rowOf Y r k.val = mx Y (ix2 r 0) then BitVec.ofNat 32 k.val else 1073741824#32 := by
    intro k
    show Scalar.select (Ideal.cmp .oeq (Y (ix2 r k)) (broadcastTo S16x32768 (mx Y) broadcasts_S16x1_S16x32768 (ix2 r k)))
      (iota .tc S16x32768 32 [1] iota_S16x32768_d1_w32 (ix2 r k)) 1073741824#32 = _
    rw [wide_row, iota_row, hY]
    unfold Scalar.select
    refine if_congr ?_ rfl rfl
    simp only [Ideal.cmp]
    by_cases e : rowOf Y r k.val = mx Y (ix2 r 0) <;> simp [e]
  have ham : am Y (ix2 r 0) = (Finset.univ : Finset (Fin 32768)).fold IntOp.minsi 2147483647#32
      fun k => if rowOf Y r k.val = mx Y (ix2 r 0) then BitVec.ofNat 32 k.val else 1073741824#32 := by
    unfold am
    rw [cast_row]
    refine (multiReductionI_eq_fold _ _ _ _ _ _).trans ?_
    rw [Shape.Reduces.fold_filter_drop_single]
    exact congrArg (Finset.fold _ _ · _) (funext fun k => (congrArg (amSrc Y) (lift_row r k)).trans (hsrc k))
  have hW := fold_spec (fun v : BitVec 32 => v.toInt) IntOp.minsi (fun a b => by
      unfold IntOp.minsi
      rw [BitVec.slt_eq_decide]
      split
      · rename_i h
        simp only [decide_eq_true_eq] at h
        exact ⟨.inl rfl, le_refl _, h.le⟩
      · rename_i h
        simp only [decide_eq_true_eq, not_lt] at h
        exact ⟨.inr rfl, h, le_refl _⟩)
    (fun k : Fin 32768 => if rowOf Y r k.val = mx Y (ix2 r 0) then BitVec.ofNat 32 k.val else 1073741824#32) 2147483647#32 (Finset.univ : Finset (Fin 32768))
  rw [← ham] at hW
  have hint : ∀ k : Fin 32768, (BitVec.ofNat 32 k.val).toInt = k.val := by
    intro k
    have : (BitVec.ofNat 32 k.val).toNat = k.val := by rw [BitVec.toNat_ofNat]; omega
    rw [BitVec.toInt_eq_toNat_of_lt (by omega), this]
  have hleast : ∀ k : Fin 32768, rowOf Y r k.val = mx Y (ix2 r 0) → (am Y (ix2 r 0)).toInt ≤ k.val := by
    intro k hk
    have := hW.2 k (Finset.mem_univ k)
    rw [if_pos hk, hint] at this
    exact this
  obtain ⟨k0, hk0⟩ := hex
  have hsmall := hleast k0 hk0
  have hk0' := k0.isLt
  have hex2 : ∃ k : Fin 32768, rowOf Y r k.val = mx Y (ix2 r 0) ∧ am Y (ix2 r 0) = BitVec.ofNat 32 k.val := by
    rcases hW.1 with e | ⟨k, _, e⟩
    · rw [e] at hsmall
      have : (2147483647#32 : BitVec 32).toInt = 2147483647 := by decide
      omega
    · by_cases hk : rowOf Y r k.val = mx Y (ix2 r 0)
      · exact ⟨k, hk, by rw [e, if_pos hk]⟩
      · rw [e, if_neg hk] at hsmall
        have : (1073741824#32 : BitVec 32).toInt = 1073741824 := by decide
        omega
  obtain ⟨w, hw, hwi⟩ := hex2
  refine ⟨w.val, rk_zero.mpr ⟨Finset.mem_range.mpr w.isLt, fun m hm => not_lt.mp fun hlt => ?_⟩, hw.symm, hwi⟩
  have hm := Finset.mem_range.mp hm
  rcases key_lt.mp hlt with h | ⟨h1, h2⟩
  · rw [hw] at h
    exact absurd (hle ⟨m, hm⟩) (not_le.mpr h)
  · have := hleast ⟨m, hm⟩ (h1.trans hw)
    rw [hwi, hint] at this
    simp only at this h2
    omega

/-- A row with one position given minus infinity. -/
theorem kill_row (Y : FVec Ideal S16x32768 .f32) (i : IVec S16x1 32) (r : Fin 16) {w : ℕ} (hw : w < 32768) (hi : i (ix2 r 0) = BitVec.ofNat 32 w)
    {n : ℕ} (hn : n < 32768) : rowOf (kill Y i) r n = if n = w then ⊥ else rowOf Y r n := by
  show Scalar.select (IntOp.cmpi .eq (iota .tc S16x32768 32 [1] iota_S16x32768_d1_w32 (ix2 r _))
    (broadcastTo S16x32768 i broadcasts_S16x1_S16x32768 (ix2 r _))) (Ideal.ofBits .f32 0xFF800000#32) (rowOf Y r n) = _
  rw [wide_row, iota_row, hi]
  unfold Scalar.select
  refine if_congr ((cmpi_eq_iff _ _).trans ?_) (negv_apply (lane 0)) rfl
  rw [show (⟨n % 32768, Nat.mod_lt _ (Nat.zero_lt_succ _)⟩ : Fin 32768).val = n from Nat.mod_eq_of_lt hn]
  exact ⟨fun e => ofNat_inj (by omega) (by omega) e, fun e => by rw [e]⟩

/-- The first of a row with minus infinity outside `S` is the first of `S`. -/
theorem rk_of_killed {X Z : ℕ → EReal} {N : ℕ} {S : Finset ℕ} (hX : ∀ n, X n ≠ ⊥) (hS : S ⊆ Finset.range N) (hne : S.Nonempty)
    (h1 : ∀ n ∈ S, Z n = X n) (h2 : ∀ n < N, n ∉ S → Z n = ⊥) {w : ℕ} (h : Rk (key Z fun n => n) (Finset.range N) 0 w) :
    Rk (key X fun n => n) S 0 w := by
  have hmin := (rk_zero.mp h).2
  have hwS : w ∈ S := by
    by_contra hw
    obtain ⟨s, hs⟩ := hne
    refine absurd (hmin s (hS hs)) (not_le.mpr (key_lt.mpr (.inl ?_)))
    rw [h2 w (Finset.mem_range.mp h.1) hw, h1 s hs]
    exact bot_lt_iff_ne_bot.mpr (hX s)
  refine rk_zero.mpr ⟨hwS, fun m hm => ?_⟩
  have := hmin m (hS hm)
  unfold key at this ⊢
  rw [h1 m hm, h1 w hwS] at this
  exact this

/-- Three rounds on a block of rows: the three first of every row. -/
theorem rounds_row (Y : FVec Ideal S16x32768 .f32) (r : Fin 16) (hY : ∀ n, rowOf Y r n ≠ ⊥) :
    ∃ w0 w1 w2, Rk (key (rowOf Y r) fun n => n) (Finset.range 32768) 0 w0 ∧ Rk (key (rowOf Y r) fun n => n) (Finset.range 32768) 1 w1 ∧
      Rk (key (rowOf Y r) fun n => n) (Finset.range 32768) 2 w2 ∧
      (mx Y (ix2 r 0) = rowOf Y r w0 ∧ am Y (ix2 r 0) = BitVec.ofNat 32 w0) ∧
      (mx (kill Y (am Y)) (ix2 r 0) = rowOf Y r w1 ∧ am (kill Y (am Y)) (ix2 r 0) = BitVec.ofNat 32 w1) ∧
      mx (kill (kill Y (am Y)) (am (kill Y (am Y)))) (ix2 r 0) = rowOf Y r w2 ∧
        am (kill (kill Y (am Y)) (am (kill Y (am Y)))) (ix2 r 0) = BitVec.ofNat 32 w2 := by
  have hinj : Set.InjOn (key (rowOf Y r) fun n => n) (Finset.range 32768 : Finset ℕ) := key_inj fun _ _ _ _ e => e
  obtain ⟨w0, r0, m0, a0⟩ := round_row Y r
  obtain ⟨w1, r1, m1, a1⟩ := round_row (kill Y (am Y)) r
  obtain ⟨w2, r2, m2, a2⟩ := round_row (kill (kill Y (am Y)) (am (kill Y (am Y)))) r
  have b0 := Finset.mem_range.mp r0.1
  have b1 := Finset.mem_range.mp r1.1
  have k1 := fun (n : ℕ) (hn : n < 32768) => kill_row Y (am Y) r b0 a0 hn
  have k2 := fun (n : ℕ) (hn : n < 32768) => kill_row (kill Y (am Y)) (am (kill Y (am Y))) r b1 a1 hn
  have c0 : ((Finset.range 32768).erase w0).card = 32767 := by
    rw [Finset.card_erase_of_mem r0.1, Finset.card_range]
  have s1 : Rk (key (rowOf Y r) fun n => n) ((Finset.range 32768).erase w0) 0 w1 := by
    refine rk_of_killed hY (Finset.erase_subset _ _) (Finset.card_pos.mp (by rw [c0]; omega)) (fun n hn => ?_) (fun n hn hnS => ?_) r1
    · rw [k1 n (Finset.mem_range.mp (Finset.mem_of_mem_erase hn)), if_neg (Finset.ne_of_mem_erase hn)]
    · rw [k1 n hn, if_pos]
      by_contra hne
      exact hnS (Finset.mem_erase.mpr ⟨hne, Finset.mem_range.mpr hn⟩)
  have c1 : (((Finset.range 32768).erase w0).erase w1).card = 32766 := by
    rw [Finset.card_erase_of_mem s1.1, c0]
  have s2 : Rk (key (rowOf Y r) fun n => n) (((Finset.range 32768).erase w0).erase w1) 0 w2 := by
    refine rk_of_killed hY ((Finset.erase_subset _ _).trans (Finset.erase_subset _ _)) (Finset.card_pos.mp (by rw [c1]; omega))
      (fun n hn => ?_) (fun n hn hnS => ?_) r2
    · have hn' := Finset.mem_of_mem_erase hn
      have hn32 := Finset.mem_range.mp (Finset.mem_of_mem_erase hn')
      rw [k2 n hn32, if_neg (Finset.ne_of_mem_erase hn), k1 n hn32, if_neg (Finset.ne_of_mem_erase hn')]
    · rw [k2 n hn]
      split
      · rfl
      · rename_i h
        rw [k1 n hn, if_pos]
        by_contra hne
        exact hnS (Finset.mem_erase.mpr ⟨h, Finset.mem_erase.mpr ⟨hne, Finset.mem_range.mpr hn⟩⟩)
  have b2 := Finset.mem_range.mp r2.1
  have n10 : w1 ≠ w0 := Finset.ne_of_mem_erase s1.1
  have n21 : w2 ≠ w1 := Finset.ne_of_mem_erase s2.1
  have n20 : w2 ≠ w0 := Finset.ne_of_mem_erase (Finset.mem_of_mem_erase s2.1)
  have t1 := r0.push hinj s1
  have t2 := r0.push hinj (s1.push (hinj.mono (by simp)) s2)
  refine ⟨w0, w1, w2, r0, t1, t2, ⟨m0, a0⟩, ⟨?_, a1⟩, ?_, a2⟩
  · rw [m1, k1 w1 b1, if_neg n10]
  · rw [m2, k2 w2 b2, if_neg n21, k1 w2 b2, if_neg n20]

/-! ### The columns the results stand in -/

theorem col_iota (r : Fin 16) (c : Fin 8) : iota .tc S16x8 32 [1] iota_S16x8_d1_w32 (ix2 r c) = BitVec.ofNat 32 c.val := by
  pointwise

theorem col_row {α : Type} (v : S16x1.Idx → α) (r : Fin 16) (c : Fin 8) :
    broadcastTo S16x8 (shapeCast S16x1 v shapeCasts_S16x1_S16x1) broadcasts_S16x1_S16x8 (ix2 r c) = v (ix2 r 0) := by
  pointwise

theorem col_sel {α : Type} (k : BitVec 32) (u v : S16x8.Idx → α) (r : Fin 16) (c : Fin 8) :
    select (cmpi .eq (iota .tc S16x8 32 [1] iota_S16x8_d1_w32) (broadcast S16x8 k)) u v (ix2 r c) =
      if BitVec.ofNat 32 c.val = k then u (ix2 r c) else v (ix2 r c) := by
  show Scalar.select (IntOp.cmpi .eq (iota .tc S16x8 32 [1] iota_S16x8_d1_w32 (ix2 r c)) k) _ _ = _
  rw [col_iota]
  unfold Scalar.select
  exact if_congr (cmpi_eq_iff _ _) rfl rfl

/-- What the three columns of a block hold. -/
theorem tcPay_row (Y : FVec Ideal S16x32768 .f32) (r : Fin 16) (hY : ∀ n, rowOf Y r n ≠ ⊥) (k : Fin 3) :
    ∃ w, Rk (key (rowOf Y r) fun n => n) (Finset.range 32768) k.val w ∧
      tcPayV (F := Ideal) Y (ix2 r ⟨k.val, by omega⟩) = rowOf Y r w ∧ tcPayI (F := Ideal) Y (ix2 r ⟨k.val, by omega⟩) = BitVec.ofNat 32 w := by
  obtain ⟨w0, w1, w2, r0, r1, r2, ⟨m0, a0⟩, ⟨m1, a1⟩, m2, a2⟩ := rounds_row Y r hY
  have hV : ∀ c : Fin 8, tcPayV (F := Ideal) Y (ix2 r c) = if BitVec.ofNat 32 c.val = 2#32 then rowOf Y r w2 else
      if BitVec.ofNat 32 c.val = 1#32 then rowOf Y r w1 else if BitVec.ofNat 32 c.val = 0#32 then rowOf Y r w0 else
        (broadcast S16x8 (Scalar.ofBits (F := Ideal) .f32 0x00000000#32) : FVec Ideal S16x8 .f32) (ix2 r c) := by
    intro c
    rw [← m0, ← m1, ← m2]
    refine (col_sel 2#32 _ _ r c).trans (if_congr Iff.rfl (col_row _ r c) ?_)
    refine (col_sel 1#32 _ _ r c).trans (if_congr Iff.rfl (col_row _ r c) ?_)
    exact (col_sel 0#32 _ _ r c).trans (if_congr Iff.rfl (col_row _ r c) rfl)
  have hI : ∀ c : Fin 8, tcPayI (F := Ideal) Y (ix2 r c) = if BitVec.ofNat 32 c.val = 2#32 then BitVec.ofNat 32 w2 else
      if BitVec.ofNat 32 c.val = 1#32 then BitVec.ofNat 32 w1 else if BitVec.ofNat 32 c.val = 0#32 then BitVec.ofNat 32 w0 else 0#32 := by
    intro c
    rw [← a0, ← a1, ← a2]
    refine (col_sel 2#32 _ _ r c).trans (if_congr Iff.rfl (col_row _ r c) ?_)
    refine (col_sel 1#32 _ _ r c).trans (if_congr Iff.rfl (col_row _ r c) ?_)
    exact (col_sel 0#32 _ _ r c).trans (if_congr Iff.rfl (col_row _ r c) rfl)
  rw [hV, hI]
  fin_cases k
  · exact ⟨w0, r0, rfl, rfl⟩
  · exact ⟨w1, r1, rfl, rfl⟩
  · exact ⟨w2, r2, rfl, rfl⟩

end rows

end Cert.Proof

end
-- ==== Proof.RefTop.lean ====
module

public import proofs.«01_k».proof.Proof.ScScan
public import proofs.«01_k».proof.Proof.TileBody
public import Idealize.ShloMosaic.Lib.SortFacts

/-! # The three first of a row, as the reference sorts them -/

@[expose] public section

noncomputable section

namespace Cert.Proof

open Cert.KernelIdeal Cert.KernelIdeal.Gen Idealize.ShloMosaic Idealize.SL.Sem

section sort

/-- Inserting into a sorted list an element that its comparison places by key keeps it sorted. -/
theorem insert_sorted {ι K : Type} [LinearOrder K] (before : ι → ι → Bool) (e : ι → K) (a : ι) (l : List ι)
    (hl : l.Pairwise fun b c => e b < e c) (h : ∀ b ∈ l, (before b a = true → e b < e a) ∧ (before b a = false → e a < e b)) :
    (insertBefore before a l).Pairwise fun b c => e b < e c := by
  induction l with
  | nil => exact List.pairwise_singleton _ _
  | cons b l ih =>
    rw [List.pairwise_cons] at hl
    have hb := h b List.mem_cons_self
    unfold insertBefore
    split
    · rename_i hba
      refine List.pairwise_cons.mpr ⟨fun c hc => ?_, ih hl.2 fun c hc => h c (List.mem_cons_of_mem b hc)⟩
      rcases List.mem_cons.mp ((perm_insertBefore before a l).mem_iff.mp hc) with rfl | hc
      · exact hb.1 hba
      · exact hl.1 c hc
    · rename_i hba
      have hab := hb.2 (by simpa using hba)
      refine List.pairwise_cons.mpr ⟨fun c hc => ?_, List.pairwise_cons.mpr hl⟩
      rcases List.mem_cons.mp hc with rfl | hc
      · exact hab
      · exact hab.trans (hl.1 c hc)

/-- The stable sort is sorted by a key that refines its comparison by the order of the list. -/
theorem sort_sorted {ι K : Type} [LinearOrder K] (before : ι → ι → Bool) (e : ι → K) (l : List ι)
    (h : l.Pairwise fun a b => (before b a = true → e b < e a) ∧ (before b a = false → e a < e b)) :
    (stableSort before l).Pairwise fun b c => e b < e c := by
  induction l with
  | nil => exact List.Pairwise.nil
  | cons a l ih =>
    rw [List.pairwise_cons] at h
    unfold stableSort
    exact insert_sorted before e a _ (ih h.2) fun b hb => h.1 b ((perm_stableSort before l).mem_iff.mp hb)

/-- The position that a stable sort puts at `k` has rank `k`. -/
theorem sortedFrom_rk {n : ℕ} (X : ℕ → EReal) (before : Fin n → Fin n → Bool)
    (hb : ∀ i j, before i j = true ↔ X j.val < X i.val) (k : Fin n) :
    Rk (key X fun m => m) (Finset.range n) k.val (sortedFrom before k).val := by
  have hsorted : (sortPositions n before).Pairwise fun b c => key X (fun m => m) b.val < key X (fun m => m) c.val := by
    refine sort_sorted before (fun i : Fin n => key X (fun m => m) i.val) _ ?_
    refine (List.pairwise_lt_finRange n).imp fun {a b} hab => ⟨fun h => key_lt.mpr (.inl ((hb b a).mp h)), fun h => key_lt.mpr ?_⟩
    have hle : X b.val ≤ X a.val := not_lt.mp fun hlt => by rw [(hb b a).mpr hlt] at h; cases h
    rcases lt_or_eq_of_le hle with hlt | heq
    · exact .inl hlt
    · exact .inr ⟨heq.symm, hab⟩
  have hmono : ∀ i j : Fin n, i < j → key X (fun m => m) (sortedFrom before i).val < key X (fun m => m) (sortedFrom before j).val := by
    intro i j hij
    exact List.pairwise_iff_get.mp hsorted _ _ (by simpa using hij)
  refine ⟨Finset.mem_range.mpr (sortedFrom before k).isLt, ?_⟩
  have himg : ((Finset.range n).filter fun m => key X (fun m => m) m < key X (fun m => m) (sortedFrom before k).val) =
      (Finset.univ.filter fun i : Fin n => i < k).image fun i => (sortedFrom before i).val := by
    ext m
    simp only [Finset.mem_filter, Finset.mem_range, Finset.mem_image, Finset.mem_univ, true_and]
    constructor
    · rintro ⟨hm, hlt⟩
      obtain ⟨i, hi⟩ := sortedFrom_surjective before ⟨m, hm⟩
      refine ⟨i, ?_, by rw [hi]⟩
      rcases lt_trichotomy i k with h | h | h
      · exact h
      · subst h
        rw [hi] at hlt
        exact absurd hlt (lt_irrefl _)
      · have := hmono k i h
        rw [hi] at this
        exact absurd (hlt.trans this) (lt_irrefl _)
    · rintro ⟨i, hi, rfl⟩
      exact ⟨(sortedFrom before i).isLt, hmono i k hi⟩
  rw [himg, Finset.card_image_of_injective _ fun i j e => sortedFrom_injective before (Fin.ext e)]
  have : (Finset.univ.filter fun i : Fin n => i < k) = Finset.Iio k := by ext i; simp
  rw [this, Fin.card_Iio]

end sort

/-- The position along a row, as a word. -/
theorem iota_at (R : Fin 128) (p : Fin 32768) : iotaInDim S128x32768 32 ⟨1, by decide⟩ (ix2 R p) = BitVec.ofNat 32 p.val := by
  unfold iotaInDim
  exact congrArg (BitVec.ofNat 32) rfl

/-- The reference's results, read off the sort of a row. -/
theorem topK_at (x : FVec Ideal S128x32768 .f32) (h : S128x32768.Slices (fun _ => 0) S128x3) (R : Fin 128) (k : Fin 3) :
    (Host.topK S128x3 1 (FloatOps.cmpfTotal (F := Ideal) .gt) x h).1 (ix2 R k) =
      x (ix2 R (sortedFrom (fun i j : Fin 32768 => FloatOps.cmpfTotal (F := Ideal) (φ := .f32) .gt (x (ix2 R i)) (x (ix2 R j)) == 1#1) (⟨k.val, by omega⟩ : Fin 32768))) ∧
    (Host.topK S128x3 1 (FloatOps.cmpfTotal (F := Ideal) .gt) x h).2 (ix2 R k) =
      BitVec.ofNat 32 (sortedFrom (fun i j : Fin 32768 => FloatOps.cmpfTotal (F := Ideal) (φ := .f32) .gt (x (ix2 R i)) (x (ix2 R j)) == 1#1) (⟨k.val, by omega⟩ : Fin 32768)).val := by
  have halong : ∀ i : Fin 32768, Shape.Idx.along (s := S128x32768) (ix2 R (⟨k.val, by omega⟩ : Fin 32768)) 1 i = ix2 R i := by
    intro i
    funext d
    fin_cases d <;> rfl
  have hat : ∀ a : Fin S128x32768.rank, ((ix2 R (⟨k.val, by omega⟩ : Fin 32768) : S128x32768.Idx) a).val = 0 + ((ix2 R k : S128x3.Idx) (a.cast h.1.symm)).val := by
    intro a
    fin_cases a <;> simp
  constructor
  · dsimp only [Host.topK]
    rw [extractStridedSlice_apply _ _ _ _ _ hat]
    unfold Host.sort2
    rw [dif_pos (by decide : 1 < S128x32768.rank)]
    show x (Shape.Idx.along (s := S128x32768) (ix2 R (⟨k.val, by omega⟩ : Fin 32768)) 1 (sortedFrom (fun i j : Fin 32768 => FloatOps.cmpfTotal (F := Ideal) (φ := .f32) .gt
      (x (Shape.Idx.along (s := S128x32768) (ix2 R (⟨k.val, by omega⟩ : Fin 32768)) 1 i)) (x (Shape.Idx.along (s := S128x32768) (ix2 R (⟨k.val, by omega⟩ : Fin 32768)) 1 j)) == 1#1) (⟨k.val, by omega⟩ : Fin 32768))) = _
    simp only [halong]
    exact congrArg x (halong _)
  · dsimp only [Host.topK]
    rw [extractStridedSlice_apply _ _ _ _ _ hat]
    unfold Host.sort2
    rw [dif_pos (by decide : 1 < S128x32768.rank)]
    show (if hd : 1 < S128x32768.rank then iotaInDim S128x32768 32 ⟨1, hd⟩ (Shape.Idx.along (s := S128x32768) (ix2 R (⟨k.val, by omega⟩ : Fin 32768)) 1 (sortedFrom (fun i j : Fin 32768 => FloatOps.cmpfTotal (F := Ideal) (φ := .f32) .gt
      (x (Shape.Idx.along (s := S128x32768) (ix2 R (⟨k.val, by omega⟩ : Fin 32768)) 1 i)) (x (Shape.Idx.along (s := S128x32768) (ix2 R (⟨k.val, by omega⟩ : Fin 32768)) 1 j)) == 1#1) (⟨k.val, by omega⟩ : Fin 32768))) else 0#32) = _
    rw [dif_pos (by decide : 1 < S128x32768.rank)]
    simp only [halong]
    exact (congrArg (iotaInDim S128x32768 32 ⟨1, by decide⟩) (halong _)).trans (iota_at R _)

/-- The reference's results: at entry `k` of a row, the element of rank `k`. -/
theorem top_spec (x : FVec Ideal S128x32768 .f32) (h : S128x32768.Slices (fun _ => 0) S128x3) (R : Fin 128) (k : Fin 3) :
    ∃ w, Rk (key (rowAt (F := Ideal) x R.val) fun n => n) (Finset.range 32768) k.val w ∧
      (Host.topK S128x3 1 (FloatOps.cmpfTotal (F := Ideal) .gt) x h).1 (ix2 R k) = rowAt (F := Ideal) x R.val w ∧
      (Host.topK S128x3 1 (FloatOps.cmpfTotal (F := Ideal) .gt) x h).2 (ix2 R k) = BitVec.ofNat 32 w := by
  have hrow : ∀ i : Fin 32768, rowAt (F := Ideal) x R.val i.val = x (ix2 R i) := by
    intro i
    refine congrArg x ?_
    have e1 : R.val % 128 = R.val := Nat.mod_eq_of_lt R.isLt
    have e2 : i.val % 32768 = i.val := Nat.mod_eq_of_lt i.isLt
    simp only [e1, e2]
  let before : Fin 32768 → Fin 32768 → Bool := fun i j => FloatOps.cmpfTotal (F := Ideal) (φ := .f32) .gt (x (ix2 R i)) (x (ix2 R j)) == 1#1
  have hb : ∀ i j, before i j = true ↔ rowAt (F := Ideal) x R.val j.val < rowAt (F := Ideal) x R.val i.val := by
    intro i j
    rw [hrow, hrow]
    show (Ideal.cmp .ogt (x (ix2 R i)) (x (ix2 R j)) == 1#1) = true ↔ _
    simp only [Ideal.cmp]
    by_cases e : x (ix2 R j) < x (ix2 R i) <;> simp [e]
  have hk := sortedFrom_rk (rowAt (F := Ideal) x R.val) before hb ⟨k.val, by omega⟩
  obtain ⟨hv, hi⟩ := topK_at x h R k
  refine ⟨_, hk, ?_, ?_⟩
  · rw [hv, hrow]
  · rw [hi]

end Cert.Proof

end
-- ==== Proof.Value.lean ====
module

public import proofs.«01_k».proof.Proof.Run
public import proofs.«01_k».proof.Proof.TcRow
public import proofs.«01_k».proof.Proof.RefTop
public import proofs.«01_k».proof.Pre_above
public import Idealize.ShloMosaic.Lib.ReduceAll
public import Idealize.ShloMosaic.Lib.Pipeline.Value

/-! # The results are those of the reference -/

@[expose] public section

noncomputable section

namespace Cert.Proof

open Cert.KernelIdeal Cert.KernelIdeal.Gen Idealize.ShloMosaic Idealize.SL.Sem

/-! ### Where a row of the results comes from -/

section parts
variable {α : Type}

/-- A row of the first half of the results. -/
theorem cat_lo (u v : S64x3.Idx → α) (h : Shape.Concatenates [S64x3, S64x3] S128x3 0) (R : Fin 128) (k : Fin 3) (hR : R.val < 64) :
    concatenate S128x3 0 [⟨S64x3, u⟩, ⟨S64x3, v⟩] h (ix2 R k) = u (ix2 ⟨R.val, hR⟩ k) := by
  refine concatenate_pair_apply_left (t := S128x3) (s₁ := S64x3) (s₂ := S64x3) 0 u v h (ix2 R k) rfl (ix2 ⟨R.val, hR⟩ k) fun b => ?_
  fin_cases b <;> rfl

/-- A row of the second half of the results. -/
theorem cat_hi (u v : S64x3.Idx → α) (h : Shape.Concatenates [S64x3, S64x3] S128x3 0) (R : Fin 128) (k : Fin 3) (hR : 64 ≤ R.val) :
    concatenate S128x3 0 [⟨S64x3, u⟩, ⟨S64x3, v⟩] h (ix2 R k) = v (ix2 ⟨R.val - 64, by omega⟩ k) := by
  refine concatenate_pair_apply_right (t := S128x3) (s₁ := S64x3) (s₂ := S64x3) 0 u v h (ix2 R k) rfl rfl (ix2 ⟨R.val - 64, by omega⟩ k)
    (fun b hb => ?_) ?_
  · fin_cases b
    · exact absurd rfl hb
    · rfl
  · exact Nat.sub_add_cancel hR

/-- Three columns of eight. -/
theorem cut_8 (t : S64x8.Idx → α) (r : Fin 64) (k : Fin 3) :
    extractStridedSlice S64x3 ![0, 0] t slices_S64x8_S64x3_0_0 (ix2 r k) = t (ix2 r ⟨k.val, by omega⟩) := by
  refine extractStridedSlice_apply _ _ _ _ (ix2 r ⟨k.val, by omega⟩) fun a => ?_
  fin_cases a <;> simp

/-- Three columns of sixteen. -/
theorem cut_16 (t : S64x16.Idx → α) (r : Fin 64) (k : Fin 3) :
    extractStridedSlice S64x3 ![0, 0] t slices_S64x16_S64x3_0_0 (ix2 r k) = t (ix2 r ⟨k.val, by omega⟩) := by
  refine extractStridedSlice_apply _ _ _ _ (ix2 r ⟨k.val, by omega⟩) fun a => ?_
  fin_cases a <;> simp

end parts

/-- A row of a block is a row of the argument. -/
theorem rowOf_xBlk (x : FVec Ideal S128x32768 .f32) (R : ℕ) : rowOf (xBlk x (R / 16)) ⟨R % 16, Nat.mod_lt _ (by decide)⟩ = rowAt x R := by
  funext n
  unfold rowOf xBlk rowAt
  refine congrArg x ?_
  have e : (R / 16 * 16 + R % 16) % 128 = R % 128 := by omega
  exact congrArg (fun q : Fin 128 => (ix2 q (⟨n % 32768, _⟩ : Fin 32768) : S128x32768.Idx)) (Fin.ext e)

/-! ### The results, row by row -/

/-- Each result names the rank of its column in its row. -/
theorem res_row (x : FVec Ideal S128x32768 .f32) (hx : ∀ i, x i ≠ ⊥) (R : Fin 128) (k : Fin 3) :
    ∃ w, Rk (key (rowAt x R.val) fun n => n) (Finset.range 32768) k.val w ∧
      resV (F := Ideal) x (ix2 R k) = rowAt x R.val w ∧ resI (F := Ideal) x (ix2 R k) = BitVec.ofNat 32 w := by
  by_cases hR : R.val < 64
  · have hrow := rowOf_xBlk x R.val
    obtain ⟨w, hw, hv, hi⟩ := tcPay_row (xBlk x (R.val / 16)) ⟨R.val % 16, Nat.mod_lt _ (by decide)⟩ (fun n => hx _) k
    rw [hrow] at hw hv
    refine ⟨w, hw, ?_, ?_⟩
    · unfold resV
      rw [cat_lo _ _ _ R k hR, cut_8]
      exact hv
    · unfold resI
      rw [cat_lo _ _ _ R k hR, cut_8]
      exact hi
  · have hR' : 64 ≤ R.val := by omega
    have e64 : 64 + (R.val - 64) = R.val := by omega
    obtain ⟨w0, w1, w2, r0, r1, r2, ⟨v0, v1, v2⟩, i0, i1, i2⟩ := row_spec (rowAt x R.val) (fun n => hx _)
    have hV : ∀ c : Fin 16, scV (F := Ideal) x (ix2 ⟨R.val - 64, by omega⟩ c) = outV (rowOut (F := Ideal) (rowAt x R.val)) (lane c) := fun c =>
      congrArg (fun q => outV (rowOut (F := Ideal) (rowAt x q)) (lane c)) e64
    have hI : ∀ c : Fin 16, scI (F := Ideal) x (ix2 ⟨R.val - 64, by omega⟩ c) = outI (rowOut (F := Ideal) (rowAt x R.val)) (lane c) := fun c =>
      congrArg (fun q => outI (rowOut (F := Ideal) (rowAt x q)) (lane c)) e64
    unfold resV resI
    rw [cat_hi _ _ _ R k hR', cat_hi _ _ _ R k hR', cut_16, cut_16, hV, hI]
    fin_cases k
    · exact ⟨w0, r0, v0, i0⟩
    · exact ⟨w1, r1, v1, i1⟩
    · exact ⟨w2, r2, v2, i2⟩

/-- The kernel's results are the reference's, at an argument holding no minus infinity. -/
theorem res_eq (x : FVec Ideal S128x32768 .f32) (hx : ∀ i, x i ≠ ⊥) (h : S128x32768.Slices (fun _ => 0) S128x3) :
    resV (F := Ideal) x = (Host.topK S128x3 1 (FloatOps.cmpfTotal (F := Ideal) .gt) x h).1 ∧
      resI (F := Ideal) x = (Host.topK S128x3 1 (FloatOps.cmpfTotal (F := Ideal) .gt) x h).2 := by
  have at_ix : ∀ j : S128x3.Idx, ∃ (R : Fin 128) (k : Fin 3), j = ix2 R k := fun j => ⟨j 0, j 1, by funext d; fin_cases d <;> rfl⟩
  have both : ∀ (R : Fin 128) (k : Fin 3), resV (F := Ideal) x (ix2 R k) = (Host.topK S128x3 1 (FloatOps.cmpfTotal (F := Ideal) .gt) x h).1 (ix2 R k) ∧
      resI (F := Ideal) x (ix2 R k) = (Host.topK S128x3 1 (FloatOps.cmpfTotal (F := Ideal) .gt) x h).2 (ix2 R k) := by
    intro R k
    obtain ⟨w, hw, hv, hi⟩ := res_row x hx R k
    obtain ⟨w', hw', hv', hi'⟩ := top_spec x h R k
    have e := Rk.unique (key_inj fun _ _ _ _ e => e) hw hw'
    exact ⟨by rw [hv, hv', e], by rw [hi, hi', e]⟩
  constructor <;> funext j <;> obtain ⟨R, k, rfl⟩ := at_ix j
  · exact (both R k).1
  · exact (both R k).2

/-! ### The precondition -/

/-- What the precondition's text asks of its shapes. -/
theorem above_facts : Cert.Pre_above.Facts where
  bcast_S_S128x32768 := by decide
  reducesTo_S128x32768_S_d0_1 := by decide
  h_S_ := by decide

/-- An argument the precondition holds of has no minus infinity. -/
theorem ne_bot_of_above [Cert.Pre_above.Facts] (x : FVec Ideal S128x32768 .f32) (h : Cert.Pre_above.fn (F := Ideal) x = fun _ => 1#1)
    (i : S128x32768.Idx) : x i ≠ ⊥ := by
  haveI : Subsingleton Cert.Pre_above.S_.Idx := ⟨fun a b => funext fun d => d.elim0⟩
  have h0 := congrFun h (fun d => d.elim0)
  dsimp only [Cert.Pre_above.fn] at h0
  have e := Host.reduce_andi_all _ _ _ _ _ h0 i
  intro hb
  have e' : Ideal.cmp .ogt (x i) (Ideal.ofBits .f32 0xFF800000#32) = 1#1 := e
  rw [hb] at e'
  simp [Ideal.cmp, Ideal.ofBits, Ideal.ieee] at e'

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value

@[expose] public section

/-! # The claim

The kernel's frames come from its one run, at the two readings of the floats; its results over the
extended reals are the reference's by the three first of every row. -/

noncomputable section

namespace Cert.Proof

attribute [local instance] Cert.Kernel.Gen.facts Cert.KernelIdeal.Gen.facts Cert.ReferenceIdeal.Gen.facts above_facts

open Idealize.ShloMosaic Idealize.ShloMosaic.TcCoe Idealize.SL.Sem

variable {F : FTy → Type} [FloatOps F]

/-! ## The two programs have one text -/

theorem body_scv (c : Fin 2) (s : Fin 16) (ℓ : Fin 2) (a) : Cert.Kernel.defs₀ (F := F) (.scVector c s) ℓ a = Cert.KernelIdeal.defs₀ (F := F) (.scVector c s) ℓ a := by
  match ℓ, a with
  | 0, _ => rfl
  | 1, _ => rfl

theorem body_scs (c : Fin 2) (ℓ : Fin 2) (a) : Cert.Kernel.defs₀ (F := F) (.scScalar c) ℓ a = Cert.KernelIdeal.defs₀ (F := F) (.scScalar c) ℓ a := by
  match ℓ, a with
  | 0, _ => rfl
  | 1, _ => rfl

theorem body_tc (ℓ : Fin 2) (a) : Cert.Kernel.defs₀ (F := F) .tc ℓ a = Cert.KernelIdeal.defs₀ (F := F) .tc ℓ a := by
  match ℓ, a with
  | 0, _ => rfl
  | 1, _ => rfl

/-- The two programs' bodies are the same. -/
theorem bodies_eq : Cert.Kernel.defs₀ (F := F) = Cert.KernelIdeal.defs₀ (F := F) := by
  funext p ℓ a
  match p with
  | .tc => exact body_tc ℓ a
  | .scScalar c => exact body_scs c ℓ a
  | .scVector c s => exact body_scv c s ℓ a

/-- The two programs are the same. -/
theorem defs_eq : Cert.Kernel.defs (F := F) = Cert.KernelIdeal.defs (F := F) := congrArg (fun d => (Cert.KernelIdeal.sc (F := F)).defs (Pipeline.defs Cert.KernelIdeal.pcfgs d)) bodies_eq

/-! ## The frames -/

/-- The kernel runs, its argument unchanged, every semaphore back at zero. -/
theorem frame_kernel : @Cert.quiescent_Kernel Cert.Kernel.Gen.facts := fun m ρ _ => by
  have h : θ_run (Cert.KernelIdeal.defs (F := Bits)) (Cert.KernelIdeal.threads (F := Bits)) ⟨m, fun _ => 0, ρ⟩ (fun r =>
      (∀ c : Dev Cert.KernelIdeal.nD, r.2.mem (xLoc c) = m (xLoc c)) ∧ r.2.sem = fun _ => 0) :=
    (θ_run Cert.KernelIdeal.defs _ _).mono (fun _ h => ⟨fun c => (h.1 c).1, h.2⟩) (run_main (F := Bits) m ρ)
  show θ_run (Cert.Kernel.defs (F := Bits)) _ _ _
  rw [defs_eq]
  exact h

/-- The same over the extended reals. -/
theorem frame_kernelIdeal : @Cert.quiescent_KernelIdeal Cert.KernelIdeal.Gen.facts := fun m ρ _ =>
  (θ_run Cert.KernelIdeal.defs _ _).mono (fun _ h => ⟨fun c => (h.1 c).1, h.2⟩) (run_main (F := Ideal) m ρ)

/-- The reference runs, its argument unchanged; it declares no semaphore. -/
theorem frame_reference : @Cert.quiescent_ReferenceIdeal Cert.ReferenceIdeal.Gen.facts := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-! ## The values -/

/-- From an argument without minus infinity the kernel over the extended reals and the reference end with the same values and the
    same positions. -/
theorem values : Cert.algebraic_KernelIdeal_ReferenceIdeal_pre_above := fun m ρ m' ρ' habove harg => by
  have hr := fun c : Dev Cert.KernelIdeal.nD => res_eq (m (xLoc c)) (ne_bot_of_above (m (xLoc c)) (habove c))
    Cert.ReferenceIdeal.Gen.sliceFits_S128x32768_S128x3
  refine ⟨fun c => resV (F := Ideal) (m (xLoc c)), fun c => resI (F := Ideal) (m (xLoc c)), ?_, ?_⟩
  · exact (θ_run Cert.KernelIdeal.defs _ _).mono (fun _ h c => ⟨(h.1 c).2.1, (h.1 c).2.2, (h.1 c).1⟩) (run_main (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [harg c]
      exact (hr c).1.symm
    · rw [harg c]
      exact (hr c).2.symm

theorem claim : Cert.Claim := ⟨Cert.Kernel.Gen.facts, Cert.KernelIdeal.Gen.facts, Cert.ReferenceIdeal.Gen.facts, above_facts,
  frame_kernel, frame_kernelIdeal, fun m ρ _ => frame_kernelIdeal m ρ trivial, frame_reference,
  fun m ρ _ => frame_reference m ρ trivial, trivial, values⟩

end Cert.Proof

end
